-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_without_top_ties [hPre_finite_without_top_ties : Cert.Pre_finite_without_top_ties.Facts] (m : (ℓ : Loc Cert.AttnIdeal.nD Cert.AttnIdeal.τ Cert.AttnIdeal.sig) → Buf (Elt Ideal) ℓ) : Prop :=
  ∀ c : Dev Cert.AttnIdeal.nD,
    (Cert.Pre_finite_without_top_ties.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_without_top_ties [hPre_finite_without_top_ties : Cert.Pre_finite_without_top_ties.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_without_top_ties.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))) = (fun _ => 1#1)

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontRefIdeal (m : (ℓ : Loc Cert.FrontRefIdeal.nD Cert.FrontRefIdeal.τ Cert.FrontRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Whole (m : (ℓ : Loc Cert.Whole.nD Cert.Whole.τ Cert.Whole.sig) → Buf (Elt Bits) ℓ) : Prop :=
  True

def Pre_WholeIdeal (m : (ℓ : Loc Cert.WholeIdeal.nD Cert.WholeIdeal.τ Cert.WholeIdeal.sig) → Buf (Elt Ideal) ℓ) : Prop :=
  True

def Pre_WholeIdeal_whole_finite_without_top_ties [hPre_whole_finite_without_top_ties : Cert.Pre_whole_finite_without_top_ties.Facts] (m : (ℓ : Loc Cert.WholeIdeal.nD Cert.WholeIdeal.τ Cert.WholeIdeal.sig) → Buf (Elt Ideal) ℓ) : Prop :=
  ∀ c : Dev Cert.WholeIdeal.nD,
    (Cert.Pre_whole_finite_without_top_ties.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1)) (m ((c.tc : Thread Cert.WholeIdeal.nD Cert.WholeIdeal.τ).loc Cert.WholeIdeal.main_arg2)) (m ((c.tc : Thread Cert.WholeIdeal.nD Cert.WholeIdeal.τ).loc Cert.WholeIdeal.main_arg3)) (m ((c.tc : Thread Cert.WholeIdeal.nD Cert.WholeIdeal.τ).loc Cert.WholeIdeal.main_arg4)) (m ((c.tc : Thread Cert.WholeIdeal.nD Cert.WholeIdeal.τ).loc Cert.WholeIdeal.main_arg5)) (m ((c.tc : Thread Cert.WholeIdeal.nD Cert.WholeIdeal.τ).loc Cert.WholeIdeal.main_arg6)) (m ((c.tc : Thread Cert.WholeIdeal.nD Cert.WholeIdeal.τ).loc Cert.WholeIdeal.main_arg7)) (m ((c.tc : Thread Cert.WholeIdeal.nD Cert.WholeIdeal.τ).loc Cert.WholeIdeal.main_arg8)) (m ((c.tc : Thread Cert.WholeIdeal.nD Cert.WholeIdeal.τ).loc Cert.WholeIdeal.main_arg9)) (m ((c.tc : Thread Cert.WholeIdeal.nD Cert.WholeIdeal.τ).loc Cert.WholeIdeal.main_arg10)) (m ((c.tc : Thread Cert.WholeIdeal.nD Cert.WholeIdeal.τ).loc Cert.WholeIdeal.main_arg11)) (m ((c.tc : Thread Cert.WholeIdeal.nD Cert.WholeIdeal.τ).loc Cert.WholeIdeal.main_arg12)) (m ((c.tc : Thread Cert.WholeIdeal.nD Cert.WholeIdeal.τ).loc Cert.WholeIdeal.main_arg13)) (m ((c.tc : Thread Cert.WholeIdeal.nD Cert.WholeIdeal.τ).loc Cert.WholeIdeal.main_arg14)) (m ((c.tc : Thread Cert.WholeIdeal.nD Cert.WholeIdeal.τ).loc Cert.WholeIdeal.main_arg15)) (m ((c.tc : Thread Cert.WholeIdeal.nD Cert.WholeIdeal.τ).loc Cert.WholeIdeal.main_arg16)) (m ((c.tc : Thread Cert.WholeIdeal.nD Cert.WholeIdeal.τ).loc Cert.WholeIdeal.main_arg17)) (m ((c.tc : Thread Cert.WholeIdeal.nD Cert.WholeIdeal.τ).loc Cert.WholeIdeal.main_arg18))) = (fun _ => 1#1)

def Pre_WholeRefIdeal (m : (ℓ : Loc Cert.WholeRefIdeal.nD Cert.WholeRefIdeal.τ Cert.WholeRefIdeal.sig) → Buf (Elt Ideal) ℓ) : Prop :=
  True

def Pre_WholeRefIdeal_whole_finite_without_top_ties [hPre_whole_finite_without_top_ties : Cert.Pre_whole_finite_without_top_ties.Facts] (m : (ℓ : Loc Cert.WholeRefIdeal.nD Cert.WholeRefIdeal.τ Cert.WholeRefIdeal.sig) → Buf (Elt Ideal) ℓ) : Prop :=
  ∀ c : Dev Cert.WholeRefIdeal.nD,
    (Cert.Pre_whole_finite_without_top_ties.fn (F := Ideal) (m ((c.tc : Thread Cert.WholeRefIdeal.nD Cert.WholeRefIdeal.τ).loc Cert.WholeRefIdeal.main_arg0)) (m ((c.tc : Thread Cert.WholeRefIdeal.nD Cert.WholeRefIdeal.τ).loc Cert.WholeRefIdeal.main_arg1)) (m ((c.tc : Thread Cert.WholeRefIdeal.nD Cert.WholeRefIdeal.τ).loc Cert.WholeRefIdeal.main_arg2)) (m ((c.tc : Thread Cert.WholeRefIdeal.nD Cert.WholeRefIdeal.τ).loc Cert.WholeRefIdeal.main_arg3)) (m ((c.tc : Thread Cert.WholeRefIdeal.nD Cert.WholeRefIdeal.τ).loc Cert.WholeRefIdeal.main_arg4)) (m ((c.tc : Thread Cert.WholeRefIdeal.nD Cert.WholeRefIdeal.τ).loc Cert.WholeRefIdeal.main_arg5)) (m ((c.tc : Thread Cert.WholeRefIdeal.nD Cert.WholeRefIdeal.τ).loc Cert.WholeRefIdeal.main_arg6)) (m ((c.tc : Thread Cert.WholeRefIdeal.nD Cert.WholeRefIdeal.τ).loc Cert.WholeRefIdeal.main_arg7)) (m ((c.tc : Thread Cert.WholeRefIdeal.nD Cert.WholeRefIdeal.τ).loc Cert.WholeRefIdeal.main_arg8)) (m ((c.tc : Thread Cert.WholeRefIdeal.nD Cert.WholeRefIdeal.τ).loc Cert.WholeRefIdeal.main_arg9)) (m ((c.tc : Thread Cert.WholeRefIdeal.nD Cert.WholeRefIdeal.τ).loc Cert.WholeRefIdeal.main_arg10)) (m ((c.tc : Thread Cert.WholeRefIdeal.nD Cert.WholeRefIdeal.τ).loc Cert.WholeRefIdeal.main_arg11)) (m ((c.tc : Thread Cert.WholeRefIdeal.nD Cert.WholeRefIdeal.τ).loc Cert.WholeRefIdeal.main_arg12)) (m ((c.tc : Thread Cert.WholeRefIdeal.nD Cert.WholeRefIdeal.τ).loc Cert.WholeRefIdeal.main_arg13)) (m ((c.tc : Thread Cert.WholeRefIdeal.nD Cert.WholeRefIdeal.τ).loc Cert.WholeRefIdeal.main_arg14)) (m ((c.tc : Thread Cert.WholeRefIdeal.nD Cert.WholeRefIdeal.τ).loc Cert.WholeRefIdeal.main_arg15)) (m ((c.tc : Thread Cert.WholeRefIdeal.nD Cert.WholeRefIdeal.τ).loc Cert.WholeRefIdeal.main_arg16)) (m ((c.tc : Thread Cert.WholeRefIdeal.nD Cert.WholeRefIdeal.τ).loc Cert.WholeRefIdeal.main_arg17)) (m ((c.tc : Thread Cert.WholeRefIdeal.nD Cert.WholeRefIdeal.τ).loc Cert.WholeRefIdeal.main_arg18))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_finite_without_top_ties [hAttnIdeal : Cert.AttnIdeal.Facts] [hPre_finite_without_top_ties : Cert.Pre_finite_without_top_ties.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_without_top_ties m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_AttnRefIdeal_pre_finite_without_top_ties [hAttnRefIdeal : Cert.AttnRefIdeal.Facts] [hPre_finite_without_top_ties : Cert.Pre_finite_without_top_ties.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_without_top_ties m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6)
      ∧ r.2.mem ((c.tc : Thread Cert.Front.nD Cert.Front.τ).loc Cert.Front.main_arg7) = m ((c.tc : Thread Cert.Front.nD Cert.Front.τ).loc Cert.Front.main_arg7)
      ∧ r.2.mem ((c.tc : Thread Cert.Front.nD Cert.Front.τ).loc Cert.Front.main_arg8) = m ((c.tc : Thread Cert.Front.nD Cert.Front.τ).loc Cert.Front.main_arg8)
      ∧ r.2.mem ((c.tc : Thread Cert.Front.nD Cert.Front.τ).loc Cert.Front.main_arg9) = m ((c.tc : Thread Cert.Front.nD Cert.Front.τ).loc Cert.Front.main_arg9)
      ∧ r.2.mem ((c.tc : Thread Cert.Front.nD Cert.Front.τ).loc Cert.Front.main_arg10) = m ((c.tc : Thread Cert.Front.nD Cert.Front.τ).loc Cert.Front.main_arg10)
      ∧ r.2.mem ((c.tc : Thread Cert.Front.nD Cert.Front.τ).loc Cert.Front.main_arg11) = m ((c.tc : Thread Cert.Front.nD Cert.Front.τ).loc Cert.Front.main_arg11)
      ∧ r.2.mem ((c.tc : Thread Cert.Front.nD Cert.Front.τ).loc Cert.Front.main_arg12) = m ((c.tc : Thread Cert.Front.nD Cert.Front.τ).loc Cert.Front.main_arg12))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
      ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
      ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9)
      ∧ r.2.mem ((c.tc : Thread Cert.FrontIdeal.nD Cert.FrontIdeal.τ).loc Cert.FrontIdeal.main_arg10) = m ((c.tc : Thread Cert.FrontIdeal.nD Cert.FrontIdeal.τ).loc Cert.FrontIdeal.main_arg10)
      ∧ r.2.mem ((c.tc : Thread Cert.FrontIdeal.nD Cert.FrontIdeal.τ).loc Cert.FrontIdeal.main_arg11) = m ((c.tc : Thread Cert.FrontIdeal.nD Cert.FrontIdeal.τ).loc Cert.FrontIdeal.main_arg11)
      ∧ r.2.mem ((c.tc : Thread Cert.FrontIdeal.nD Cert.FrontIdeal.τ).loc Cert.FrontIdeal.main_arg12) = m ((c.tc : Thread Cert.FrontIdeal.nD Cert.FrontIdeal.τ).loc Cert.FrontIdeal.main_arg12))
      ∧ r.2.sem = fun _ => 0)

def quiescent_FrontRefIdeal [hFrontRefIdeal : Cert.FrontRefIdeal.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2)
      ∧ r.2.mem ((c.tc : Thread Cert.FrontRefIdeal.nD Cert.FrontRefIdeal.τ).loc Cert.FrontRefIdeal.main_arg3) = m ((c.tc : Thread Cert.FrontRefIdeal.nD Cert.FrontRefIdeal.τ).loc Cert.FrontRefIdeal.main_arg3)
      ∧ r.2.mem ((c.tc : Thread Cert.FrontRefIdeal.nD Cert.FrontRefIdeal.τ).loc Cert.FrontRefIdeal.main_arg4) = m ((c.tc : Thread Cert.FrontRefIdeal.nD Cert.FrontRefIdeal.τ).loc Cert.FrontRefIdeal.main_arg4)
      ∧ r.2.mem ((c.tc : Thread Cert.FrontRefIdeal.nD Cert.FrontRefIdeal.τ).loc Cert.FrontRefIdeal.main_arg5) = m ((c.tc : Thread Cert.FrontRefIdeal.nD Cert.FrontRefIdeal.τ).loc Cert.FrontRefIdeal.main_arg5)
      ∧ r.2.mem ((c.tc : Thread Cert.FrontRefIdeal.nD Cert.FrontRefIdeal.τ).loc Cert.FrontRefIdeal.main_arg6) = m ((c.tc : Thread Cert.FrontRefIdeal.nD Cert.FrontRefIdeal.τ).loc Cert.FrontRefIdeal.main_arg6)
      ∧ r.2.mem ((c.tc : Thread Cert.FrontRefIdeal.nD Cert.FrontRefIdeal.τ).loc Cert.FrontRefIdeal.main_arg7) = m ((c.tc : Thread Cert.FrontRefIdeal.nD Cert.FrontRefIdeal.τ).loc Cert.FrontRefIdeal.main_arg7)
      ∧ r.2.mem ((c.tc : Thread Cert.FrontRefIdeal.nD Cert.FrontRefIdeal.τ).loc Cert.FrontRefIdeal.main_arg8) = m ((c.tc : Thread Cert.FrontRefIdeal.nD Cert.FrontRefIdeal.τ).loc Cert.FrontRefIdeal.main_arg8)
      ∧ r.2.mem ((c.tc : Thread Cert.FrontRefIdeal.nD Cert.FrontRefIdeal.τ).loc Cert.FrontRefIdeal.main_arg9) = m ((c.tc : Thread Cert.FrontRefIdeal.nD Cert.FrontRefIdeal.τ).loc Cert.FrontRefIdeal.main_arg9)
      ∧ r.2.mem ((c.tc : Thread Cert.FrontRefIdeal.nD Cert.FrontRefIdeal.τ).loc Cert.FrontRefIdeal.main_arg10) = m ((c.tc : Thread Cert.FrontRefIdeal.nD Cert.FrontRefIdeal.τ).loc Cert.FrontRefIdeal.main_arg10)
      ∧ r.2.mem ((c.tc : Thread Cert.FrontRefIdeal.nD Cert.FrontRefIdeal.τ).loc Cert.FrontRefIdeal.main_arg11) = m ((c.tc : Thread Cert.FrontRefIdeal.nD Cert.FrontRefIdeal.τ).loc Cert.FrontRefIdeal.main_arg11)
      ∧ r.2.mem ((c.tc : Thread Cert.FrontRefIdeal.nD Cert.FrontRefIdeal.τ).loc Cert.FrontRefIdeal.main_arg12) = m ((c.tc : Thread Cert.FrontRefIdeal.nD Cert.FrontRefIdeal.τ).loc Cert.FrontRefIdeal.main_arg12))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5))
      ∧ r.2.sem = fun _ => 0)

def quiescent_Whole [hWhole : Cert.Whole.Facts] : Prop :=
  ∀ (m : (ℓ : Loc Cert.Whole.nD Cert.Whole.τ Cert.Whole.sig) → Buf (Elt Bits) ℓ) (g : Dev Cert.Whole.nD → PrngReg), Pre_Whole m →
    θ_run (Cert.Whole.defs (F := Bits)) (onTc (τ := Cert.Whole.τ) (Cert.Whole.main (F := Bits))) ⟨m, fun _ => 0, g⟩ (fun r => (∀ c : Dev Cert.Whole.nD,
      r.2.mem ((c.tc : Thread Cert.Whole.nD Cert.Whole.τ).loc Cert.Whole.main_arg0) = m ((c.tc : Thread Cert.Whole.nD Cert.Whole.τ).loc Cert.Whole.main_arg0)
      ∧ r.2.mem ((c.tc : Thread Cert.Whole.nD Cert.Whole.τ).loc Cert.Whole.main_arg1) = m ((c.tc : Thread Cert.Whole.nD Cert.Whole.τ).loc Cert.Whole.main_arg1)
      ∧ r.2.mem ((c.tc : Thread Cert.Whole.nD Cert.Whole.τ).loc Cert.Whole.main_arg2) = m ((c.tc : Thread Cert.Whole.nD Cert.Whole.τ).loc Cert.Whole.main_arg2)
      ∧ r.2.mem ((c.tc : Thread Cert.Whole.nD Cert.Whole.τ).loc Cert.Whole.main_arg3) = m ((c.tc : Thread Cert.Whole.nD Cert.Whole.τ).loc Cert.Whole.main_arg3)
      ∧ r.2.mem ((c.tc : Thread Cert.Whole.nD Cert.Whole.τ).loc Cert.Whole.main_arg4) = m ((c.tc : Thread Cert.Whole.nD Cert.Whole.τ).loc Cert.Whole.main_arg4)
      ∧ r.2.mem ((c.tc : Thread Cert.Whole.nD Cert.Whole.τ).loc Cert.Whole.main_arg5) = m ((c.tc : Thread Cert.Whole.nD Cert.Whole.τ).loc Cert.Whole.main_arg5)
      ∧ r.2.mem ((c.tc : Thread Cert.Whole.nD Cert.Whole.τ).loc Cert.Whole.main_arg6) = m ((c.tc : Thread Cert.Whole.nD Cert.Whole.τ).loc Cert.Whole.main_arg6)
      ∧ r.2.mem ((c.tc : Thread Cert.Whole.nD Cert.Whole.τ).loc Cert.Whole.main_arg7) = m ((c.tc : Thread Cert.Whole.nD Cert.Whole.τ).loc Cert.Whole.main_arg7)
      ∧ r.2.mem ((c.tc : Thread Cert.Whole.nD Cert.Whole.τ).loc Cert.Whole.main_arg8) = m ((c.tc : Thread Cert.Whole.nD Cert.Whole.τ).loc Cert.Whole.main_arg8)
      ∧ r.2.mem ((c.tc : Thread Cert.Whole.nD Cert.Whole.τ).loc Cert.Whole.main_arg9) = m ((c.tc : Thread Cert.Whole.nD Cert.Whole.τ).loc Cert.Whole.main_arg9)
      ∧ r.2.mem ((c.tc : Thread Cert.Whole.nD Cert.Whole.τ).loc Cert.Whole.main_arg10) = m ((c.tc : Thread Cert.Whole.nD Cert.Whole.τ).loc Cert.Whole.main_arg10)
      ∧ r.2.mem ((c.tc : Thread Cert.Whole.nD Cert.Whole.τ).loc Cert.Whole.main_arg11) = m ((c.tc : Thread Cert.Whole.nD Cert.Whole.τ).loc Cert.Whole.main_arg11)
      ∧ r.2.mem ((c.tc : Thread Cert.Whole.nD Cert.Whole.τ).loc Cert.Whole.main_arg12) = m ((c.tc : Thread Cert.Whole.nD Cert.Whole.τ).loc Cert.Whole.main_arg12)
      ∧ r.2.mem ((c.tc : Thread Cert.Whole.nD Cert.Whole.τ).loc Cert.Whole.main_arg13) = m ((c.tc : Thread Cert.Whole.nD Cert.Whole.τ).loc Cert.Whole.main_arg13)
      ∧ r.2.mem ((c.tc : Thread Cert.Whole.nD Cert.Whole.τ).loc Cert.Whole.main_arg14) = m ((c.tc : Thread Cert.Whole.nD Cert.Whole.τ).loc Cert.Whole.main_arg14)
      ∧ r.2.mem ((c.tc : Thread Cert.Whole.nD Cert.Whole.τ).loc Cert.Whole.main_arg15) = m ((c.tc : Thread Cert.Whole.nD Cert.Whole.τ).loc Cert.Whole.main_arg15)
      ∧ r.2.mem ((c.tc : Thread Cert.Whole.nD Cert.Whole.τ).loc Cert.Whole.main_arg16) = m ((c.tc : Thread Cert.Whole.nD Cert.Whole.τ).loc Cert.Whole.main_arg16)
      ∧ r.2.mem ((c.tc : Thread Cert.Whole.nD Cert.Whole.τ).loc Cert.Whole.main_arg17) = m ((c.tc : Thread Cert.Whole.nD Cert.Whole.τ).loc Cert.Whole.main_arg17)
      ∧ r.2.mem ((c.tc : Thread Cert.Whole.nD Cert.Whole.τ).loc Cert.Whole.main_arg18) = m ((c.tc : Thread Cert.Whole.nD Cert.Whole.τ).loc Cert.Whole.main_arg18))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
      ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
      ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6)
      ∧ r.2.mem ((c.tc : Thread Cert.WholeIdeal.nD Cert.WholeIdeal.τ).loc Cert.WholeIdeal.main_arg7) = m ((c.tc : Thread Cert.WholeIdeal.nD Cert.WholeIdeal.τ).loc Cert.WholeIdeal.main_arg7)
      ∧ r.2.mem ((c.tc : Thread Cert.WholeIdeal.nD Cert.WholeIdeal.τ).loc Cert.WholeIdeal.main_arg8) = m ((c.tc : Thread Cert.WholeIdeal.nD Cert.WholeIdeal.τ).loc Cert.WholeIdeal.main_arg8)
      ∧ r.2.mem ((c.tc : Thread Cert.WholeIdeal.nD Cert.WholeIdeal.τ).loc Cert.WholeIdeal.main_arg9) = m ((c.tc : Thread Cert.WholeIdeal.nD Cert.WholeIdeal.τ).loc Cert.WholeIdeal.main_arg9)
      ∧ r.2.mem ((c.tc : Thread Cert.WholeIdeal.nD Cert.WholeIdeal.τ).loc Cert.WholeIdeal.main_arg10) = m ((c.tc : Thread Cert.WholeIdeal.nD Cert.WholeIdeal.τ).loc Cert.WholeIdeal.main_arg10)
      ∧ r.2.mem ((c.tc : Thread Cert.WholeIdeal.nD Cert.WholeIdeal.τ).loc Cert.WholeIdeal.main_arg11) = m ((c.tc : Thread Cert.WholeIdeal.nD Cert.WholeIdeal.τ).loc Cert.WholeIdeal.main_arg11)
      ∧ r.2.mem ((c.tc : Thread Cert.WholeIdeal.nD Cert.WholeIdeal.τ).loc Cert.WholeIdeal.main_arg12) = m ((c.tc : Thread Cert.WholeIdeal.nD Cert.WholeIdeal.τ).loc Cert.WholeIdeal.main_arg12)
      ∧ r.2.mem ((c.tc : Thread Cert.WholeIdeal.nD Cert.WholeIdeal.τ).loc Cert.WholeIdeal.main_arg13) = m ((c.tc : Thread Cert.WholeIdeal.nD Cert.WholeIdeal.τ).loc Cert.WholeIdeal.main_arg13)
      ∧ r.2.mem ((c.tc : Thread Cert.WholeIdeal.nD Cert.WholeIdeal.τ).loc Cert.WholeIdeal.main_arg14) = m ((c.tc : Thread Cert.WholeIdeal.nD Cert.WholeIdeal.τ).loc Cert.WholeIdeal.main_arg14)
      ∧ r.2.mem ((c.tc : Thread Cert.WholeIdeal.nD Cert.WholeIdeal.τ).loc Cert.WholeIdeal.main_arg15) = m ((c.tc : Thread Cert.WholeIdeal.nD Cert.WholeIdeal.τ).loc Cert.WholeIdeal.main_arg15)
      ∧ r.2.mem ((c.tc : Thread Cert.WholeIdeal.nD Cert.WholeIdeal.τ).loc Cert.WholeIdeal.main_arg16) = m ((c.tc : Thread Cert.WholeIdeal.nD Cert.WholeIdeal.τ).loc Cert.WholeIdeal.main_arg16)
      ∧ r.2.mem ((c.tc : Thread Cert.WholeIdeal.nD Cert.WholeIdeal.τ).loc Cert.WholeIdeal.main_arg17) = m ((c.tc : Thread Cert.WholeIdeal.nD Cert.WholeIdeal.τ).loc Cert.WholeIdeal.main_arg17)
      ∧ r.2.mem ((c.tc : Thread Cert.WholeIdeal.nD Cert.WholeIdeal.τ).loc Cert.WholeIdeal.main_arg18) = m ((c.tc : Thread Cert.WholeIdeal.nD Cert.WholeIdeal.τ).loc Cert.WholeIdeal.main_arg18))
      ∧ r.2.sem = fun _ => 0)

def quiescent_WholeIdeal_pre_whole_finite_without_top_ties [hWholeIdeal : Cert.WholeIdeal.Facts] [hPre_whole_finite_without_top_ties : Cert.Pre_whole_finite_without_top_ties.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal_whole_finite_without_top_ties m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
      ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
      ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6)
      ∧ r.2.mem ((c.tc : Thread Cert.WholeIdeal.nD Cert.WholeIdeal.τ).loc Cert.WholeIdeal.main_arg7) = m ((c.tc : Thread Cert.WholeIdeal.nD Cert.WholeIdeal.τ).loc Cert.WholeIdeal.main_arg7)
      ∧ r.2.mem ((c.tc : Thread Cert.WholeIdeal.nD Cert.WholeIdeal.τ).loc Cert.WholeIdeal.main_arg8) = m ((c.tc : Thread Cert.WholeIdeal.nD Cert.WholeIdeal.τ).loc Cert.WholeIdeal.main_arg8)
      ∧ r.2.mem ((c.tc : Thread Cert.WholeIdeal.nD Cert.WholeIdeal.τ).loc Cert.WholeIdeal.main_arg9) = m ((c.tc : Thread Cert.WholeIdeal.nD Cert.WholeIdeal.τ).loc Cert.WholeIdeal.main_arg9)
      ∧ r.2.mem ((c.tc : Thread Cert.WholeIdeal.nD Cert.WholeIdeal.τ).loc Cert.WholeIdeal.main_arg10) = m ((c.tc : Thread Cert.WholeIdeal.nD Cert.WholeIdeal.τ).loc Cert.WholeIdeal.main_arg10)
      ∧ r.2.mem ((c.tc : Thread Cert.WholeIdeal.nD Cert.WholeIdeal.τ).loc Cert.WholeIdeal.main_arg11) = m ((c.tc : Thread Cert.WholeIdeal.nD Cert.WholeIdeal.τ).loc Cert.WholeIdeal.main_arg11)
      ∧ r.2.mem ((c.tc : Thread Cert.WholeIdeal.nD Cert.WholeIdeal.τ).loc Cert.WholeIdeal.main_arg12) = m ((c.tc : Thread Cert.WholeIdeal.nD Cert.WholeIdeal.τ).loc Cert.WholeIdeal.main_arg12)
      ∧ r.2.mem ((c.tc : Thread Cert.WholeIdeal.nD Cert.WholeIdeal.τ).loc Cert.WholeIdeal.main_arg13) = m ((c.tc : Thread Cert.WholeIdeal.nD Cert.WholeIdeal.τ).loc Cert.WholeIdeal.main_arg13)
      ∧ r.2.mem ((c.tc : Thread Cert.WholeIdeal.nD Cert.WholeIdeal.τ).loc Cert.WholeIdeal.main_arg14) = m ((c.tc : Thread Cert.WholeIdeal.nD Cert.WholeIdeal.τ).loc Cert.WholeIdeal.main_arg14)
      ∧ r.2.mem ((c.tc : Thread Cert.WholeIdeal.nD Cert.WholeIdeal.τ).loc Cert.WholeIdeal.main_arg15) = m ((c.tc : Thread Cert.WholeIdeal.nD Cert.WholeIdeal.τ).loc Cert.WholeIdeal.main_arg15)
      ∧ r.2.mem ((c.tc : Thread Cert.WholeIdeal.nD Cert.WholeIdeal.τ).loc Cert.WholeIdeal.main_arg16) = m ((c.tc : Thread Cert.WholeIdeal.nD Cert.WholeIdeal.τ).loc Cert.WholeIdeal.main_arg16)
      ∧ r.2.mem ((c.tc : Thread Cert.WholeIdeal.nD Cert.WholeIdeal.τ).loc Cert.WholeIdeal.main_arg17) = m ((c.tc : Thread Cert.WholeIdeal.nD Cert.WholeIdeal.τ).loc Cert.WholeIdeal.main_arg17)
      ∧ r.2.mem ((c.tc : Thread Cert.WholeIdeal.nD Cert.WholeIdeal.τ).loc Cert.WholeIdeal.main_arg18) = m ((c.tc : Thread Cert.WholeIdeal.nD Cert.WholeIdeal.τ).loc Cert.WholeIdeal.main_arg18))
      ∧ r.2.sem = fun _ => 0)

def quiescent_WholeRefIdeal [hWholeRefIdeal : Cert.WholeRefIdeal.Facts] : Prop :=
  ∀ (m : (ℓ : Loc Cert.WholeRefIdeal.nD Cert.WholeRefIdeal.τ Cert.WholeRefIdeal.sig) → Buf (Elt Ideal) ℓ) (g : Dev Cert.WholeRefIdeal.nD → PrngReg), Pre_WholeRefIdeal m →
    θ_run (Cert.WholeRefIdeal.defs (F := Ideal)) (onTc (τ := Cert.WholeRefIdeal.τ) (Cert.WholeRefIdeal.main (F := Ideal))) ⟨m, fun _ => 0, g⟩ (fun r => (∀ c : Dev Cert.WholeRefIdeal.nD,
      r.2.mem ((c.tc : Thread Cert.WholeRefIdeal.nD Cert.WholeRefIdeal.τ).loc Cert.WholeRefIdeal.main_arg0) = m ((c.tc : Thread Cert.WholeRefIdeal.nD Cert.WholeRefIdeal.τ).loc Cert.WholeRefIdeal.main_arg0)
      ∧ r.2.mem ((c.tc : Thread Cert.WholeRefIdeal.nD Cert.WholeRefIdeal.τ).loc Cert.WholeRefIdeal.main_arg1) = m ((c.tc : Thread Cert.WholeRefIdeal.nD Cert.WholeRefIdeal.τ).loc Cert.WholeRefIdeal.main_arg1)
      ∧ r.2.mem ((c.tc : Thread Cert.WholeRefIdeal.nD Cert.WholeRefIdeal.τ).loc Cert.WholeRefIdeal.main_arg2) = m ((c.tc : Thread Cert.WholeRefIdeal.nD Cert.WholeRefIdeal.τ).loc Cert.WholeRefIdeal.main_arg2)
      ∧ r.2.mem ((c.tc : Thread Cert.WholeRefIdeal.nD Cert.WholeRefIdeal.τ).loc Cert.WholeRefIdeal.main_arg3) = m ((c.tc : Thread Cert.WholeRefIdeal.nD Cert.WholeRefIdeal.τ).loc Cert.WholeRefIdeal.main_arg3)
      ∧ r.2.mem ((c.tc : Thread Cert.WholeRefIdeal.nD Cert.WholeRefIdeal.τ).loc Cert.WholeRefIdeal.main_arg4) = m ((c.tc : Thread Cert.WholeRefIdeal.nD Cert.WholeRefIdeal.τ).loc Cert.WholeRefIdeal.main_arg4)
      ∧ r.2.mem ((c.tc : Thread Cert.WholeRefIdeal.nD Cert.WholeRefIdeal.τ).loc Cert.WholeRefIdeal.main_arg5) = m ((c.tc : Thread Cert.WholeRefIdeal.nD Cert.WholeRefIdeal.τ).loc Cert.WholeRefIdeal.main_arg5)
      ∧ r.2.mem ((c.tc : Thread Cert.WholeRefIdeal.nD Cert.WholeRefIdeal.τ).loc Cert.WholeRefIdeal.main_arg6) = m ((c.tc : Thread Cert.WholeRefIdeal.nD Cert.WholeRefIdeal.τ).loc Cert.WholeRefIdeal.main_arg6)
      ∧ r.2.mem ((c.tc : Thread Cert.WholeRefIdeal.nD Cert.WholeRefIdeal.τ).loc Cert.WholeRefIdeal.main_arg7) = m ((c.tc : Thread Cert.WholeRefIdeal.nD Cert.WholeRefIdeal.τ).loc Cert.WholeRefIdeal.main_arg7)
      ∧ r.2.mem ((c.tc : Thread Cert.WholeRefIdeal.nD Cert.WholeRefIdeal.τ).loc Cert.WholeRefIdeal.main_arg8) = m ((c.tc : Thread Cert.WholeRefIdeal.nD Cert.WholeRefIdeal.τ).loc Cert.WholeRefIdeal.main_arg8)
      ∧ r.2.mem ((c.tc : Thread Cert.WholeRefIdeal.nD Cert.WholeRefIdeal.τ).loc Cert.WholeRefIdeal.main_arg9) = m ((c.tc : Thread Cert.WholeRefIdeal.nD Cert.WholeRefIdeal.τ).loc Cert.WholeRefIdeal.main_arg9)
      ∧ r.2.mem ((c.tc : Thread Cert.WholeRefIdeal.nD Cert.WholeRefIdeal.τ).loc Cert.WholeRefIdeal.main_arg10) = m ((c.tc : Thread Cert.WholeRefIdeal.nD Cert.WholeRefIdeal.τ).loc Cert.WholeRefIdeal.main_arg10)
      ∧ r.2.mem ((c.tc : Thread Cert.WholeRefIdeal.nD Cert.WholeRefIdeal.τ).loc Cert.WholeRefIdeal.main_arg11) = m ((c.tc : Thread Cert.WholeRefIdeal.nD Cert.WholeRefIdeal.τ).loc Cert.WholeRefIdeal.main_arg11)
      ∧ r.2.mem ((c.tc : Thread Cert.WholeRefIdeal.nD Cert.WholeRefIdeal.τ).loc Cert.WholeRefIdeal.main_arg12) = m ((c.tc : Thread Cert.WholeRefIdeal.nD Cert.WholeRefIdeal.τ).loc Cert.WholeRefIdeal.main_arg12)
      ∧ r.2.mem ((c.tc : Thread Cert.WholeRefIdeal.nD Cert.WholeRefIdeal.τ).loc Cert.WholeRefIdeal.main_arg13) = m ((c.tc : Thread Cert.WholeRefIdeal.nD Cert.WholeRefIdeal.τ).loc Cert.WholeRefIdeal.main_arg13)
      ∧ r.2.mem ((c.tc : Thread Cert.WholeRefIdeal.nD Cert.WholeRefIdeal.τ).loc Cert.WholeRefIdeal.main_arg14) = m ((c.tc : Thread Cert.WholeRefIdeal.nD Cert.WholeRefIdeal.τ).loc Cert.WholeRefIdeal.main_arg14)
      ∧ r.2.mem ((c.tc : Thread Cert.WholeRefIdeal.nD Cert.WholeRefIdeal.τ).loc Cert.WholeRefIdeal.main_arg15) = m ((c.tc : Thread Cert.WholeRefIdeal.nD Cert.WholeRefIdeal.τ).loc Cert.WholeRefIdeal.main_arg15)
      ∧ r.2.mem ((c.tc : Thread Cert.WholeRefIdeal.nD Cert.WholeRefIdeal.τ).loc Cert.WholeRefIdeal.main_arg16) = m ((c.tc : Thread Cert.WholeRefIdeal.nD Cert.WholeRefIdeal.τ).loc Cert.WholeRefIdeal.main_arg16)
      ∧ r.2.mem ((c.tc : Thread Cert.WholeRefIdeal.nD Cert.WholeRefIdeal.τ).loc Cert.WholeRefIdeal.main_arg17) = m ((c.tc : Thread Cert.WholeRefIdeal.nD Cert.WholeRefIdeal.τ).loc Cert.WholeRefIdeal.main_arg17)
      ∧ r.2.mem ((c.tc : Thread Cert.WholeRefIdeal.nD Cert.WholeRefIdeal.τ).loc Cert.WholeRefIdeal.main_arg18) = m ((c.tc : Thread Cert.WholeRefIdeal.nD Cert.WholeRefIdeal.τ).loc Cert.WholeRefIdeal.main_arg18))
      ∧ r.2.sem = fun _ => 0)

def quiescent_WholeRefIdeal_pre_whole_finite_without_top_ties [hWholeRefIdeal : Cert.WholeRefIdeal.Facts] [hPre_whole_finite_without_top_ties : Cert.Pre_whole_finite_without_top_ties.Facts] : Prop :=
  ∀ (m : (ℓ : Loc Cert.WholeRefIdeal.nD Cert.WholeRefIdeal.τ Cert.WholeRefIdeal.sig) → Buf (Elt Ideal) ℓ) (g : Dev Cert.WholeRefIdeal.nD → PrngReg), Pre_WholeRefIdeal_whole_finite_without_top_ties m →
    θ_run (Cert.WholeRefIdeal.defs (F := Ideal)) (onTc (τ := Cert.WholeRefIdeal.τ) (Cert.WholeRefIdeal.main (F := Ideal))) ⟨m, fun _ => 0, g⟩ (fun r => (∀ c : Dev Cert.WholeRefIdeal.nD,
      r.2.mem ((c.tc : Thread Cert.WholeRefIdeal.nD Cert.WholeRefIdeal.τ).loc Cert.WholeRefIdeal.main_arg0) = m ((c.tc : Thread Cert.WholeRefIdeal.nD Cert.WholeRefIdeal.τ).loc Cert.WholeRefIdeal.main_arg0)
      ∧ r.2.mem ((c.tc : Thread Cert.WholeRefIdeal.nD Cert.WholeRefIdeal.τ).loc Cert.WholeRefIdeal.main_arg1) = m ((c.tc : Thread Cert.WholeRefIdeal.nD Cert.WholeRefIdeal.τ).loc Cert.WholeRefIdeal.main_arg1)
      ∧ r.2.mem ((c.tc : Thread Cert.WholeRefIdeal.nD Cert.WholeRefIdeal.τ).loc Cert.WholeRefIdeal.main_arg2) = m ((c.tc : Thread Cert.WholeRefIdeal.nD Cert.WholeRefIdeal.τ).loc Cert.WholeRefIdeal.main_arg2)
      ∧ r.2.mem ((c.tc : Thread Cert.WholeRefIdeal.nD Cert.WholeRefIdeal.τ).loc Cert.WholeRefIdeal.main_arg3) = m ((c.tc : Thread Cert.WholeRefIdeal.nD Cert.WholeRefIdeal.τ).loc Cert.WholeRefIdeal.main_arg3)
      ∧ r.2.mem ((c.tc : Thread Cert.WholeRefIdeal.nD Cert.WholeRefIdeal.τ).loc Cert.WholeRefIdeal.main_arg4) = m ((c.tc : Thread Cert.WholeRefIdeal.nD Cert.WholeRefIdeal.τ).loc Cert.WholeRefIdeal.main_arg4)
      ∧ r.2.mem ((c.tc : Thread Cert.WholeRefIdeal.nD Cert.WholeRefIdeal.τ).loc Cert.WholeRefIdeal.main_arg5) = m ((c.tc : Thread Cert.WholeRefIdeal.nD Cert.WholeRefIdeal.τ).loc Cert.WholeRefIdeal.main_arg5)
      ∧ r.2.mem ((c.tc : Thread Cert.WholeRefIdeal.nD Cert.WholeRefIdeal.τ).loc Cert.WholeRefIdeal.main_arg6) = m ((c.tc : Thread Cert.WholeRefIdeal.nD Cert.WholeRefIdeal.τ).loc Cert.WholeRefIdeal.main_arg6)
      ∧ r.2.mem ((c.tc : Thread Cert.WholeRefIdeal.nD Cert.WholeRefIdeal.τ).loc Cert.WholeRefIdeal.main_arg7) = m ((c.tc : Thread Cert.WholeRefIdeal.nD Cert.WholeRefIdeal.τ).loc Cert.WholeRefIdeal.main_arg7)
      ∧ r.2.mem ((c.tc : Thread Cert.WholeRefIdeal.nD Cert.WholeRefIdeal.τ).loc Cert.WholeRefIdeal.main_arg8) = m ((c.tc : Thread Cert.WholeRefIdeal.nD Cert.WholeRefIdeal.τ).loc Cert.WholeRefIdeal.main_arg8)
      ∧ r.2.mem ((c.tc : Thread Cert.WholeRefIdeal.nD Cert.WholeRefIdeal.τ).loc Cert.WholeRefIdeal.main_arg9) = m ((c.tc : Thread Cert.WholeRefIdeal.nD Cert.WholeRefIdeal.τ).loc Cert.WholeRefIdeal.main_arg9)
      ∧ r.2.mem ((c.tc : Thread Cert.WholeRefIdeal.nD Cert.WholeRefIdeal.τ).loc Cert.WholeRefIdeal.main_arg10) = m ((c.tc : Thread Cert.WholeRefIdeal.nD Cert.WholeRefIdeal.τ).loc Cert.WholeRefIdeal.main_arg10)
      ∧ r.2.mem ((c.tc : Thread Cert.WholeRefIdeal.nD Cert.WholeRefIdeal.τ).loc Cert.WholeRefIdeal.main_arg11) = m ((c.tc : Thread Cert.WholeRefIdeal.nD Cert.WholeRefIdeal.τ).loc Cert.WholeRefIdeal.main_arg11)
      ∧ r.2.mem ((c.tc : Thread Cert.WholeRefIdeal.nD Cert.WholeRefIdeal.τ).loc Cert.WholeRefIdeal.main_arg12) = m ((c.tc : Thread Cert.WholeRefIdeal.nD Cert.WholeRefIdeal.τ).loc Cert.WholeRefIdeal.main_arg12)
      ∧ r.2.mem ((c.tc : Thread Cert.WholeRefIdeal.nD Cert.WholeRefIdeal.τ).loc Cert.WholeRefIdeal.main_arg13) = m ((c.tc : Thread Cert.WholeRefIdeal.nD Cert.WholeRefIdeal.τ).loc Cert.WholeRefIdeal.main_arg13)
      ∧ r.2.mem ((c.tc : Thread Cert.WholeRefIdeal.nD Cert.WholeRefIdeal.τ).loc Cert.WholeRefIdeal.main_arg14) = m ((c.tc : Thread Cert.WholeRefIdeal.nD Cert.WholeRefIdeal.τ).loc Cert.WholeRefIdeal.main_arg14)
      ∧ r.2.mem ((c.tc : Thread Cert.WholeRefIdeal.nD Cert.WholeRefIdeal.τ).loc Cert.WholeRefIdeal.main_arg15) = m ((c.tc : Thread Cert.WholeRefIdeal.nD Cert.WholeRefIdeal.τ).loc Cert.WholeRefIdeal.main_arg15)
      ∧ r.2.mem ((c.tc : Thread Cert.WholeRefIdeal.nD Cert.WholeRefIdeal.τ).loc Cert.WholeRefIdeal.main_arg16) = m ((c.tc : Thread Cert.WholeRefIdeal.nD Cert.WholeRefIdeal.τ).loc Cert.WholeRefIdeal.main_arg16)
      ∧ r.2.mem ((c.tc : Thread Cert.WholeRefIdeal.nD Cert.WholeRefIdeal.τ).loc Cert.WholeRefIdeal.main_arg17) = m ((c.tc : Thread Cert.WholeRefIdeal.nD Cert.WholeRefIdeal.τ).loc Cert.WholeRefIdeal.main_arg17)
      ∧ r.2.mem ((c.tc : Thread Cert.WholeRefIdeal.nD Cert.WholeRefIdeal.τ).loc Cert.WholeRefIdeal.main_arg18) = m ((c.tc : Thread Cert.WholeRefIdeal.nD Cert.WholeRefIdeal.τ).loc Cert.WholeRefIdeal.main_arg18))
      ∧ r.2.sem = fun _ => 0)

def preserves_Attn_AttnIdeal : Prop :=
  IdealRules.named_const.Statement Cert.AttnIdeal.κ "neg" .f32 0xFF61B1E6#32 ⊥
  ∧ IdealRules.named_const.Statement Cert.AttnIdeal.κ "mask" .f32 0xF149F2CA#32 ⊥

def algebraic_AttnIdeal_AttnRefIdeal_pre_finite_without_top_ties [hAttnIdeal : Cert.AttnIdeal.Facts] [hAttnRefIdeal : Cert.AttnRefIdeal.Facts] [hPre_finite_without_top_ties : Cert.Pre_finite_without_top_ties.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_without_top_ties m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v82) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_Front_FrontIdeal : Prop :=
  True

def algebraic_FrontIdeal_FrontRefIdeal [hFrontIdeal : Cert.FrontIdeal.Facts] [hFrontRefIdeal : Cert.FrontRefIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontRefIdeal.nD Cert.FrontRefIdeal.τ Cert.FrontRefIdeal.sig) → Buf (Elt Ideal) ℓ) (g' : Dev Cert.FrontRefIdeal.nD → PrngReg), Pre_FrontIdeal m →
    (∀ c : Dev Cert.FrontIdeal.nD,
      m' ((c.tc : Thread Cert.FrontRefIdeal.nD Cert.FrontRefIdeal.τ).loc Cert.FrontRefIdeal.main_arg0) = m ((c.tc : Thread Cert.FrontIdeal.nD Cert.FrontIdeal.τ).loc Cert.FrontIdeal.main_arg0)
      ∧ m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1)
      ∧ m' ((c.tc : Thread Cert.FrontRefIdeal.nD Cert.FrontRefIdeal.τ).loc Cert.FrontRefIdeal.main_arg2) = m ((c.tc : Thread Cert.FrontIdeal.nD Cert.FrontIdeal.τ).loc Cert.FrontIdeal.main_arg2)
      ∧ m' ((c.tc : Thread Cert.FrontRefIdeal.nD Cert.FrontRefIdeal.τ).loc Cert.FrontRefIdeal.main_arg3) = m ((c.tc : Thread Cert.FrontIdeal.nD Cert.FrontIdeal.τ).loc Cert.FrontIdeal.main_arg3)
      ∧ m' ((c.tc : Thread Cert.FrontRefIdeal.nD Cert.FrontRefIdeal.τ).loc Cert.FrontRefIdeal.main_arg4) = m ((c.tc : Thread Cert.FrontIdeal.nD Cert.FrontIdeal.τ).loc Cert.FrontIdeal.main_arg4)
      ∧ m' ((c.tc : Thread Cert.FrontRefIdeal.nD Cert.FrontRefIdeal.τ).loc Cert.FrontRefIdeal.main_arg5) = m ((c.tc : Thread Cert.FrontIdeal.nD Cert.FrontIdeal.τ).loc Cert.FrontIdeal.main_arg5)
      ∧ m' ((c.tc : Thread Cert.FrontRefIdeal.nD Cert.FrontRefIdeal.τ).loc Cert.FrontRefIdeal.main_arg6) = m ((c.tc : Thread Cert.FrontIdeal.nD Cert.FrontIdeal.τ).loc Cert.FrontIdeal.main_arg6)
      ∧ m' ((c.tc : Thread Cert.FrontRefIdeal.nD Cert.FrontRefIdeal.τ).loc Cert.FrontRefIdeal.main_arg7) = m ((c.tc : Thread Cert.FrontIdeal.nD Cert.FrontIdeal.τ).loc Cert.FrontIdeal.main_arg7)
      ∧ m' ((c.tc : Thread Cert.FrontRefIdeal.nD Cert.FrontRefIdeal.τ).loc Cert.FrontRefIdeal.main_arg8) = m ((c.tc : Thread Cert.FrontIdeal.nD Cert.FrontIdeal.τ).loc Cert.FrontIdeal.main_arg8)
      ∧ m' ((c.tc : Thread Cert.FrontRefIdeal.nD Cert.FrontRefIdeal.τ).loc Cert.FrontRefIdeal.main_arg9) = m ((c.tc : Thread Cert.FrontIdeal.nD Cert.FrontIdeal.τ).loc Cert.FrontIdeal.main_arg9)
      ∧ m' ((c.tc : Thread Cert.FrontRefIdeal.nD Cert.FrontRefIdeal.τ).loc Cert.FrontRefIdeal.main_arg10) = m ((c.tc : Thread Cert.FrontIdeal.nD Cert.FrontIdeal.τ).loc Cert.FrontIdeal.main_arg10)
      ∧ m' ((c.tc : Thread Cert.FrontRefIdeal.nD Cert.FrontRefIdeal.τ).loc Cert.FrontRefIdeal.main_arg11) = m ((c.tc : Thread Cert.FrontIdeal.nD Cert.FrontIdeal.τ).loc Cert.FrontIdeal.main_arg11)
      ∧ m' ((c.tc : Thread Cert.FrontRefIdeal.nD Cert.FrontRefIdeal.τ).loc Cert.FrontRefIdeal.main_arg12) = m ((c.tc : Thread Cert.FrontIdeal.nD Cert.FrontIdeal.τ).loc Cert.FrontIdeal.main_arg12)) →
    ∃ (v0 : (c : Dev Cert.FrontIdeal.nD) → Buf (Elt Ideal) ((c.tc : Thread Cert.FrontIdeal.nD Cert.FrontIdeal.τ).loc Cert.FrontIdeal.main_v0_0)) (v1 : (c : Dev Cert.FrontIdeal.nD) → Buf (Elt Ideal) ((c.tc : Thread Cert.FrontIdeal.nD Cert.FrontIdeal.τ).loc Cert.FrontIdeal.main_v0_1)) (v2 : (c : Dev Cert.FrontIdeal.nD) → Buf (Elt Ideal) ((c.tc : Thread Cert.FrontIdeal.nD Cert.FrontIdeal.τ).loc Cert.FrontIdeal.main_v0_2)) (v3 : (c : Dev Cert.FrontIdeal.nD) → Buf (Elt Ideal) ((c.tc : Thread Cert.FrontIdeal.nD Cert.FrontIdeal.τ).loc Cert.FrontIdeal.main_v0_3)) (v4 : (c : Dev Cert.FrontIdeal.nD) → Buf (Elt Ideal) ((c.tc : Thread Cert.FrontIdeal.nD Cert.FrontIdeal.τ).loc Cert.FrontIdeal.main_v1)) (v5 : (c : Dev Cert.FrontIdeal.nD) → Buf (Elt Ideal) ((c.tc : Thread Cert.FrontIdeal.nD Cert.FrontIdeal.τ).loc Cert.FrontIdeal.main_v2)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v0_0) = v0 c
          ∧ r.2.mem ((c.tc : Thread Cert.FrontIdeal.nD Cert.FrontIdeal.τ).loc Cert.FrontIdeal.main_v0_1) = v1 c
          ∧ r.2.mem ((c.tc : Thread Cert.FrontIdeal.nD Cert.FrontIdeal.τ).loc Cert.FrontIdeal.main_v0_2) = v2 c
          ∧ r.2.mem ((c.tc : Thread Cert.FrontIdeal.nD Cert.FrontIdeal.τ).loc Cert.FrontIdeal.main_v0_3) = v3 c
          ∧ r.2.mem ((c.tc : Thread Cert.FrontIdeal.nD Cert.FrontIdeal.τ).loc Cert.FrontIdeal.main_v1) = v4 c
          ∧ r.2.mem ((c.tc : Thread Cert.FrontIdeal.nD Cert.FrontIdeal.τ).loc Cert.FrontIdeal.main_v2) = v5 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
          ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
          ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
          ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
          ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9)
          ∧ r.2.mem ((c.tc : Thread Cert.FrontIdeal.nD Cert.FrontIdeal.τ).loc Cert.FrontIdeal.main_arg10) = m ((c.tc : Thread Cert.FrontIdeal.nD Cert.FrontIdeal.τ).loc Cert.FrontIdeal.main_arg10)
          ∧ r.2.mem ((c.tc : Thread Cert.FrontIdeal.nD Cert.FrontIdeal.τ).loc Cert.FrontIdeal.main_arg11) = m ((c.tc : Thread Cert.FrontIdeal.nD Cert.FrontIdeal.τ).loc Cert.FrontIdeal.main_arg11)
          ∧ r.2.mem ((c.tc : Thread Cert.FrontIdeal.nD Cert.FrontIdeal.τ).loc Cert.FrontIdeal.main_arg12) = m ((c.tc : Thread Cert.FrontIdeal.nD Cert.FrontIdeal.τ).loc Cert.FrontIdeal.main_arg12))
      ∧ θ_run (Cert.FrontRefIdeal.defs (F := Ideal)) (onTc (τ := Cert.FrontRefIdeal.τ) (Cert.FrontRefIdeal.main (F := Ideal))) ⟨m', fun _ => 0, g'⟩ (fun r => ∀ c : Dev Cert.FrontRefIdeal.nD,
          r.2.mem ((c.tc : Thread Cert.FrontRefIdeal.nD Cert.FrontRefIdeal.τ).loc Cert.FrontRefIdeal.main_v38) = v0 c
          ∧ r.2.mem ((c.tc : Thread Cert.FrontRefIdeal.nD Cert.FrontRefIdeal.τ).loc Cert.FrontRefIdeal.main_v43) = v1 c
          ∧ r.2.mem ((c.tc : Thread Cert.FrontRefIdeal.nD Cert.FrontRefIdeal.τ).loc Cert.FrontRefIdeal.main_v48) = v2 c
          ∧ r.2.mem ((c.tc : Thread Cert.FrontRefIdeal.nD Cert.FrontRefIdeal.τ).loc Cert.FrontRefIdeal.main_v53) = v3 c
          ∧ r.2.mem ((c.tc : Thread Cert.FrontRefIdeal.nD Cert.FrontRefIdeal.τ).loc Cert.FrontRefIdeal.main_v58) = v4 c
          ∧ r.2.mem ((c.tc : Thread Cert.FrontRefIdeal.nD Cert.FrontRefIdeal.τ).loc Cert.FrontRefIdeal.main_v63) = v5 c
          ∧ r.2.mem ((c.tc : Thread Cert.FrontRefIdeal.nD Cert.FrontRefIdeal.τ).loc Cert.FrontRefIdeal.main_arg0) = m' ((c.tc : Thread Cert.FrontRefIdeal.nD Cert.FrontRefIdeal.τ).loc Cert.FrontRefIdeal.main_arg0)
          ∧ r.2.mem ((c.tc : Thread Cert.FrontRefIdeal.nD Cert.FrontRefIdeal.τ).loc Cert.FrontRefIdeal.main_arg1) = m' ((c.tc : Thread Cert.FrontRefIdeal.nD Cert.FrontRefIdeal.τ).loc Cert.FrontRefIdeal.main_arg1)
          ∧ r.2.mem ((c.tc : Thread Cert.FrontRefIdeal.nD Cert.FrontRefIdeal.τ).loc Cert.FrontRefIdeal.main_arg2) = m' ((c.tc : Thread Cert.FrontRefIdeal.nD Cert.FrontRefIdeal.τ).loc Cert.FrontRefIdeal.main_arg2)
          ∧ r.2.mem ((c.tc : Thread Cert.FrontRefIdeal.nD Cert.FrontRefIdeal.τ).loc Cert.FrontRefIdeal.main_arg3) = m' ((c.tc : Thread Cert.FrontRefIdeal.nD Cert.FrontRefIdeal.τ).loc Cert.FrontRefIdeal.main_arg3)
          ∧ r.2.mem ((c.tc : Thread Cert.FrontRefIdeal.nD Cert.FrontRefIdeal.τ).loc Cert.FrontRefIdeal.main_arg4) = m' ((c.tc : Thread Cert.FrontRefIdeal.nD Cert.FrontRefIdeal.τ).loc Cert.FrontRefIdeal.main_arg4)
          ∧ r.2.mem ((c.tc : Thread Cert.FrontRefIdeal.nD Cert.FrontRefIdeal.τ).loc Cert.FrontRefIdeal.main_arg5) = m' ((c.tc : Thread Cert.FrontRefIdeal.nD Cert.FrontRefIdeal.τ).loc Cert.FrontRefIdeal.main_arg5)
          ∧ r.2.mem ((c.tc : Thread Cert.FrontRefIdeal.nD Cert.FrontRefIdeal.τ).loc Cert.FrontRefIdeal.main_arg6) = m' ((c.tc : Thread Cert.FrontRefIdeal.nD Cert.FrontRefIdeal.τ).loc Cert.FrontRefIdeal.main_arg6)
          ∧ r.2.mem ((c.tc : Thread Cert.FrontRefIdeal.nD Cert.FrontRefIdeal.τ).loc Cert.FrontRefIdeal.main_arg7) = m' ((c.tc : Thread Cert.FrontRefIdeal.nD Cert.FrontRefIdeal.τ).loc Cert.FrontRefIdeal.main_arg7)
          ∧ r.2.mem ((c.tc : Thread Cert.FrontRefIdeal.nD Cert.FrontRefIdeal.τ).loc Cert.FrontRefIdeal.main_arg8) = m' ((c.tc : Thread Cert.FrontRefIdeal.nD Cert.FrontRefIdeal.τ).loc Cert.FrontRefIdeal.main_arg8)
          ∧ r.2.mem ((c.tc : Thread Cert.FrontRefIdeal.nD Cert.FrontRefIdeal.τ).loc Cert.FrontRefIdeal.main_arg9) = m' ((c.tc : Thread Cert.FrontRefIdeal.nD Cert.FrontRefIdeal.τ).loc Cert.FrontRefIdeal.main_arg9)
          ∧ r.2.mem ((c.tc : Thread Cert.FrontRefIdeal.nD Cert.FrontRefIdeal.τ).loc Cert.FrontRefIdeal.main_arg10) = m' ((c.tc : Thread Cert.FrontRefIdeal.nD Cert.FrontRefIdeal.τ).loc Cert.FrontRefIdeal.main_arg10)
          ∧ r.2.mem ((c.tc : Thread Cert.FrontRefIdeal.nD Cert.FrontRefIdeal.τ).loc Cert.FrontRefIdeal.main_arg11) = m' ((c.tc : Thread Cert.FrontRefIdeal.nD Cert.FrontRefIdeal.τ).loc Cert.FrontRefIdeal.main_arg11)
          ∧ r.2.mem ((c.tc : Thread Cert.FrontRefIdeal.nD Cert.FrontRefIdeal.τ).loc Cert.FrontRefIdeal.main_arg12) = m' ((c.tc : Thread Cert.FrontRefIdeal.nD Cert.FrontRefIdeal.τ).loc Cert.FrontRefIdeal.main_arg12))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v21) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5))

def preserves_Whole_WholeIdeal : Prop :=
  IdealRules.named_const.Statement Cert.WholeIdeal.κ "neg" .f32 0xFF61B1E6#32 ⊥
  ∧ IdealRules.named_const.Statement Cert.WholeIdeal.κ "mask" .f32 0xF149F2CA#32 ⊥

def algebraic_WholeIdeal_WholeRefIdeal_pre_whole_finite_without_top_ties [hWholeIdeal : Cert.WholeIdeal.Facts] [hWholeRefIdeal : Cert.WholeRefIdeal.Facts] [hPre_whole_finite_without_top_ties : Cert.Pre_whole_finite_without_top_ties.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.WholeRefIdeal.nD Cert.WholeRefIdeal.τ Cert.WholeRefIdeal.sig) → Buf (Elt Ideal) ℓ) (g' : Dev Cert.WholeRefIdeal.nD → PrngReg), Pre_WholeIdeal_whole_finite_without_top_ties m →
    (∀ c : Dev Cert.WholeIdeal.nD,
      m' ((c.tc : Thread Cert.WholeRefIdeal.nD Cert.WholeRefIdeal.τ).loc Cert.WholeRefIdeal.main_arg0) = m ((c.tc : Thread Cert.WholeIdeal.nD Cert.WholeIdeal.τ).loc Cert.WholeIdeal.main_arg0)
      ∧ m' ((c.tc : Thread Cert.WholeRefIdeal.nD Cert.WholeRefIdeal.τ).loc Cert.WholeRefIdeal.main_arg1) = m ((c.tc : Thread Cert.WholeIdeal.nD Cert.WholeIdeal.τ).loc Cert.WholeIdeal.main_arg1)
      ∧ m' ((c.tc : Thread Cert.WholeRefIdeal.nD Cert.WholeRefIdeal.τ).loc Cert.WholeRefIdeal.main_arg2) = m ((c.tc : Thread Cert.WholeIdeal.nD Cert.WholeIdeal.τ).loc Cert.WholeIdeal.main_arg2)
      ∧ m' ((c.tc : Thread Cert.WholeRefIdeal.nD Cert.WholeRefIdeal.τ).loc Cert.WholeRefIdeal.main_arg3) = m ((c.tc : Thread Cert.WholeIdeal.nD Cert.WholeIdeal.τ).loc Cert.WholeIdeal.main_arg3)
      ∧ m' ((c.tc : Thread Cert.WholeRefIdeal.nD Cert.WholeRefIdeal.τ).loc Cert.WholeRefIdeal.main_arg4) = m ((c.tc : Thread Cert.WholeIdeal.nD Cert.WholeIdeal.τ).loc Cert.WholeIdeal.main_arg4)
      ∧ m' ((c.tc : Thread Cert.WholeRefIdeal.nD Cert.WholeRefIdeal.τ).loc Cert.WholeRefIdeal.main_arg5) = m ((c.tc : Thread Cert.WholeIdeal.nD Cert.WholeIdeal.τ).loc Cert.WholeIdeal.main_arg5)
      ∧ m' ((c.tc : Thread Cert.WholeRefIdeal.nD Cert.WholeRefIdeal.τ).loc Cert.WholeRefIdeal.main_arg6) = m ((c.tc : Thread Cert.WholeIdeal.nD Cert.WholeIdeal.τ).loc Cert.WholeIdeal.main_arg6)
      ∧ m' ((c.tc : Thread Cert.WholeRefIdeal.nD Cert.WholeRefIdeal.τ).loc Cert.WholeRefIdeal.main_arg7) = m ((c.tc : Thread Cert.WholeIdeal.nD Cert.WholeIdeal.τ).loc Cert.WholeIdeal.main_arg7)
      ∧ m' ((c.tc : Thread Cert.WholeRefIdeal.nD Cert.WholeRefIdeal.τ).loc Cert.WholeRefIdeal.main_arg8) = m ((c.tc : Thread Cert.WholeIdeal.nD Cert.WholeIdeal.τ).loc Cert.WholeIdeal.main_arg8)
      ∧ m' ((c.tc : Thread Cert.WholeRefIdeal.nD Cert.WholeRefIdeal.τ).loc Cert.WholeRefIdeal.main_arg9) = m ((c.tc : Thread Cert.WholeIdeal.nD Cert.WholeIdeal.τ).loc Cert.WholeIdeal.main_arg9)
      ∧ m' ((c.tc : Thread Cert.WholeRefIdeal.nD Cert.WholeRefIdeal.τ).loc Cert.WholeRefIdeal.main_arg10) = m ((c.tc : Thread Cert.WholeIdeal.nD Cert.WholeIdeal.τ).loc Cert.WholeIdeal.main_arg10)
      ∧ m' ((c.tc : Thread Cert.WholeRefIdeal.nD Cert.WholeRefIdeal.τ).loc Cert.WholeRefIdeal.main_arg11) = m ((c.tc : Thread Cert.WholeIdeal.nD Cert.WholeIdeal.τ).loc Cert.WholeIdeal.main_arg11)
      ∧ m' ((c.tc : Thread Cert.WholeRefIdeal.nD Cert.WholeRefIdeal.τ).loc Cert.WholeRefIdeal.main_arg12) = m ((c.tc : Thread Cert.WholeIdeal.nD Cert.WholeIdeal.τ).loc Cert.WholeIdeal.main_arg12)
      ∧ m' ((c.tc : Thread Cert.WholeRefIdeal.nD Cert.WholeRefIdeal.τ).loc Cert.WholeRefIdeal.main_arg13) = m ((c.tc : Thread Cert.WholeIdeal.nD Cert.WholeIdeal.τ).loc Cert.WholeIdeal.main_arg13)
      ∧ m' ((c.tc : Thread Cert.WholeRefIdeal.nD Cert.WholeRefIdeal.τ).loc Cert.WholeRefIdeal.main_arg14) = m ((c.tc : Thread Cert.WholeIdeal.nD Cert.WholeIdeal.τ).loc Cert.WholeIdeal.main_arg14)
      ∧ m' ((c.tc : Thread Cert.WholeRefIdeal.nD Cert.WholeRefIdeal.τ).loc Cert.WholeRefIdeal.main_arg15) = m ((c.tc : Thread Cert.WholeIdeal.nD Cert.WholeIdeal.τ).loc Cert.WholeIdeal.main_arg15)
      ∧ m' ((c.tc : Thread Cert.WholeRefIdeal.nD Cert.WholeRefIdeal.τ).loc Cert.WholeRefIdeal.main_arg16) = m ((c.tc : Thread Cert.WholeIdeal.nD Cert.WholeIdeal.τ).loc Cert.WholeIdeal.main_arg16)
      ∧ m' ((c.tc : Thread Cert.WholeRefIdeal.nD Cert.WholeRefIdeal.τ).loc Cert.WholeRefIdeal.main_arg17) = m ((c.tc : Thread Cert.WholeIdeal.nD Cert.WholeIdeal.τ).loc Cert.WholeIdeal.main_arg17)
      ∧ m' ((c.tc : Thread Cert.WholeRefIdeal.nD Cert.WholeRefIdeal.τ).loc Cert.WholeRefIdeal.main_arg18) = m ((c.tc : Thread Cert.WholeIdeal.nD Cert.WholeIdeal.τ).loc Cert.WholeIdeal.main_arg18)) →
    ∃ (v0 : (c : Dev Cert.WholeIdeal.nD) → Buf (Elt Ideal) ((c.tc : Thread Cert.WholeIdeal.nD Cert.WholeIdeal.τ).loc Cert.WholeIdeal.main_v2)),
      θ_run (Cert.WholeIdeal.defs (F := Ideal)) (onTc (τ := Cert.WholeIdeal.τ) (Cert.WholeIdeal.main (F := Ideal))) ⟨m, fun _ => 0, g⟩ (fun r => ∀ c : Dev Cert.WholeIdeal.nD,
          r.2.mem ((c.tc : Thread Cert.WholeIdeal.nD Cert.WholeIdeal.τ).loc Cert.WholeIdeal.main_v2) = v0 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
          ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
          ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
          ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
          ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
          ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6)
          ∧ r.2.mem ((c.tc : Thread Cert.WholeIdeal.nD Cert.WholeIdeal.τ).loc Cert.WholeIdeal.main_arg7) = m ((c.tc : Thread Cert.WholeIdeal.nD Cert.WholeIdeal.τ).loc Cert.WholeIdeal.main_arg7)
          ∧ r.2.mem ((c.tc : Thread Cert.WholeIdeal.nD Cert.WholeIdeal.τ).loc Cert.WholeIdeal.main_arg8) = m ((c.tc : Thread Cert.WholeIdeal.nD Cert.WholeIdeal.τ).loc Cert.WholeIdeal.main_arg8)
          ∧ r.2.mem ((c.tc : Thread Cert.WholeIdeal.nD Cert.WholeIdeal.τ).loc Cert.WholeIdeal.main_arg9) = m ((c.tc : Thread Cert.WholeIdeal.nD Cert.WholeIdeal.τ).loc Cert.WholeIdeal.main_arg9)
          ∧ r.2.mem ((c.tc : Thread Cert.WholeIdeal.nD Cert.WholeIdeal.τ).loc Cert.WholeIdeal.main_arg10) = m ((c.tc : Thread Cert.WholeIdeal.nD Cert.WholeIdeal.τ).loc Cert.WholeIdeal.main_arg10)
          ∧ r.2.mem ((c.tc : Thread Cert.WholeIdeal.nD Cert.WholeIdeal.τ).loc Cert.WholeIdeal.main_arg11) = m ((c.tc : Thread Cert.WholeIdeal.nD Cert.WholeIdeal.τ).loc Cert.WholeIdeal.main_arg11)
          ∧ r.2.mem ((c.tc : Thread Cert.WholeIdeal.nD Cert.WholeIdeal.τ).loc Cert.WholeIdeal.main_arg12) = m ((c.tc : Thread Cert.WholeIdeal.nD Cert.WholeIdeal.τ).loc Cert.WholeIdeal.main_arg12)
          ∧ r.2.mem ((c.tc : Thread Cert.WholeIdeal.nD Cert.WholeIdeal.τ).loc Cert.WholeIdeal.main_arg13) = m ((c.tc : Thread Cert.WholeIdeal.nD Cert.WholeIdeal.τ).loc Cert.WholeIdeal.main_arg13)
          ∧ r.2.mem ((c.tc : Thread Cert.WholeIdeal.nD Cert.WholeIdeal.τ).loc Cert.WholeIdeal.main_arg14) = m ((c.tc : Thread Cert.WholeIdeal.nD Cert.WholeIdeal.τ).loc Cert.WholeIdeal.main_arg14)
          ∧ r.2.mem ((c.tc : Thread Cert.WholeIdeal.nD Cert.WholeIdeal.τ).loc Cert.WholeIdeal.main_arg15) = m ((c.tc : Thread Cert.WholeIdeal.nD Cert.WholeIdeal.τ).loc Cert.WholeIdeal.main_arg15)
          ∧ r.2.mem ((c.tc : Thread Cert.WholeIdeal.nD Cert.WholeIdeal.τ).loc Cert.WholeIdeal.main_arg16) = m ((c.tc : Thread Cert.WholeIdeal.nD Cert.WholeIdeal.τ).loc Cert.WholeIdeal.main_arg16)
          ∧ r.2.mem ((c.tc : Thread Cert.WholeIdeal.nD Cert.WholeIdeal.τ).loc Cert.WholeIdeal.main_arg17) = m ((c.tc : Thread Cert.WholeIdeal.nD Cert.WholeIdeal.τ).loc Cert.WholeIdeal.main_arg17)
          ∧ r.2.mem ((c.tc : Thread Cert.WholeIdeal.nD Cert.WholeIdeal.τ).loc Cert.WholeIdeal.main_arg18) = m ((c.tc : Thread Cert.WholeIdeal.nD Cert.WholeIdeal.τ).loc Cert.WholeIdeal.main_arg18))
      ∧ θ_run (Cert.WholeRefIdeal.defs (F := Ideal)) (onTc (τ := Cert.WholeRefIdeal.τ) (Cert.WholeRefIdeal.main (F := Ideal))) ⟨m', fun _ => 0, g'⟩ (fun r => ∀ c : Dev Cert.WholeRefIdeal.nD,
          r.2.mem ((c.tc : Thread Cert.WholeRefIdeal.nD Cert.WholeRefIdeal.τ).loc Cert.WholeRefIdeal.main_v166) = v0 c
          ∧ r.2.mem ((c.tc : Thread Cert.WholeRefIdeal.nD Cert.WholeRefIdeal.τ).loc Cert.WholeRefIdeal.main_arg0) = m' ((c.tc : Thread Cert.WholeRefIdeal.nD Cert.WholeRefIdeal.τ).loc Cert.WholeRefIdeal.main_arg0)
          ∧ r.2.mem ((c.tc : Thread Cert.WholeRefIdeal.nD Cert.WholeRefIdeal.τ).loc Cert.WholeRefIdeal.main_arg1) = m' ((c.tc : Thread Cert.WholeRefIdeal.nD Cert.WholeRefIdeal.τ).loc Cert.WholeRefIdeal.main_arg1)
          ∧ r.2.mem ((c.tc : Thread Cert.WholeRefIdeal.nD Cert.WholeRefIdeal.τ).loc Cert.WholeRefIdeal.main_arg2) = m' ((c.tc : Thread Cert.WholeRefIdeal.nD Cert.WholeRefIdeal.τ).loc Cert.WholeRefIdeal.main_arg2)
          ∧ r.2.mem ((c.tc : Thread Cert.WholeRefIdeal.nD Cert.WholeRefIdeal.τ).loc Cert.WholeRefIdeal.main_arg3) = m' ((c.tc : Thread Cert.WholeRefIdeal.nD Cert.WholeRefIdeal.τ).loc Cert.WholeRefIdeal.main_arg3)
          ∧ r.2.mem ((c.tc : Thread Cert.WholeRefIdeal.nD Cert.WholeRefIdeal.τ).loc Cert.WholeRefIdeal.main_arg4) = m' ((c.tc : Thread Cert.WholeRefIdeal.nD Cert.WholeRefIdeal.τ).loc Cert.WholeRefIdeal.main_arg4)
          ∧ r.2.mem ((c.tc : Thread Cert.WholeRefIdeal.nD Cert.WholeRefIdeal.τ).loc Cert.WholeRefIdeal.main_arg5) = m' ((c.tc : Thread Cert.WholeRefIdeal.nD Cert.WholeRefIdeal.τ).loc Cert.WholeRefIdeal.main_arg5)
          ∧ r.2.mem ((c.tc : Thread Cert.WholeRefIdeal.nD Cert.WholeRefIdeal.τ).loc Cert.WholeRefIdeal.main_arg6) = m' ((c.tc : Thread Cert.WholeRefIdeal.nD Cert.WholeRefIdeal.τ).loc Cert.WholeRefIdeal.main_arg6)
          ∧ r.2.mem ((c.tc : Thread Cert.WholeRefIdeal.nD Cert.WholeRefIdeal.τ).loc Cert.WholeRefIdeal.main_arg7) = m' ((c.tc : Thread Cert.WholeRefIdeal.nD Cert.WholeRefIdeal.τ).loc Cert.WholeRefIdeal.main_arg7)
          ∧ r.2.mem ((c.tc : Thread Cert.WholeRefIdeal.nD Cert.WholeRefIdeal.τ).loc Cert.WholeRefIdeal.main_arg8) = m' ((c.tc : Thread Cert.WholeRefIdeal.nD Cert.WholeRefIdeal.τ).loc Cert.WholeRefIdeal.main_arg8)
          ∧ r.2.mem ((c.tc : Thread Cert.WholeRefIdeal.nD Cert.WholeRefIdeal.τ).loc Cert.WholeRefIdeal.main_arg9) = m' ((c.tc : Thread Cert.WholeRefIdeal.nD Cert.WholeRefIdeal.τ).loc Cert.WholeRefIdeal.main_arg9)
          ∧ r.2.mem ((c.tc : Thread Cert.WholeRefIdeal.nD Cert.WholeRefIdeal.τ).loc Cert.WholeRefIdeal.main_arg10) = m' ((c.tc : Thread Cert.WholeRefIdeal.nD Cert.WholeRefIdeal.τ).loc Cert.WholeRefIdeal.main_arg10)
          ∧ r.2.mem ((c.tc : Thread Cert.WholeRefIdeal.nD Cert.WholeRefIdeal.τ).loc Cert.WholeRefIdeal.main_arg11) = m' ((c.tc : Thread Cert.WholeRefIdeal.nD Cert.WholeRefIdeal.τ).loc Cert.WholeRefIdeal.main_arg11)
          ∧ r.2.mem ((c.tc : Thread Cert.WholeRefIdeal.nD Cert.WholeRefIdeal.τ).loc Cert.WholeRefIdeal.main_arg12) = m' ((c.tc : Thread Cert.WholeRefIdeal.nD Cert.WholeRefIdeal.τ).loc Cert.WholeRefIdeal.main_arg12)
          ∧ r.2.mem ((c.tc : Thread Cert.WholeRefIdeal.nD Cert.WholeRefIdeal.τ).loc Cert.WholeRefIdeal.main_arg13) = m' ((c.tc : Thread Cert.WholeRefIdeal.nD Cert.WholeRefIdeal.τ).loc Cert.WholeRefIdeal.main_arg13)
          ∧ r.2.mem ((c.tc : Thread Cert.WholeRefIdeal.nD Cert.WholeRefIdeal.τ).loc Cert.WholeRefIdeal.main_arg14) = m' ((c.tc : Thread Cert.WholeRefIdeal.nD Cert.WholeRefIdeal.τ).loc Cert.WholeRefIdeal.main_arg14)
          ∧ r.2.mem ((c.tc : Thread Cert.WholeRefIdeal.nD Cert.WholeRefIdeal.τ).loc Cert.WholeRefIdeal.main_arg15) = m' ((c.tc : Thread Cert.WholeRefIdeal.nD Cert.WholeRefIdeal.τ).loc Cert.WholeRefIdeal.main_arg15)
          ∧ r.2.mem ((c.tc : Thread Cert.WholeRefIdeal.nD Cert.WholeRefIdeal.τ).loc Cert.WholeRefIdeal.main_arg16) = m' ((c.tc : Thread Cert.WholeRefIdeal.nD Cert.WholeRefIdeal.τ).loc Cert.WholeRefIdeal.main_arg16)
          ∧ r.2.mem ((c.tc : Thread Cert.WholeRefIdeal.nD Cert.WholeRefIdeal.τ).loc Cert.WholeRefIdeal.main_arg17) = m' ((c.tc : Thread Cert.WholeRefIdeal.nD Cert.WholeRefIdeal.τ).loc Cert.WholeRefIdeal.main_arg17)
          ∧ r.2.mem ((c.tc : Thread Cert.WholeRefIdeal.nD Cert.WholeRefIdeal.τ).loc Cert.WholeRefIdeal.main_arg18) = m' ((c.tc : Thread Cert.WholeRefIdeal.nD Cert.WholeRefIdeal.τ).loc Cert.WholeRefIdeal.main_arg18))

def Claim : Prop :=
  ∃ (hAttn : Cert.Attn.Facts) (hAttnIdeal : Cert.AttnIdeal.Facts) (hAttnRefIdeal : Cert.AttnRefIdeal.Facts) (hFront : Cert.Front.Facts) (hFrontIdeal : Cert.FrontIdeal.Facts) (hFrontRefIdeal : Cert.FrontRefIdeal.Facts) (hNorm : Cert.Norm.Facts) (hNormIdeal : Cert.NormIdeal.Facts) (hNormRefIdeal : Cert.NormRefIdeal.Facts) (hWhole : Cert.Whole.Facts) (hWholeIdeal : Cert.WholeIdeal.Facts) (hWholeRefIdeal : Cert.WholeRefIdeal.Facts) (hPre_finite_without_top_ties : Cert.Pre_finite_without_top_ties.Facts) (hPre_whole_finite_without_top_ties : Cert.Pre_whole_finite_without_top_ties.Facts),
    quiescent_Attn (hAttn := hAttn)
    ∧ quiescent_AttnIdeal (hAttnIdeal := hAttnIdeal)
    ∧ quiescent_AttnIdeal_pre_finite_without_top_ties (hAttnIdeal := hAttnIdeal) (hPre_finite_without_top_ties := hPre_finite_without_top_ties)
    ∧ quiescent_AttnRefIdeal (hAttnRefIdeal := hAttnRefIdeal)
    ∧ quiescent_AttnRefIdeal_pre_finite_without_top_ties (hAttnRefIdeal := hAttnRefIdeal) (hPre_finite_without_top_ties := hPre_finite_without_top_ties)
    ∧ quiescent_Front (hFront := hFront)
    ∧ quiescent_FrontIdeal (hFrontIdeal := hFrontIdeal)
    ∧ quiescent_FrontRefIdeal (hFrontRefIdeal := hFrontRefIdeal)
    ∧ quiescent_Norm (hNorm := hNorm)
    ∧ quiescent_NormIdeal (hNormIdeal := hNormIdeal)
    ∧ quiescent_NormRefIdeal (hNormRefIdeal := hNormRefIdeal)
    ∧ quiescent_Whole (hWhole := hWhole)
    ∧ quiescent_WholeIdeal (hWholeIdeal := hWholeIdeal)
    ∧ quiescent_WholeIdeal_pre_whole_finite_without_top_ties (hWholeIdeal := hWholeIdeal) (hPre_whole_finite_without_top_ties := hPre_whole_finite_without_top_ties)
    ∧ quiescent_WholeRefIdeal (hWholeRefIdeal := hWholeRefIdeal)
    ∧ quiescent_WholeRefIdeal_pre_whole_finite_without_top_ties (hWholeRefIdeal := hWholeRefIdeal) (hPre_whole_finite_without_top_ties := hPre_whole_finite_without_top_ties)
    ∧ preserves_Attn_AttnIdeal
    ∧ algebraic_AttnIdeal_AttnRefIdeal_pre_finite_without_top_ties (hAttnIdeal := hAttnIdeal) (hAttnRefIdeal := hAttnRefIdeal) (hPre_finite_without_top_ties := hPre_finite_without_top_ties)
    ∧ preserves_Front_FrontIdeal
    ∧ algebraic_FrontIdeal_FrontRefIdeal (hFrontIdeal := hFrontIdeal) (hFrontRefIdeal := hFrontRefIdeal)
    ∧ preserves_Norm_NormIdeal
    ∧ algebraic_NormIdeal_NormRefIdeal (hNormIdeal := hNormIdeal) (hNormRefIdeal := hNormRefIdeal)
    ∧ preserves_Whole_WholeIdeal
    ∧ algebraic_WholeIdeal_WholeRefIdeal_pre_whole_finite_without_top_ties (hWholeIdeal := hWholeIdeal) (hWholeRefIdeal := hWholeRefIdeal) (hPre_whole_finite_without_top_ties := hPre_whole_finite_without_top_ties)
-- ==== Pre_finite_without_top_ties.lean ====
abbrev S16x2048x32 : Shape := ⟨3, ![16, 2048, 32]⟩
abbrev S16x2560x32 : Shape := ⟨3, ![16, 2560, 32]⟩
abbrev S32x32 : Shape := ⟨2, ![32, 32]⟩
abbrev S1x32 : Shape := ⟨2, ![1, 32]⟩
abbrev S_ : Shape := ⟨0, ![]⟩
abbrev S16x2048x2048 : Shape := ⟨3, ![16, 2048, 2048]⟩
abbrev S16x2048x11 : Shape := ⟨3, ![16, 2048, 11]⟩
abbrev S16x2048x10 : Shape := ⟨3, ![16, 2048, 10]⟩
abbrev S16x2048x42 : Shape := ⟨3, ![16, 2048, 42]⟩

class Facts : Prop where
  slices_S16x2560x32_S16x2048x32_0_256_0 : S16x2560x32.Slices ![0, 256, 0] S16x2048x32
  bcast_S_S16x2048x32 : S_.BroadcastsInDim S16x2048x32 (![] : Fin 0 → Fin S16x2048x32.rank)
  sliceFits_S16x2048x2048_S16x2048x11 : S16x2048x2048.Slices (fun _ => 0) S16x2048x11
  slices_S16x2048x11_S16x2048x10_0_0_0 : S16x2048x11.Slices ![0, 0, 0] S16x2048x10
  slices_S16x2048x11_S16x2048x10_0_0_1 : S16x2048x11.Slices ![0, 0, 1] S16x2048x10
  concatenates_S16x2048x32_S16x2048x10_S16x2048x42_d2 : Shape.Concatenates [S16x2048x32, S16x2048x10] S16x2048x42 2
  dot_S16x2048x32_S16x2048x32_S16x2048x2048_2_2_1_1_0_0_wf : DotDims.WF S16x2048x32 S16x2048x32 S16x2048x2048 [2] [2] [1] [1] [0] [0]

variable [Facts]

def dot_S16x2048x32_S16x2048x32_S16x2048x2048_2_2_1_1_0_0 : DotDims S16x2048x32 S16x2048x32 S16x2048x2048 where
  lhsContracting := [2]
  rhsContracting := [2]
  lhsNonContracting := [1]
  rhsNonContracting := [1]
  lhsBatch := [0]
  rhsBatch := [0]
  wf := dot_S16x2048x32_S16x2048x32_S16x2048x2048_2_2_1_1_0_0_wf
def fn {F : FTy → Type} [FloatOps F] (main_arg0 : FVec F S16x2048x32 .f32) (main_arg1 : FVec F S16x2048x32 .f32) (main_arg2 : FVec F S16x2048x32 .f32) (main_arg3 : FVec F S16x2560x32 .f32) (main_arg4 : FVec F S16x2560x32 .f32) (main_arg5 : FVec F S32x32 .f32) (main_arg6 : FVec F S1x32 .f32) : IVec S16x2048x42 1 :=
  let main_v0 : FVec F S16x2048x32 .f32 := (extractStridedSlice S16x2048x32 ![0, 256, 0] · slices_S16x2560x32_S16x2048x32_0_256_0) main_arg3
  let main_v1 : FVec F S16x2048x32 .f32 := Host.absf main_arg0
  let main_cst : FVec F S_ .f32 := constant S_ .f32 0x7F800000#32
  let main_v2 : FVec F S16x2048x32 .f32 := broadcastInDim S16x2048x32 ![] bcast_S_S16x2048x32 main_cst
  let main_v3 : IVec S16x2048x32 1 := cmpf .olt main_v1 main_v2
  let main_v4 : FVec F S16x2048x32 .f32 := Host.absf main_arg1
  let main_cst_0 : FVec F S_ .f32 := constant S_ .f32 0x7F800000#32
  let main_v5 : FVec F S16x2048x32 .f32 := broadcastInDim S16x2048x32 ![] bcast_S_S16x2048x32 main_cst_0
  let main_v6 : IVec S16x2048x32 1 := cmpf .olt main_v4 main_v5
  let main_v7 : IVec S16x2048x32 1 := andi main_v3 main_v6
  let main_v8 : FVec F S16x2048x32 .f32 := Host.absf main_v0
  let main_cst_1 : FVec F S_ .f32 := constant S_ .f32 0x7F800000#32
  let main_v9 : FVec F S16x2048x32 .f32 := broadcastInDim S16x2048x32 ![] bcast_S_S16x2048x32 main_cst_1
  let main_v10 : IVec S16x2048x32 1 := cmpf .olt main_v8 main_v9
  let main_v11 : IVec S16x2048x32 1 := andi main_v7 main_v10
  let main_v12 : FVec F S16x2048x2048 .f32 := (fun l r => Host.dotGeneral dot_S16x2048x32_S16x2048x32_S16x2048x2048_2_2_1_1_0_0 none l r) main_arg0 main_arg1
  let main_values : FVec F S16x2048x11 .f32 := (fun x => (Host.topK S16x2048x11 2 (FloatOps.cmpfTotal .gt) x sliceFits_S16x2048x2048_S16x2048x11).1) main_v12
  let main_indices : IVec S16x2048x11 32 := (fun x => (Host.topK S16x2048x11 2 (FloatOps.cmpfTotal .gt) x sliceFits_S16x2048x2048_S16x2048x11).2) main_v12
  let main_v13 : FVec F S16x2048x10 .f32 := (extractStridedSlice S16x2048x10 ![0, 0, 0] · slices_S16x2048x11_S16x2048x10_0_0_0) main_values
  let main_v14 : FVec F S16x2048x10 .f32 := (extractStridedSlice S16x2048x10 ![0, 0, 1] · slices_S16x2048x11_S16x2048x10_0_0_1) main_values
  let main_v15 : IVec S16x2048x10 1 := cmpf .ogt main_v13 main_v14
  let main_v16 : IVec S16x2048x42 1 := (fun a b => concatenate S16x2048x42 2 [⟨S16x2048x32, a⟩, ⟨S16x2048x10, b⟩] concatenates_S16x2048x32_S16x2048x10_S16x2048x42_d2) main_v11 main_v15
  main_v16
-- ==== Pre_whole_finite_without_top_ties.lean ====
abbrev S2056x512 : Shape := ⟨2, ![2056, 512]⟩
abbrev S7x512x512 : Shape := ⟨3, ![7, 512, 512]⟩
abbrev S1x512 : Shape := ⟨2, ![1, 512]⟩
abbrev S512x512 : Shape := ⟨2, ![512, 512]⟩
abbrev S32x32 : Shape := ⟨2, ![32, 32]⟩
abbrev S1x32 : Shape := ⟨2, ![1, 32]⟩
abbrev S2048x512 : Shape := ⟨2, ![2048, 512]⟩
abbrev S1x512x512 : Shape := ⟨3, ![1, 512, 512]⟩
abbrev S_ : Shape := ⟨0, ![]⟩
abbrev S2048x16x32 : Shape := ⟨3, ![2048, 16, 32]⟩
abbrev S16x2048x32 : Shape := ⟨3, ![16, 2048, 32]⟩
abbrev S16x2048x2048 : Shape := ⟨3, ![16, 2048, 2048]⟩
abbrev S16x2048x11 : Shape := ⟨3, ![16, 2048, 11]⟩
abbrev S16x2048x10 : Shape := ⟨3, ![16, 2048, 10]⟩
abbrev S16x2048x42 : Shape := ⟨3, ![16, 2048, 42]⟩

class Facts : Prop where
  slices_S2056x512_S2048x512_0_0 : S2056x512.Slices ![0, 0] S2048x512
  slices_S7x512x512_S1x512x512_0_0_0 : S7x512x512.Slices ![0, 0, 0] S1x512x512
  shapeCasts_S1x512x512_S512x512 : S1x512x512.ShapeCasts S512x512
  bcast_S_S2048x512 : S_.BroadcastsInDim S2048x512 (![] : Fin 0 → Fin S2048x512.rank)
  slices_S2056x512_S2048x512_1_0 : S2056x512.Slices ![1, 0] S2048x512
  slices_S7x512x512_S1x512x512_1_0_0 : S7x512x512.Slices ![1, 0, 0] S1x512x512
  slices_S2056x512_S2048x512_2_0 : S2056x512.Slices ![2, 0] S2048x512
  slices_S7x512x512_S1x512x512_2_0_0 : S7x512x512.Slices ![2, 0, 0] S1x512x512
  slices_S2056x512_S2048x512_3_0 : S2056x512.Slices ![3, 0] S2048x512
  slices_S7x512x512_S1x512x512_3_0_0 : S7x512x512.Slices ![3, 0, 0] S1x512x512
  slices_S2056x512_S2048x512_4_0 : S2056x512.Slices ![4, 0] S2048x512
  slices_S7x512x512_S1x512x512_4_0_0 : S7x512x512.Slices ![4, 0, 0] S1x512x512
  slices_S2056x512_S2048x512_5_0 : S2056x512.Slices ![5, 0] S2048x512
  slices_S7x512x512_S1x512x512_5_0_0 : S7x512x512.Slices ![5, 0, 0] S1x512x512
  slices_S2056x512_S2048x512_6_0 : S2056x512.Slices ![6, 0] S2048x512
  slices_S7x512x512_S1x512x512_6_0_0 : S7x512x512.Slices ![6, 0, 0] S1x512x512
  bcast_S1x512_S2048x512_0_1 : S1x512.BroadcastsInDim S2048x512 (![0, 1] : Fin 2 → Fin S2048x512.rank)
  shapeCasts_S2048x512_S2048x16x32 : S2048x512.ShapeCasts S2048x16x32
  transposes_S2048x16x32_S16x2048x32_1_0_2 : S2048x16x32.Transposes [1, 0, 2] S16x2048x32
  bcast_S_S16x2048x32 : S_.BroadcastsInDim S16x2048x32 (![] : Fin 0 → Fin S16x2048x32.rank)
  sliceFits_S16x2048x2048_S16x2048x11 : S16x2048x2048.Slices (fun _ => 0) S16x2048x11
  slices_S16x2048x11_S16x2048x10_0_0_0 : S16x2048x11.Slices ![0, 0, 0] S16x2048x10
  slices_S16x2048x11_S16x2048x10_0_0_1 : S16x2048x11.Slices ![0, 0, 1] S16x2048x10
  concatenates_S16x2048x32_S16x2048x10_S16x2048x42_d2 : Shape.Concatenates [S16x2048x32, S16x2048x10] S16x2048x42 2
  dot_S2048x512_S512x512_S2048x512_1_0_0_1_n_n_wf : DotDims.WF S2048x512 S512x512 S2048x512 [1] [0] [0] [1] [] []
  dot_S16x2048x32_S16x2048x32_S16x2048x2048_2_2_1_1_0_0_wf : DotDims.WF S16x2048x32 S16x2048x32 S16x2048x2048 [2] [2] [1] [1] [0] [0]

variable [Facts]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S16x2048x32_S16x2048x32_S16x2048x2048_2_2_1_1_0_0 : DotDims S16x2048x32 S16x2048x32 S16x2048x2048 where
  lhsContracting := [2]
  rhsContracting := [2]
  lhsNonContracting := [1]
  rhsNonContracting := [1]
  lhsBatch := [0]
  rhsBatch := [0]
  wf := dot_S16x2048x32_S16x2048x32_S16x2048x2048_2_2_1_1_0_0_wf
def fn_relu {F : FTy → Type} [FloatOps F] (arg0 : FVec F S2048x512 .f32) : FVec F S2048x512 .f32 :=
  let cst : FVec F S_ .f32 := constant S_ .f32 0x00000000#32
  let v0 : FVec F S2048x512 .f32 := broadcastInDim S2048x512 ![] bcast_S_S2048x512 cst
  let v1 : FVec F S2048x512 .f32 := maximumf arg0 v0
  v1

def fn_part3 {F : FTy → Type} [FloatOps F] (main_v43 : FVec F S16x2048x32 .f32) (main_v48 : FVec F S16x2048x32 .f32) (main_v58 : FVec F S16x2048x32 .f32) (main_v66 : IVec S16x2048x32 1) (main_v67 : FVec F S16x2048x32 .f32) (main_v68 : FVec F S16x2048x32 .f32) : IVec S16x2048x42 1 :=
  let main_v69 : IVec S16x2048x32 1 := cmpf .olt main_v67 main_v68
  let main_v70 : IVec S16x2048x32 1 := andi main_v66 main_v69
  let main_v71 : FVec F S16x2048x32 .f32 := Host.absf main_v58
  let main_cst_2 : FVec F S_ .f32 := constant S_ .f32 0x7F800000#32
  let main_v72 : FVec F S16x2048x32 .f32 := broadcastInDim S16x2048x32 ![] bcast_S_S16x2048x32 main_cst_2
  let main_v73 : IVec S16x2048x32 1 := cmpf .olt main_v71 main_v72
  let main_v74 : IVec S16x2048x32 1 := andi main_v70 main_v73
  let main_v75 : FVec F S16x2048x2048 .f32 := (fun l r => Host.dotGeneral dot_S16x2048x32_S16x2048x32_S16x2048x2048_2_2_1_1_0_0 none l r) main_v43 main_v48
  let main_values : FVec F S16x2048x11 .f32 := (fun x => (Host.topK S16x2048x11 2 (FloatOps.cmpfTotal .gt) x sliceFits_S16x2048x2048_S16x2048x11).1) main_v75
  let main_indices : IVec S16x2048x11 32 := (fun x => (Host.topK S16x2048x11 2 (FloatOps.cmpfTotal .gt) x sliceFits_S16x2048x2048_S16x2048x11).2) main_v75
  let main_v76 : FVec F S16x2048x10 .f32 := (extractStridedSlice S16x2048x10 ![0, 0, 0] · slices_S16x2048x11_S16x2048x10_0_0_0) main_values
  let main_v77 : FVec F S16x2048x10 .f32 := (extractStridedSlice S16x2048x10 ![0, 0, 1] · slices_S16x2048x11_S16x2048x10_0_0_1) main_values
  let main_v78 : IVec S16x2048x10 1 := cmpf .ogt main_v76 main_v77
  let main_v79 : IVec S16x2048x42 1 := (fun a b => concatenate S16x2048x42 2 [⟨S16x2048x32, a⟩, ⟨S16x2048x10, b⟩] concatenates_S16x2048x32_S16x2048x10_S16x2048x42_d2) main_v74 main_v78
  main_v79

def fn_part2 {F : FTy → Type} [FloatOps F] (main_arg5 : FVec F S512x512 .f32) (main_arg6 : FVec F S1x512 .f32) (main_arg7 : FVec F S512x512 .f32) (main_arg8 : FVec F S1x512 .f32) (main_arg11 : FVec F S512x512 .f32) (main_arg12 : FVec F S1x512 .f32) (main_v38 : FVec F S2048x512 .f32) (main_v43 : FVec F S16x2048x32 .f32) (main_v46 : FVec F S2048x512 .f32) : IVec S16x2048x42 1 :=
  let main_v47 : FVec F S2048x16x32 .f32 := shapeCast S2048x16x32 main_v46 shapeCasts_S2048x512_S2048x16x32
  let main_v48 : FVec F S16x2048x32 .f32 := (transpose S16x2048x32 [1, 0, 2] · transposes_S2048x16x32_S16x2048x32_1_0_2) main_v47
  let main_v49 : FVec F S2048x512 .f32 := (fun l r => Host.dotGeneral dot_S2048x512_S512x512_S2048x512_1_0_0_1_n_n none l r) main_v38 main_arg11
  let main_v50 : FVec F S2048x512 .f32 := broadcastInDim S2048x512 ![0, 1] bcast_S1x512_S2048x512_0_1 main_arg12
  let main_v51 : FVec F S2048x512 .f32 := addf main_v49 main_v50
  let main_v52 : FVec F S2048x16x32 .f32 := shapeCast S2048x16x32 main_v51 shapeCasts_S2048x512_S2048x16x32
  let main_v53 : FVec F S16x2048x32 .f32 := (transpose S16x2048x32 [1, 0, 2] · transposes_S2048x16x32_S16x2048x32_1_0_2) main_v52
  let main_v54 : FVec F S2048x512 .f32 := (fun l r => Host.dotGeneral dot_S2048x512_S512x512_S2048x512_1_0_0_1_n_n none l r) main_v38 main_arg5
  let main_v55 : FVec F S2048x512 .f32 := broadcastInDim S2048x512 ![0, 1] bcast_S1x512_S2048x512_0_1 main_arg6
  let main_v56 : FVec F S2048x512 .f32 := addf main_v54 main_v55
  let main_v57 : FVec F S2048x16x32 .f32 := shapeCast S2048x16x32 main_v56 shapeCasts_S2048x512_S2048x16x32
  let main_v58 : FVec F S16x2048x32 .f32 := (transpose S16x2048x32 [1, 0, 2] · transposes_S2048x16x32_S16x2048x32_1_0_2) main_v57
  let main_v59 : FVec F S2048x512 .f32 := (fun l r => Host.dotGeneral dot_S2048x512_S512x512_S2048x512_1_0_0_1_n_n none l r) main_v38 main_arg7
  let main_v60 : FVec F S2048x512 .f32 := broadcastInDim S2048x512 ![0, 1] bcast_S1x512_S2048x512_0_1 main_arg8
  let main_v61 : FVec F S2048x512 .f32 := addf main_v59 main_v60
  let main_v62 : FVec F S2048x16x32 .f32 := shapeCast S2048x16x32 main_v61 shapeCasts_S2048x512_S2048x16x32
  let main_v63 : FVec F S16x2048x32 .f32 := (transpose S16x2048x32 [1, 0, 2] · transposes_S2048x16x32_S16x2048x32_1_0_2) main_v62
  let main_v64 : FVec F S16x2048x32 .f32 := Host.absf main_v43
  let main_cst_0 : FVec F S_ .f32 := constant S_ .f32 0x7F800000#32
  let main_v65 : FVec F S16x2048x32 .f32 := broadcastInDim S16x2048x32 ![] bcast_S_S16x2048x32 main_cst_0
  let main_v66 : IVec S16x2048x32 1 := cmpf .olt main_v64 main_v65
  let main_v67 : FVec F S16x2048x32 .f32 := Host.absf main_v48
  let main_cst_1 : FVec F S_ .f32 := constant S_ .f32 0x7F800000#32
  let main_v68 : FVec F S16x2048x32 .f32 := broadcastInDim S16x2048x32 ![] bcast_S_S16x2048x32 main_cst_1
  fn_part3 (F := F) main_v43 main_v48 main_v58 main_v66 main_v67 main_v68

def fn_part1 {F : FTy → Type} [FloatOps F] (main_arg0 : FVec F S2056x512 .f32) (main_arg1 : FVec F S7x512x512 .f32) (main_arg2 : FVec F S1x512 .f32) (main_arg3 : FVec F S512x512 .f32) (main_arg4 : FVec F S1x512 .f32) (main_arg5 : FVec F S512x512 .f32) (main_arg6 : FVec F S1x512 .f32) (main_arg7 : FVec F S512x512 .f32) (main_arg8 : FVec F S1x512 .f32) (main_arg9 : FVec F S512x512 .f32) (main_arg10 : FVec F S1x512 .f32) (main_arg11 : FVec F S512x512 .f32) (main_arg12 : FVec F S1x512 .f32) (main_v20 : FVec F S2048x512 .f32) (main_v21 : FVec F S2048x512 .f32) (main_v22 : FVec F S1x512x512 .f32) : IVec S16x2048x42 1 :=
  let main_v23 : FVec F S512x512 .f32 := shapeCast S512x512 main_v22 shapeCasts_S1x512x512_S512x512
  let main_v24 : FVec F S2048x512 .f32 := (fun l r => Host.dotGeneral dot_S2048x512_S512x512_S2048x512_1_0_0_1_n_n none l r) main_v21 main_v23
  let main_v25 : FVec F S2048x512 .f32 := addf main_v20 main_v24
  let main_v26 : FVec F S2048x512 .f32 := (extractStridedSlice S2048x512 ![5, 0] · slices_S2056x512_S2048x512_5_0) main_arg0
  let main_v27 : FVec F S1x512x512 .f32 := (extractStridedSlice S1x512x512 ![5, 0, 0] · slices_S7x512x512_S1x512x512_5_0_0) main_arg1
  let main_v28 : FVec F S512x512 .f32 := shapeCast S512x512 main_v27 shapeCasts_S1x512x512_S512x512
  let main_v29 : FVec F S2048x512 .f32 := (fun l r => Host.dotGeneral dot_S2048x512_S512x512_S2048x512_1_0_0_1_n_n none l r) main_v26 main_v28
  let main_v30 : FVec F S2048x512 .f32 := addf main_v25 main_v29
  let main_v31 : FVec F S2048x512 .f32 := (extractStridedSlice S2048x512 ![6, 0] · slices_S2056x512_S2048x512_6_0) main_arg0
  let main_v32 : FVec F S1x512x512 .f32 := (extractStridedSlice S1x512x512 ![6, 0, 0] · slices_S7x512x512_S1x512x512_6_0_0) main_arg1
  let main_v33 : FVec F S512x512 .f32 := shapeCast S512x512 main_v32 shapeCasts_S1x512x512_S512x512
  let main_v34 : FVec F S2048x512 .f32 := (fun l r => Host.dotGeneral dot_S2048x512_S512x512_S2048x512_1_0_0_1_n_n none l r) main_v31 main_v33
  let main_v35 : FVec F S2048x512 .f32 := addf main_v30 main_v34
  let main_v36 : FVec F S2048x512 .f32 := broadcastInDim S2048x512 ![0, 1] bcast_S1x512_S2048x512_0_1 main_arg2
  let main_v37 : FVec F S2048x512 .f32 := addf main_v35 main_v36
  let main_v38 : FVec F S2048x512 .f32 := fn_relu (F := F) main_v37
  let main_v39 : FVec F S2048x512 .f32 := (fun l r => Host.dotGeneral dot_S2048x512_S512x512_S2048x512_1_0_0_1_n_n none l r) main_v38 main_arg3
  let main_v40 : FVec F S2048x512 .f32 := broadcastInDim S2048x512 ![0, 1] bcast_S1x512_S2048x512_0_1 main_arg4
  let main_v41 : FVec F S2048x512 .f32 := addf main_v39 main_v40
  let main_v42 : FVec F S2048x16x32 .f32 := shapeCast S2048x16x32 main_v41 shapeCasts_S2048x512_S2048x16x32
  let main_v43 : FVec F S16x2048x32 .f32 := (transpose S16x2048x32 [1, 0, 2] · transposes_S2048x16x32_S16x2048x32_1_0_2) main_v42
  let main_v44 : FVec F S2048x512 .f32 := (fun l r => Host.dotGeneral dot_S2048x512_S512x512_S2048x512_1_0_0_1_n_n none l r) main_v38 main_arg9
  let main_v45 : FVec F S2048x512 .f32 := broadcastInDim S2048x512 ![0, 1] bcast_S1x512_S2048x512_0_1 main_arg10
  let main_v46 : FVec F S2048x512 .f32 := addf main_v44 main_v45
  fn_part2 (F := F) main_arg5 main_arg6 main_arg7 main_arg8 main_arg11 main_arg12 main_v38 main_v43 main_v46

def fn {F : FTy → Type} [FloatOps F] (main_arg0 : FVec F S2056x512 .f32) (main_arg1 : FVec F S7x512x512 .f32) (main_arg2 : FVec F S1x512 .f32) (main_arg3 : FVec F S512x512 .f32) (main_arg4 : FVec F S1x512 .f32) (main_arg5 : FVec F S512x512 .f32) (main_arg6 : FVec F S1x512 .f32) (main_arg7 : FVec F S512x512 .f32) (main_arg8 : FVec F S1x512 .f32) (main_arg9 : FVec F S512x512 .f32) (main_arg10 : FVec F S1x512 .f32) (main_arg11 : FVec F S512x512 .f32) (main_arg12 : FVec F S1x512 .f32) (main_arg13 : FVec F S32x32 .f32) (main_arg14 : FVec F S1x32 .f32) (main_arg15 : FVec F S512x512 .f32) (main_arg16 : FVec F S1x512 .f32) (main_arg17 : FVec F S1x512 .f32) (main_arg18 : FVec F S1x512 .f32) : IVec S16x2048x42 1 :=
  let main_v0 : FVec F S2048x512 .f32 := (extractStridedSlice S2048x512 ![0, 0] · slices_S2056x512_S2048x512_0_0) main_arg0
  let main_v1 : FVec F S1x512x512 .f32 := (extractStridedSlice S1x512x512 ![0, 0, 0] · slices_S7x512x512_S1x512x512_0_0_0) main_arg1
  let main_v2 : FVec F S512x512 .f32 := shapeCast S512x512 main_v1 shapeCasts_S1x512x512_S512x512
  let main_v3 : FVec F S2048x512 .f32 := (fun l r => Host.dotGeneral dot_S2048x512_S512x512_S2048x512_1_0_0_1_n_n none l r) main_v0 main_v2
  let main_cst : FVec F S_ .f32 := constant S_ .f32 0x00000000#32
  let main_v4 : FVec F S2048x512 .f32 := broadcastInDim S2048x512 ![] bcast_S_S2048x512 main_cst
  let main_v5 : FVec F S2048x512 .f32 := addf main_v4 main_v3
  let main_v6 : FVec F S2048x512 .f32 := (extractStridedSlice S2048x512 ![1, 0] · slices_S2056x512_S2048x512_1_0) main_arg0
  let main_v7 : FVec F S1x512x512 .f32 := (extractStridedSlice S1x512x512 ![1, 0, 0] · slices_S7x512x512_S1x512x512_1_0_0) main_arg1
  let main_v8 : FVec F S512x512 .f32 := shapeCast S512x512 main_v7 shapeCasts_S1x512x512_S512x512
  let main_v9 : FVec F S2048x512 .f32 := (fun l r => Host.dotGeneral dot_S2048x512_S512x512_S2048x512_1_0_0_1_n_n none l r) main_v6 main_v8
  let main_v10 : FVec F S2048x512 .f32 := addf main_v5 main_v9
  let main_v11 : FVec F S2048x512 .f32 := (extractStridedSlice S2048x512 ![2, 0] · slices_S2056x512_S2048x512_2_0) main_arg0
  let main_v12 : FVec F S1x512x512 .f32 := (extractStridedSlice S1x512x512 ![2, 0, 0] · slices_S7x512x512_S1x512x512_2_0_0) main_arg1
  let main_v13 : FVec F S512x512 .f32 := shapeCast S512x512 main_v12 shapeCasts_S1x512x512_S512x512
  let main_v14 : FVec F S2048x512 .f32 := (fun l r => Host.dotGeneral dot_S2048x512_S512x512_S2048x512_1_0_0_1_n_n none l r) main_v11 main_v13
  let main_v15 : FVec F S2048x512 .f32 := addf main_v10 main_v14
  let main_v16 : FVec F S2048x512 .f32 := (extractStridedSlice S2048x512 ![3, 0] · slices_S2056x512_S2048x512_3_0) main_arg0
  let main_v17 : FVec F S1x512x512 .f32 := (extractStridedSlice S1x512x512 ![3, 0, 0] · slices_S7x512x512_S1x512x512_3_0_0) main_arg1
  let main_v18 : FVec F S512x512 .f32 := shapeCast S512x512 main_v17 shapeCasts_S1x512x512_S512x512
  let main_v19 : FVec F S2048x512 .f32 := (fun l r => Host.dotGeneral dot_S2048x512_S512x512_S2048x512_1_0_0_1_n_n none l r) main_v16 main_v18
  let main_v20 : FVec F S2048x512 .f32 := addf main_v15 main_v19
  let main_v21 : FVec F S2048x512 .f32 := (extractStridedSlice S2048x512 ![4, 0] · slices_S2056x512_S2048x512_4_0) main_arg0
  let main_v22 : FVec F S1x512x512 .f32 := (extractStridedSlice S1x512x512 ![4, 0, 0] · slices_S7x512x512_S1x512x512_4_0_0) main_arg1
  fn_part1 (F := F) main_arg0 main_arg1 main_arg2 main_arg3 main_arg4 main_arg5 main_arg6 main_arg7 main_arg8 main_arg9 main_arg10 main_arg11 main_arg12 main_v20 main_v21 main_v22
-- ==== Attn.lean ====
abbrev S16x2048x32 : Shape := ⟨3, ![16, 2048, 32]⟩
abbrev S16x2560x32 : Shape := ⟨3, ![16, 2560, 32]⟩
abbrev S32x32 : Shape := ⟨2, ![32, 32]⟩
abbrev S1x32 : Shape := ⟨2, ![1, 32]⟩
abbrev S1x2048x32 : Shape := ⟨3, ![1, 2048, 32]⟩
abbrev S1x2560x32 : Shape := ⟨3, ![1, 2560, 32]⟩
abbrev S2048x32 : Shape := ⟨2, ![2048, 32]⟩
abbrev S2048x2048 : Shape := ⟨2, ![2048, 2048]⟩
abbrev S2048x1024 : Shape := ⟨2, ![2048, 1024]⟩
abbrev S2048 : Shape := ⟨1, ![2048]⟩
abbrev S2048x1 : Shape := ⟨2, ![2048, 1]⟩
abbrev S2048x8 : Shape := ⟨2, ![2048, 8]⟩
abbrev S2048x40 : Shape := ⟨2, ![2048, 40]⟩
abbrev S1x2064x32 : Shape := ⟨3, ![1, 2064, 32]⟩
abbrev S2064x32 : Shape := ⟨2, ![2064, 32]⟩

abbrev nBuf : Space → Nat
  | .hbm => 8
  | .vmem => 14
  | .smem => 0
  | _ => 0

abbrev bufTy : (tb : Table) → Fin (tcTables nBuf tb) → BufTy
  | .hbm, ⟨0, _⟩ => ⟨S16x2048x32, .f32⟩
  | .hbm, ⟨1, _⟩ => ⟨S16x2048x32, .f32⟩
  | .hbm, ⟨2, _⟩ => ⟨S16x2048x32, .f32⟩
  | .hbm, ⟨3, _⟩ => ⟨S16x2560x32, .f32⟩
  | .hbm, ⟨4, _⟩ => ⟨S16x2560x32, .f32⟩
  | .hbm, ⟨5, _⟩ => ⟨S32x32, .f32⟩
  | .hbm, ⟨6, _⟩ => ⟨S1x32, .f32⟩
  | .hbm, ⟨7, _⟩ => ⟨S16x2048x32, .f32⟩
  | .local _ .vmem, ⟨0, _⟩ => ⟨S1x2048x32, .f32⟩
  | .local _ .vmem, ⟨1, _⟩ => ⟨S1x2048x32, .f32⟩
  | .local _ .vmem, ⟨2, _⟩ => ⟨S1x2048x32, .f32⟩
  | .local _ .vmem, ⟨3, _⟩ => ⟨S1x2048x32, .f32⟩
  | .local _ .vmem, ⟨4, _⟩ => ⟨S1x2048x32, .f32⟩
  | .local _ .vmem, ⟨5, _⟩ => ⟨S1x2048x32, .f32⟩
  | .local _ .vmem, ⟨6, _⟩ => ⟨S1x2560x32, .f32⟩
  | .local _ .vmem, ⟨7, _⟩ => ⟨S1x2560x32, .f32⟩
  | .local _ .vmem, ⟨8, _⟩ => ⟨S1x2560x32, .f32⟩
  | .local _ .vmem, ⟨9, _⟩ => ⟨S1x2560x32, .f32⟩
  | .local _ .vmem, ⟨10, _⟩ => ⟨S32x32, .f32⟩
  | .local _ .vmem, ⟨11, _⟩ => ⟨S1x32, .f32⟩
  | .local _ .vmem, ⟨12, _⟩ => ⟨S1x2048x32, .f32⟩
  | .local _ .vmem, ⟨13, _⟩ => ⟨S1x2048x32, .f32⟩
  | _, _ => ⟨S16x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 1], ![false, false]⟩

def k0_off1 (i : grid0.Coords) : Fin 3 → Nat :=
  let c0_34 : Index := 0#32
  let arg1 : BitVec 32 := BitVec.ofNat 32 (i 1).val
  let c2048_i32 : BitVec 32 := 2048#32
  let v0 : BitVec 32 := Scalar.muli arg1 c2048_i32
  let c256_i32 : BitVec 32 := 256#32
  let v97 : BitVec 32 := Scalar.addi v0 c256_i32
  let c8_i32 : BitVec 32 := 8#32
  let v98 : BitVec 32 := Scalar.subi v97 c8_i32
  let v99 : Index := Scalar.indexCast v98
  let c0_35 : Index := 0#32
  ![0, v99.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2560x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2560x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnIdeal.lean ====
variable {F : FTy → Type} [FloatOps F] [Named F]
def κ : String → Option EReal := fun
  | "mask" => some ⊥
  | "neg" => some ⊥
  | _ => none
-- ==== AttnRefIdeal.lean ====
abbrev S16x2048x32 : Shape := ⟨3, ![16, 2048, 32]⟩
abbrev S16x2560x32 : Shape := ⟨3, ![16, 2560, 32]⟩
abbrev S32x32 : Shape := ⟨2, ![32, 32]⟩
abbrev S1x32 : Shape := ⟨2, ![1, 32]⟩
abbrev S5 : Shape := ⟨1, ![5]⟩
abbrev S_ : Shape := ⟨0, ![]⟩
abbrev S2048 : Shape := ⟨1, ![2048]⟩
abbrev S2048x1 : Shape := ⟨2, ![2048, 1]⟩
abbrev S1x5 : Shape := ⟨2, ![1, 5]⟩
abbrev S2048x5 : Shape := ⟨2, ![2048, 5]⟩
abbrev S2048x5x1 : Shape := ⟨3, ![2048, 5, 1]⟩
abbrev S16x2048x5x32 : Shape := ⟨4, ![16, 2048, 5, 32]⟩
abbrev S16x2048x5 : Shape := ⟨3, ![16, 2048, 5]⟩
abbrev S1x2048x5 : Shape := ⟨3, ![1, 2048, 5]⟩
abbrev S16x2048 : Shape := ⟨2, ![16, 2048]⟩
abbrev S16x2048x1 : Shape := ⟨3, ![16, 2048, 1]⟩
abbrev S16x2048x2048 : Shape := ⟨3, ![16, 2048, 2048]⟩
abbrev S16x2048x10 : Shape := ⟨3, ![16, 2048, 10]⟩
abbrev S16 : Shape := ⟨1, ![16]⟩
abbrev S16x1x1 : Shape := ⟨3, ![16, 1, 1]⟩
abbrev S16x2048x10x1 : Shape := ⟨4, ![16, 2048, 10, 1]⟩
abbrev S16x2048x10x2 : Shape := ⟨4, ![16, 2048, 10, 2]⟩
abbrev S16x2048x10x32 : Shape := ⟨4, ![16, 2048, 10, 32]⟩
abbrev S1x1x32 : Shape := ⟨3, ![1, 1, 32]⟩

abbrev nBuf : Space → Nat
  | .hbm => 121
  | .vmem => 0
  | .smem => 0
  | _ => 0

abbrev bufTy : (tb : Table) → Fin (tcTables nBuf tb) → BufTy
  | .hbm, ⟨0, _⟩ => ⟨S16x2048x32, .f32⟩
  | .hbm, ⟨1, _⟩ => ⟨S16x2048x32, .f32⟩
  | .hbm, ⟨2, _⟩ => ⟨S16x2048x32, .f32⟩
  | .hbm, ⟨3, _⟩ => ⟨S16x2560x32, .f32⟩
  | .hbm, ⟨4, _⟩ => ⟨S16x2560x32, .f32⟩
  | .hbm, ⟨5, _⟩ => ⟨S32x32, .f32⟩
  | .hbm, ⟨6, _⟩ => ⟨S1x32, .f32⟩
  | .hbm, ⟨7, _⟩ => ⟨S16x2048x32, .f32⟩
  | .hbm, ⟨8, _⟩ => ⟨S16x2048x32, .f32⟩
  | .hbm, ⟨9, _⟩ => ⟨S5, .i32⟩
  | .hbm, ⟨10, _⟩ => ⟨S_, .i32⟩
  | .hbm, ⟨11, _⟩ => ⟨S5, .i32⟩
  | .hbm, ⟨12, _⟩ => ⟨S5, .i32⟩
  | .hbm, ⟨13, _⟩ => ⟨S2048, .i32⟩
  | .hbm, ⟨14, _⟩ => ⟨S2048x1, .i32⟩
  | .hbm, ⟨15, _⟩ => ⟨S1x5, .i32⟩
  | .hbm, ⟨16, _⟩ => ⟨S2048x5, .i32⟩
  | .hbm, ⟨17, _⟩ => ⟨S2048x5, .i32⟩
  | .hbm, ⟨18, _⟩ => ⟨S2048x5, .i32⟩
  | .hbm, ⟨19, _⟩ => ⟨S_, .i32⟩
  | .hbm, ⟨20, _⟩ => ⟨S2048x5, .i32⟩
  | .hbm, ⟨21, _⟩ => ⟨S2048x5, .i1⟩
  | .hbm, ⟨22, _⟩ => ⟨S_, .i32⟩
  | .hbm, ⟨23, _⟩ => ⟨S2048x5, .i32⟩
  | .hbm, ⟨24, _⟩ => ⟨S2048x5, .i1⟩
  | .hbm, ⟨25, _⟩ => ⟨S2048x5, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S2048x5, .i32⟩
  | .hbm, ⟨30, _⟩ => ⟨S2048x5, .i32⟩
  | .hbm, ⟨31, _⟩ => ⟨S_, .i32⟩
  | .hbm, ⟨32, _⟩ => ⟨S2048x5, .i32⟩
  | .hbm, ⟨33, _⟩ => ⟨S2048x5, .i32⟩
  | .hbm, ⟨34, _⟩ => ⟨S_, .i32⟩
  | .hbm, ⟨35, _⟩ => ⟨S2048x5, .i32⟩
  | .hbm, ⟨36, _⟩ => ⟨S2048x5, .i1⟩
  | .hbm, ⟨37, _⟩ => ⟨S_, .i32⟩
  | .hbm, ⟨38, _⟩ => ⟨S2048x5, .i32⟩
  | .hbm, ⟨39, _⟩ => ⟨S2048x5, .i32⟩
  | .hbm, ⟨40, _⟩ => ⟨S2048x5, .i32⟩
  | .hbm, ⟨41, _⟩ => ⟨S2048x5x1, .i32⟩
  | .hbm, ⟨42, _⟩ => ⟨S16x2048x5x32, .f32⟩
  | .hbm, ⟨43, _⟩ => ⟨S_, .i32⟩
  | .hbm, ⟨44, _⟩ => ⟨S2048x5, .i32⟩
  | .hbm, ⟨45, _⟩ => ⟨S2048x5, .i1⟩
  | .hbm, ⟨46, _⟩ => ⟨S_, .i32⟩
  | .hbm, ⟨47, _⟩ => ⟨S2048x5, .i32⟩
  | .hbm, ⟨48, _⟩ => ⟨S2048x5, .i32⟩
  | .hbm, ⟨49, _⟩ => ⟨S2048x5, .i32⟩
  | .hbm, ⟨50, _⟩ => ⟨S2048x5x1, .i32⟩
  | .hbm, ⟨51, _⟩ => ⟨S16x2048x5x32, .f32⟩
  | .hbm, ⟨52, _⟩ => ⟨S16x2048x5, .f32⟩
  | .hbm, ⟨53, _⟩ => ⟨S1x2048x5, .i1⟩
  | .hbm, ⟨54, _⟩ => ⟨S_, .f32⟩
  | .hbm, ⟨55, _⟩ => ⟨S_, .f32⟩
  | .hbm, ⟨56, _⟩ => ⟨S16x2048x5, .i1⟩
  | .hbm, ⟨57, _⟩ => ⟨S16x2048x5, .f32⟩
  | .hbm, ⟨58, _⟩ => ⟨S16x2048x5, .f32⟩
  | .hbm, ⟨59, _⟩ => ⟨S_, .f32⟩
  | .hbm, ⟨60, _⟩ => ⟨S16x2048, .f32⟩
  | .hbm, ⟨61, _⟩ => ⟨S_, .f32⟩
  | .hbm, ⟨62, _⟩ => ⟨S16x2048, .f32⟩
  | .hbm, ⟨63, _⟩ => ⟨S16x2048, .f32⟩
  | .hbm, ⟨64, _⟩ => ⟨S16x2048x1, .f32⟩
  | .hbm, ⟨65, _⟩ => ⟨S16x2048x5, .f32⟩
  | .hbm, ⟨66, _⟩ => ⟨S16x2048x5, .f32⟩
  | .hbm, ⟨67, _⟩ => ⟨S16x2048x5, .f32⟩
  | .hbm, ⟨68, _⟩ => ⟨S_, .f32⟩
  | .hbm, ⟨69, _⟩ => ⟨S16x2048, .f32⟩
  | .hbm, ⟨70, _⟩ => ⟨S16x2048x1, .f32⟩
  | .hbm, ⟨71, _⟩ => ⟨S16x2048x5, .f32⟩
  | .hbm, ⟨72, _⟩ => ⟨S16x2048x5, .f32⟩
  | .hbm, ⟨73, _⟩ => ⟨S16x2048x32, .f32⟩
  | .hbm, ⟨74, _⟩ => ⟨S16x2048x2048, .f32⟩
  | .hbm, ⟨75, _⟩ => ⟨S16x2048x10, .f32⟩
  | .hbm, ⟨76, _⟩ => ⟨S16x2048x10, .i32⟩
  | .hbm, ⟨77, _⟩ => ⟨S_, .f32⟩
  | .hbm, ⟨78, _⟩ => ⟨S16x2048, .f32⟩
  | .hbm, ⟨79, _⟩ => ⟨S_, .f32⟩
  | .hbm, ⟨80, _⟩ => ⟨S16x2048, .f32⟩
  | .hbm, ⟨81, _⟩ => ⟨S16x2048, .f32⟩
  | .hbm, ⟨82, _⟩ => ⟨S16x2048x1, .f32⟩
  | .hbm, ⟨83, _⟩ => ⟨S16x2048x10, .f32⟩
  | .hbm, ⟨84, _⟩ => ⟨S16x2048x10, .f32⟩
  | .hbm, ⟨85, _⟩ => ⟨S16x2048x10, .f32⟩
  | .hbm, ⟨86, _⟩ => ⟨S_, .f32⟩
  | .hbm, ⟨87, _⟩ => ⟨S16x2048, .f32⟩
  | .hbm, ⟨88, _⟩ => ⟨S16x2048x1, .f32⟩
  | .hbm, ⟨89, _⟩ => ⟨S16x2048x10, .f32⟩
  | .hbm, ⟨90, _⟩ => ⟨S16x2048x10, .f32⟩
  | .hbm, ⟨91, _⟩ => ⟨S16, .i32⟩
  | .hbm, ⟨92, _⟩ => ⟨S16x1x1, .i32⟩
  | .hbm, ⟨93, _⟩ => ⟨S_, .i32⟩
  | .hbm, ⟨94, _⟩ => ⟨S16x1x1, .i32⟩
  | .hbm, ⟨95, _⟩ => ⟨S16x1x1, .i1⟩
  | .hbm, ⟨96, _⟩ => ⟨S_, .i32⟩
  | .hbm, ⟨97, _⟩ => ⟨S16x1x1, .i32⟩
  | .hbm, ⟨98, _⟩ => ⟨S16x1x1, .i32⟩
  | .hbm, ⟨99, _⟩ => ⟨S16x1x1, .i32⟩
  | .hbm, ⟨100, _⟩ => ⟨S_, .i32⟩
  | .hbm, ⟨101, _⟩ => ⟨S16x2048x10, .i32⟩
  | .hbm, ⟨102, _⟩ => ⟨S16x2048x10, .i1⟩
  | .hbm, ⟨103, _⟩ => ⟨S_, .i32⟩
  | .hbm, ⟨104, _⟩ => ⟨S16x2048x10, .i32⟩
  | .hbm, ⟨105, _⟩ => ⟨S16x2048x10, .i32⟩
  | .hbm, ⟨106, _⟩ => ⟨S16x2048x10, .i32⟩
  | .hbm, ⟨107, _⟩ => ⟨S16x2048x10, .i32⟩
  | .hbm, ⟨108, _⟩ => ⟨S16x2048x10x1, .i32⟩
  | .hbm, ⟨109, _⟩ => ⟨S16x2048x10x1, .i32⟩
  | .hbm, ⟨110, _⟩ => ⟨S16x2048x10x2, .i32⟩
  | .hbm, ⟨111, _⟩ => ⟨S16x2048x10x32, .f32⟩
  | .hbm, ⟨112, _⟩ => ⟨S16x2048x32, .f32⟩
  | .hbm, ⟨113, _⟩ => ⟨S16x2048x32, .f32⟩
  | .hbm, ⟨114, _⟩ => ⟨S1x1x32, .f32⟩
  | .hbm, ⟨115, _⟩ => ⟨S16x2048x32, .f32⟩
  | .hbm, ⟨116, _⟩ => ⟨S16x2048x32, .f32⟩
  | .hbm, ⟨117, _⟩ => ⟨S16x2048x32, .f32⟩
  | .hbm, ⟨118, _⟩ => ⟨S_, .f32⟩
  | .hbm, ⟨119, _⟩ => ⟨S16x2048x32, .f32⟩
  | .hbm, ⟨120, _⟩ => ⟨S16x2048x32, .f32⟩
  | _, _ => ⟨S16x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_c_3 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_c_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_c_7 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v33 : Ref sig .tc := ⟨.hbm, 58, rfl⟩
abbrev main_cst_8 : Ref sig .tc := ⟨.hbm, 59, rfl⟩
abbrev main_v34 : Ref sig .tc := ⟨.hbm, 60, rfl⟩
abbrev main_cst_9 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_10 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_values : Ref sig .tc := ⟨.hbm, 75, rfl⟩
abbrev main_indices : Ref sig .tc := ⟨.hbm, 76, rfl⟩
abbrev main_cst_11 : Ref sig .tc := ⟨.hbm, 77, rfl⟩
abbrev main_v47 : Ref sig .tc := ⟨.hbm, 78, rfl⟩
abbrev main_cst_12 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_13 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_c_14 : Ref sig .tc := ⟨.hbm, 93, rfl⟩
abbrev main_v60 : Ref sig .tc := ⟨.hbm, 94, rfl⟩
abbrev main_v61 : Ref sig .tc := ⟨.hbm, 95, rfl⟩
abbrev main_c_15 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_c_16 : Ref sig .tc := ⟨.hbm, 100, rfl⟩
abbrev main_v65 : Ref sig .tc := ⟨.hbm, 101, rfl⟩
abbrev main_v66 : Ref sig .tc := ⟨.hbm, 102, rfl⟩
abbrev main_c_17 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_18 : Ref sig .tc := ⟨.hbm, 118, rfl⟩
abbrev main_v81 : Ref sig .tc := ⟨.hbm, 119, rfl⟩
abbrev main_v82 : Ref sig .tc := ⟨.hbm, 120, rfl⟩

abbrev nD : Nat := 1
abbrev τ : Topo := Topo.v7x

variable {F : FTy → Type} [FloatOps F]
-- ==== Front.lean ====
abbrev S2056x512 : Shape := ⟨2, ![2056, 512]⟩
abbrev S7x512x512 : Shape := ⟨3, ![7, 512, 512]⟩
abbrev S1x512 : Shape := ⟨2, ![1, 512]⟩
abbrev S512x512 : Shape := ⟨2, ![512, 512]⟩
abbrev S2048x512 : Shape := ⟨2, ![2048, 512]⟩
abbrev S16x2048x32 : Shape := ⟨3, ![16, 2048, 32]⟩
abbrev S16x2560x32 : Shape := ⟨3, ![16, 2560, 32]⟩
abbrev S256x512 : Shape := ⟨2, ![256, 512]⟩
abbrev S16x256x32 : Shape := ⟨3, ![16, 256, 32]⟩
abbrev S264x512 : Shape := ⟨2, ![264, 512]⟩
abbrev S1x512x512 : Shape := ⟨3, ![1, 512, 512]⟩
abbrev S256x32 : Shape := ⟨2, ![256, 32]⟩
abbrev S1x256x32 : Shape := ⟨3, ![1, 256, 32]⟩

abbrev nBuf : Space → Nat
  | .hbm => 21
  | .vmem => 25
  | .smem => 0
  | _ => 0

abbrev bufTy : (tb : Table) → Fin (tcTables nBuf tb) → BufTy
  | .hbm, ⟨0, _⟩ => ⟨S2056x512, .f32⟩
  | .hbm, ⟨1, _⟩ => ⟨S7x512x512, .f32⟩
  | .hbm, ⟨2, _⟩ => ⟨S1x512, .f32⟩
  | .hbm, ⟨3, _⟩ => ⟨S512x512, .f32⟩
  | .hbm, ⟨4, _⟩ => ⟨S1x512, .f32⟩
  | .hbm, ⟨5, _⟩ => ⟨S512x512, .f32⟩
  | .hbm, ⟨6, _⟩ => ⟨S1x512, .f32⟩
  | .hbm, ⟨7, _⟩ => ⟨S512x512, .f32⟩
  | .hbm, ⟨8, _⟩ => ⟨S1x512, .f32⟩
  | .hbm, ⟨9, _⟩ => ⟨S512x512, .f32⟩
  | .hbm, ⟨10, _⟩ => ⟨S1x512, .f32⟩
  | .hbm, ⟨11, _⟩ => ⟨S512x512, .f32⟩
  | .hbm, ⟨12, _⟩ => ⟨S1x512, .f32⟩
  | .hbm, ⟨13, _⟩ => ⟨S2048x512, .f32⟩
  | .hbm, ⟨14, _⟩ => ⟨S16x2048x32, .f32⟩
  | .hbm, ⟨15, _⟩ => ⟨S16x2048x32, .f32⟩
  | .hbm, ⟨16, _⟩ => ⟨S16x2048x32, .f32⟩
  | .hbm, ⟨17, _⟩ => ⟨S16x2560x32, .f32⟩
  | .hbm, ⟨18, _⟩ => ⟨S16x2560x32, .f32⟩
  | .hbm, ⟨19, _⟩ => ⟨S16x2048x32, .f32⟩
  | .hbm, ⟨20, _⟩ => ⟨S16x2048x32, .f32⟩
  | .local _ .vmem, ⟨0, _⟩ => ⟨S2056x512, .f32⟩
  | .local _ .vmem, ⟨1, _⟩ => ⟨S7x512x512, .f32⟩
  | .local _ .vmem, ⟨2, _⟩ => ⟨S1x512, .f32⟩
  | .local _ .vmem, ⟨3, _⟩ => ⟨S512x512, .f32⟩
  | .local _ .vmem, ⟨4, _⟩ => ⟨S1x512, .f32⟩
  | .local _ .vmem, ⟨5, _⟩ => ⟨S512x512, .f32⟩
  | .local _ .vmem, ⟨6, _⟩ => ⟨S1x512, .f32⟩
  | .local _ .vmem, ⟨7, _⟩ => ⟨S512x512, .f32⟩
  | .local _ .vmem, ⟨8, _⟩ => ⟨S1x512, .f32⟩
  | .local _ .vmem, ⟨9, _⟩ => ⟨S512x512, .f32⟩
  | .local _ .vmem, ⟨10, _⟩ => ⟨S1x512, .f32⟩
  | .local _ .vmem, ⟨11, _⟩ => ⟨S512x512, .f32⟩
  | .local _ .vmem, ⟨12, _⟩ => ⟨S1x512, .f32⟩
  | .local _ .vmem, ⟨13, _⟩ => ⟨S256x512, .f32⟩
  | .local _ .vmem, ⟨14, _⟩ => ⟨S256x512, .f32⟩
  | .local _ .vmem, ⟨15, _⟩ => ⟨S16x256x32, .f32⟩
  | .local _ .vmem, ⟨16, _⟩ => ⟨S16x256x32, .f32⟩
  | .local _ .vmem, ⟨17, _⟩ => ⟨S16x256x32, .f32⟩
  | .local _ .vmem, ⟨18, _⟩ => ⟨S16x256x32, .f32⟩
  | .local _ .vmem, ⟨19, _⟩ => ⟨S16x256x32, .f32⟩
  | .local _ .vmem, ⟨20, _⟩ => ⟨S16x256x32, .f32⟩
  | .local _ .vmem, ⟨21, _⟩ => ⟨S16x256x32, .f32⟩
  | .local _ .vmem, ⟨22, _⟩ => ⟨S16x256x32, .f32⟩
  | .local _ .vmem, ⟨23, _⟩ => ⟨S16x256x32, .f32⟩
  | .local _ .vmem, ⟨24, _⟩ => ⟨S16x256x32, .f32⟩
  | _, _ => ⟨S2056x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev main_v1 : Ref sig .tc := ⟨.hbm, 19, rfl⟩
abbrev main_v2 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg13_1 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem13_1 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : Index := Scalar.indexCast v0
  let c0 : Index := 0#32
  ![v1.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![c0_i32.toNat, v0.toNat, c0_i32_0.toNat]

def cc0_transform_18 (i : grid0.Coords) : Fin 3 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![c0_i32.toNat, v0.toNat, c0_i32_0.toNat]

abbrev stage0_0 : Fin 1 → Memref sig .tc .vmem S2056x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S7x512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x256x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x256x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x256x32 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S16x256x32 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S16x256x32 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== FrontRefIdeal.lean ====
abbrev S2056x512 : Shape := ⟨2, ![2056, 512]⟩
abbrev S7x512x512 : Shape := ⟨3, ![7, 512, 512]⟩
abbrev S1x512 : Shape := ⟨2, ![1, 512]⟩
abbrev S512x512 : Shape := ⟨2, ![512, 512]⟩
abbrev S2048x512 : Shape := ⟨2, ![2048, 512]⟩
abbrev S1x512x512 : Shape := ⟨3, ![1, 512, 512]⟩
abbrev S_ : Shape := ⟨0, ![]⟩
abbrev S2048x16x32 : Shape := ⟨3, ![2048, 16, 32]⟩
abbrev S16x2048x32 : Shape := ⟨3, ![16, 2048, 32]⟩

abbrev nBuf : Space → Nat
  | .hbm => 80
  | .vmem => 0
  | .smem => 0
  | _ => 0

abbrev bufTy : (tb : Table) → Fin (tcTables nBuf tb) → BufTy
  | .hbm, ⟨0, _⟩ => ⟨S2056x512, .f32⟩
  | .hbm, ⟨1, _⟩ => ⟨S7x512x512, .f32⟩
  | .hbm, ⟨2, _⟩ => ⟨S1x512, .f32⟩
  | .hbm, ⟨3, _⟩ => ⟨S512x512, .f32⟩
  | .hbm, ⟨4, _⟩ => ⟨S1x512, .f32⟩
  | .hbm, ⟨5, _⟩ => ⟨S512x512, .f32⟩
  | .hbm, ⟨6, _⟩ => ⟨S1x512, .f32⟩
  | .hbm, ⟨7, _⟩ => ⟨S512x512, .f32⟩
  | .hbm, ⟨8, _⟩ => ⟨S1x512, .f32⟩
  | .hbm, ⟨9, _⟩ => ⟨S512x512, .f32⟩
  | .hbm, ⟨10, _⟩ => ⟨S1x512, .f32⟩
  | .hbm, ⟨11, _⟩ => ⟨S512x512, .f32⟩
  | .hbm, ⟨12, _⟩ => ⟨S1x512, .f32⟩
  | .hbm, ⟨13, _⟩ => ⟨S2048x512, .f32⟩
  | .hbm, ⟨14, _⟩ => ⟨S1x512x512, .f32⟩
  | .hbm, ⟨15, _⟩ => ⟨S512x512, .f32⟩
  | .hbm, ⟨16, _⟩ => ⟨S2048x512, .f32⟩
  | .hbm, ⟨17, _⟩ => ⟨S_, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S1x512x512, .f32⟩
  | .hbm, ⟨22, _⟩ => ⟨S512x512, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S1x512x512, .f32⟩
  | .hbm, ⟨27, _⟩ => ⟨S512x512, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S1x512x512, .f32⟩
  | .hbm, ⟨32, _⟩ => ⟨S512x512, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S1x512x512, .f32⟩
  | .hbm, ⟨37, _⟩ => ⟨S512x512, .f32⟩
  | .hbm, ⟨38, _⟩ => ⟨S2048x512, .f32⟩
  | .hbm, ⟨39, _⟩ => ⟨S2048x512, .f32⟩
  | .hbm, ⟨40, _⟩ => ⟨S2048x512, .f32⟩
  | .hbm, ⟨41, _⟩ => ⟨S1x512x512, .f32⟩
  | .hbm, ⟨42, _⟩ => ⟨S512x512, .f32⟩
  | .hbm, ⟨43, _⟩ => ⟨S2048x512, .f32⟩
  | .hbm, ⟨44, _⟩ => ⟨S2048x512, .f32⟩
  | .hbm, ⟨45, _⟩ => ⟨S2048x512, .f32⟩
  | .hbm, ⟨46, _⟩ => ⟨S1x512x512, .f32⟩
  | .hbm, ⟨47, _⟩ => ⟨S512x512, .f32⟩
  | .hbm, ⟨48, _⟩ => ⟨S2048x512, .f32⟩
  | .hbm, ⟨49, _⟩ => ⟨S2048x512, .f32⟩
  | .hbm, ⟨50, _⟩ => ⟨S2048x512, .f32⟩
  | .hbm, ⟨51, _⟩ => ⟨S2048x512, .f32⟩
  | .hbm, ⟨52, _⟩ => ⟨S_, .f32⟩
  | .hbm, ⟨53, _⟩ => ⟨S2048x512, .f32⟩
  | .hbm, ⟨54, _⟩ => ⟨S2048x512, .f32⟩
  | .hbm, ⟨55, _⟩ => ⟨S2048x512, .f32⟩
  | .hbm, ⟨56, _⟩ => ⟨S2048x512, .f32⟩
  | .hbm, ⟨57, _⟩ => ⟨S2048x512, .f32⟩
  | .hbm, ⟨58, _⟩ => ⟨S2048x16x32, .f32⟩
  | .hbm, ⟨59, _⟩ => ⟨S16x2048x32, .f32⟩
  | .hbm, ⟨60, _⟩ => ⟨S2048x512, .f32⟩
  | .hbm, ⟨61, _⟩ => ⟨S2048x512, .f32⟩
  | .hbm, ⟨62, _⟩ => ⟨S2048x512, .f32⟩
  | .hbm, ⟨63, _⟩ => ⟨S2048x16x32, .f32⟩
  | .hbm, ⟨64, _⟩ => ⟨S16x2048x32, .f32⟩
  | .hbm, ⟨65, _⟩ => ⟨S2048x512, .f32⟩
  | .hbm, ⟨66, _⟩ => ⟨S2048x512, .f32⟩
  | .hbm, ⟨67, _⟩ => ⟨S2048x512, .f32⟩
  | .hbm, ⟨68, _⟩ => ⟨S2048x16x32, .f32⟩
  | .hbm, ⟨69, _⟩ => ⟨S16x2048x32, .f32⟩
  | .hbm, ⟨70, _⟩ => ⟨S2048x512, .f32⟩
  | .hbm, ⟨71, _⟩ => ⟨S2048x512, .f32⟩
  | .hbm, ⟨72, _⟩ => ⟨S2048x512, .f32⟩
  | .hbm, ⟨73, _⟩ => ⟨S2048x16x32, .f32⟩
  | .hbm, ⟨74, _⟩ => ⟨S16x2048x32, .f32⟩
  | .hbm, ⟨75, _⟩ => ⟨S2048x512, .f32⟩
  | .hbm, ⟨76, _⟩ => ⟨S2048x512, .f32⟩
  | .hbm, ⟨77, _⟩ => ⟨S2048x512, .f32⟩
  | .hbm, ⟨78, _⟩ => ⟨S2048x16x32, .f32⟩
  | .hbm, ⟨79, _⟩ => ⟨S16x2048x32, .f32⟩
  | _, _ => ⟨S2056x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call0_cst : Ref sig .tc := ⟨.hbm, 52, rfl⟩
abbrev main_call0_v0 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩

abbrev nD : Nat := 1
abbrev τ : Topo := Topo.v7x

variable {F : FTy → Type} [FloatOps F]
-- ==== Norm.lean ====
abbrev S16x2048x32 : Shape := ⟨3, ![16, 2048, 32]⟩
abbrev S2048x512 : Shape := ⟨2, ![2048, 512]⟩
abbrev S512x512 : Shape := ⟨2, ![512, 512]⟩
abbrev S1x512 : Shape := ⟨2, ![1, 512]⟩
abbrev S16x256x32 : Shape := ⟨3, ![16, 256, 32]⟩
abbrev S256x512 : Shape := ⟨2, ![256, 512]⟩
abbrev S256x16x32 : Shape := ⟨3, ![256, 16, 32]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S16x2048x32, .f32⟩
  | .hbm, ⟨1, _⟩ => ⟨S2048x512, .f32⟩
  | .hbm, ⟨2, _⟩ => ⟨S512x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S2048x512, .f32⟩
  | .local _ .vmem, ⟨0, _⟩ => ⟨S16x256x32, .f32⟩
  | .local _ .vmem, ⟨1, _⟩ => ⟨S16x256x32, .f32⟩
  | .local _ .vmem, ⟨2, _⟩ => ⟨S256x512, .f32⟩
  | .local _ .vmem, ⟨3, _⟩ => ⟨S256x512, .f32⟩
  | .local _ .vmem, ⟨4, _⟩ => ⟨S512x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S256x512, .f32⟩
  | .local _ .vmem, ⟨9, _⟩ => ⟨S256x512, .f32⟩
  | _, _ => ⟨S16x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormRefIdeal.lean ====
abbrev S16x2048x32 : Shape := ⟨3, ![16, 2048, 32]⟩
abbrev S2048x512 : Shape := ⟨2, ![2048, 512]⟩
abbrev S512x512 : Shape := ⟨2, ![512, 512]⟩
abbrev S1x512 : Shape := ⟨2, ![1, 512]⟩
abbrev S2048x16x32 : Shape := ⟨3, ![2048, 16, 32]⟩
abbrev S_ : Shape := ⟨0, ![]⟩
abbrev S2048 : Shape := ⟨1, ![2048]⟩
abbrev S2048x1 : Shape := ⟨2, ![2048, 1]⟩

abbrev nBuf : Space → Nat
  | .hbm => 54
  | .vmem => 0
  | .smem => 0
  | _ => 0

abbrev bufTy : (tb : Table) → Fin (tcTables nBuf tb) → BufTy
  | .hbm, ⟨0, _⟩ => ⟨S16x2048x32, .f32⟩
  | .hbm, ⟨1, _⟩ => ⟨S2048x512, .f32⟩
  | .hbm, ⟨2, _⟩ => ⟨S512x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S2048x16x32, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .i32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2048, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x512, .f32⟩
  | .hbm, ⟨43, _⟩ => ⟨S2048x512, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S2048x1, .f32⟩
  | .hbm, ⟨48, _⟩ => ⟨S2048x512, .f32⟩
  | .hbm, ⟨49, _⟩ => ⟨S2048x512, .f32⟩
  | .hbm, ⟨50, _⟩ => ⟨S2048x512, .f32⟩
  | .hbm, ⟨51, _⟩ => ⟨S2048x512, .f32⟩
  | .hbm, ⟨52, _⟩ => ⟨S2048x512, .f32⟩
  | .hbm, ⟨53, _⟩ => ⟨S2048x512, .f32⟩
  | _, _ => ⟨S16x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_cst_3 : Ref sig .tc := ⟨.hbm, 36, rfl⟩
abbrev main_call0_v13 : Ref sig .tc := ⟨.hbm, 37, rfl⟩
abbrev main_call0_cst_4 : Ref sig .tc := ⟨.hbm, 38, rfl⟩
abbrev main_call0_call0_v0 : Ref sig .tc := ⟨.hbm, 39, rfl⟩
abbrev main_call0_call0_v1 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_cst_1 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩

abbrev nD : Nat := 1
abbrev τ : Topo := Topo.v7x

variable {F : FTy → Type} [FloatOps F]
-- ==== Whole.lean ====
abbrev S2056x512 : Shape := ⟨2, ![2056, 512]⟩
abbrev S7x512x512 : Shape := ⟨3, ![7, 512, 512]⟩
abbrev S1x512 : Shape := ⟨2, ![1, 512]⟩
abbrev S512x512 : Shape := ⟨2, ![512, 512]⟩
abbrev S32x32 : Shape := ⟨2, ![32, 32]⟩
abbrev S1x32 : Shape := ⟨2, ![1, 32]⟩
abbrev S2048x512 : Shape := ⟨2, ![2048, 512]⟩
abbrev S16x2048x32 : Shape := ⟨3, ![16, 2048, 32]⟩
abbrev S16x2560x32 : Shape := ⟨3, ![16, 2560, 32]⟩
abbrev S256x512 : Shape := ⟨2, ![256, 512]⟩
abbrev S16x256x32 : Shape := ⟨3, ![16, 256, 32]⟩
abbrev S264x512 : Shape := ⟨2, ![264, 512]⟩
abbrev S1x512x512 : Shape := ⟨3, ![1, 512, 512]⟩
abbrev S256x32 : Shape := ⟨2, ![256, 32]⟩
abbrev S1x256x32 : Shape := ⟨3, ![1, 256, 32]⟩
abbrev S1x2048x32 : Shape := ⟨3, ![1, 2048, 32]⟩
abbrev S1x2560x32 : Shape := ⟨3, ![1, 2560, 32]⟩
abbrev S2048x32 : Shape := ⟨2, ![2048, 32]⟩
abbrev S2048x2048 : Shape := ⟨2, ![2048, 2048]⟩
abbrev S2048x1024 : Shape := ⟨2, ![2048, 1024]⟩
abbrev S2048 : Shape := ⟨1, ![2048]⟩
abbrev S2048x1 : Shape := ⟨2, ![2048, 1]⟩
abbrev S2048x8 : Shape := ⟨2, ![2048, 8]⟩
abbrev S2048x40 : Shape := ⟨2, ![2048, 40]⟩
abbrev S1x2064x32 : Shape := ⟨3, ![1, 2064, 32]⟩
abbrev S2064x32 : Shape := ⟨2, ![2064, 32]⟩
abbrev S256x16x32 : Shape := ⟨3, ![256, 16, 32]⟩
abbrev S256 : Shape := ⟨1, ![256]⟩
abbrev S256x1 : Shape := ⟨2, ![256, 1]⟩

abbrev nBuf : Space → Nat
  | .hbm => 27
  | .vmem => 49
  | .smem => 0
  | _ => 0

abbrev bufTy : (tb : Table) → Fin (tcTables nBuf tb) → BufTy
  | .hbm, ⟨0, _⟩ => ⟨S2056x512, .f32⟩
  | .hbm, ⟨1, _⟩ => ⟨S7x512x512, .f32⟩
  | .hbm, ⟨2, _⟩ => ⟨S1x512, .f32⟩
  | .hbm, ⟨3, _⟩ => ⟨S512x512, .f32⟩
  | .hbm, ⟨4, _⟩ => ⟨S1x512, .f32⟩
  | .hbm, ⟨5, _⟩ => ⟨S512x512, .f32⟩
  | .hbm, ⟨6, _⟩ => ⟨S1x512, .f32⟩
  | .hbm, ⟨7, _⟩ => ⟨S512x512, .f32⟩
  | .hbm, ⟨8, _⟩ => ⟨S1x512, .f32⟩
  | .hbm, ⟨9, _⟩ => ⟨S512x512, .f32⟩
  | .hbm, ⟨10, _⟩ => ⟨S1x512, .f32⟩
  | .hbm, ⟨11, _⟩ => ⟨S512x512, .f32⟩
  | .hbm, ⟨12, _⟩ => ⟨S1x512, .f32⟩
  | .hbm, ⟨13, _⟩ => ⟨S32x32, .f32⟩
  | .hbm, ⟨14, _⟩ => ⟨S1x32, .f32⟩
  | .hbm, ⟨15, _⟩ => ⟨S512x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S2048x512, .f32⟩
  | .hbm, ⟨20, _⟩ => ⟨S16x2048x32, .f32⟩
  | .hbm, ⟨21, _⟩ => ⟨S16x2048x32, .f32⟩
  | .hbm, ⟨22, _⟩ => ⟨S16x2048x32, .f32⟩
  | .hbm, ⟨23, _⟩ => ⟨S16x2560x32, .f32⟩
  | .hbm, ⟨24, _⟩ => ⟨S16x2560x32, .f32⟩
  | .hbm, ⟨25, _⟩ => ⟨S16x2048x32, .f32⟩
  | .hbm, ⟨26, _⟩ => ⟨S2048x512, .f32⟩
  | .local _ .vmem, ⟨0, _⟩ => ⟨S2056x512, .f32⟩
  | .local _ .vmem, ⟨1, _⟩ => ⟨S7x512x512, .f32⟩
  | .local _ .vmem, ⟨2, _⟩ => ⟨S1x512, .f32⟩
  | .local _ .vmem, ⟨3, _⟩ => ⟨S512x512, .f32⟩
  | .local _ .vmem, ⟨4, _⟩ => ⟨S1x512, .f32⟩
  | .local _ .vmem, ⟨5, _⟩ => ⟨S512x512, .f32⟩
  | .local _ .vmem, ⟨6, _⟩ => ⟨S1x512, .f32⟩
  | .local _ .vmem, ⟨7, _⟩ => ⟨S512x512, .f32⟩
  | .local _ .vmem, ⟨8, _⟩ => ⟨S1x512, .f32⟩
  | .local _ .vmem, ⟨9, _⟩ => ⟨S512x512, .f32⟩
  | .local _ .vmem, ⟨10, _⟩ => ⟨S1x512, .f32⟩
  | .local _ .vmem, ⟨11, _⟩ => ⟨S512x512, .f32⟩
  | .local _ .vmem, ⟨12, _⟩ => ⟨S1x512, .f32⟩
  | .local _ .vmem, ⟨13, _⟩ => ⟨S256x512, .f32⟩
  | .local _ .vmem, ⟨14, _⟩ => ⟨S256x512, .f32⟩
  | .local _ .vmem, ⟨15, _⟩ => ⟨S16x256x32, .f32⟩
  | .local _ .vmem, ⟨16, _⟩ => ⟨S16x256x32, .f32⟩
  | .local _ .vmem, ⟨17, _⟩ => ⟨S16x256x32, .f32⟩
  | .local _ .vmem, ⟨18, _⟩ => ⟨S16x256x32, .f32⟩
  | .local _ .vmem, ⟨19, _⟩ => ⟨S16x256x32, .f32⟩
  | .local _ .vmem, ⟨20, _⟩ => ⟨S16x256x32, .f32⟩
  | .local _ .vmem, ⟨21, _⟩ => ⟨S16x256x32, .f32⟩
  | .local _ .vmem, ⟨22, _⟩ => ⟨S16x256x32, .f32⟩
  | .local _ .vmem, ⟨23, _⟩ => ⟨S16x256x32, .f32⟩
  | .local _ .vmem, ⟨24, _⟩ => ⟨S16x256x32, .f32⟩
  | .local _ .vmem, ⟨25, _⟩ => ⟨S1x2048x32, .f32⟩
  | .local _ .vmem, ⟨26, _⟩ => ⟨S1x2048x32, .f32⟩
  | .local _ .vmem, ⟨27, _⟩ => ⟨S1x2048x32, .f32⟩
  | .local _ .vmem, ⟨28, _⟩ => ⟨S1x2048x32, .f32⟩
  | .local _ .vmem, ⟨29, _⟩ => ⟨S1x2048x32, .f32⟩
  | .local _ .vmem, ⟨30, _⟩ => ⟨S1x2048x32, .f32⟩
  | .local _ .vmem, ⟨31, _⟩ => ⟨S1x2560x32, .f32⟩
  | .local _ .vmem, ⟨32, _⟩ => ⟨S1x2560x32, .f32⟩
  | .local _ .vmem, ⟨33, _⟩ => ⟨S1x2560x32, .f32⟩
  | .local _ .vmem, ⟨34, _⟩ => ⟨S1x2560x32, .f32⟩
  | .local _ .vmem, ⟨35, _⟩ => ⟨S32x32, .f32⟩
  | .local _ .vmem, ⟨36, _⟩ => ⟨S1x32, .f32⟩
  | .local _ .vmem, ⟨37, _⟩ => ⟨S1x2048x32, .f32⟩
  | .local _ .vmem, ⟨38, _⟩ => ⟨S1x2048x32, .f32⟩
  | .local _ .vmem, ⟨39, _⟩ => ⟨S16x256x32, .f32⟩
  | .local _ .vmem, ⟨40, _⟩ => ⟨S16x256x32, .f32⟩
  | .local _ .vmem, ⟨41, _⟩ => ⟨S256x512, .f32⟩
  | .local _ .vmem, ⟨42, _⟩ => ⟨S256x512, .f32⟩
  | .local _ .vmem, ⟨43, _⟩ => ⟨S512x512, .f32⟩
  | .local _ .vmem, ⟨44, _⟩ => ⟨S1x512, .f32⟩
  | .local _ .vmem, ⟨45, _⟩ => ⟨S1x512, .f32⟩
  | .local _ .vmem, ⟨46, _⟩ => ⟨S1x512, .f32⟩
  | .local _ .vmem, ⟨47, _⟩ => ⟨S256x512, .f32⟩
  | .local _ .vmem, ⟨48, _⟩ => ⟨S256x512, .f32⟩
  | _, _ => ⟨S2056x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0_0 : Ref sig .tc := ⟨.hbm, 19, rfl⟩
abbrev main_v0_1 : Ref sig .tc := ⟨.hbm, 20, rfl⟩
abbrev main_v0_2 : Ref sig .tc := ⟨.hbm, 21, rfl⟩
abbrev main_v0_3 : Ref sig .tc := ⟨.hbm, 22, rfl⟩
abbrev main_v0_4 : Ref sig .tc := ⟨.hbm, 23, rfl⟩
abbrev main_v0_5 : Ref sig .tc := ⟨.hbm, 24, rfl⟩
abbrev main_v1 : Ref sig .tc := ⟨.hbm, 25, rfl⟩
abbrev main_v2 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg13_1 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc1_stg0_0 : Ref sig .tc := ⟨.vmem, 25, rfl⟩
abbrev cc1_stg0_1 : Ref sig .tc := ⟨.vmem, 26, rfl⟩
abbrev cc1_stg1_0 : Ref sig .tc := ⟨.vmem, 27, rfl⟩
abbrev cc1_stg1_1 : Ref sig .tc := ⟨.vmem, 28, rfl⟩
abbrev cc1_stg2_0 : Ref sig .tc := ⟨.vmem, 29, rfl⟩
abbrev cc1_stg2_1 : Ref sig .tc := ⟨.vmem, 30, rfl⟩
abbrev cc1_stg3_0 : Ref sig .tc := ⟨.vmem, 31, rfl⟩
abbrev cc1_stg3_1 : Ref sig .tc := ⟨.vmem, 32, rfl⟩
abbrev cc1_stg4_0 : Ref sig .tc := ⟨.vmem, 33, rfl⟩
abbrev cc1_stg4_1 : Ref sig .tc := ⟨.vmem, 34, rfl⟩
abbrev cc1_stg5_0 : Ref sig .tc := ⟨.vmem, 35, rfl⟩
abbrev cc1_stg6_0 : Ref sig .tc := ⟨.vmem, 36, rfl⟩
abbrev cc1_stg7_0 : Ref sig .tc := ⟨.vmem, 37, rfl⟩
abbrev cc1_stg7_1 : Ref sig .tc := ⟨.vmem, 38, rfl⟩
abbrev cc2_stg0_0 : Ref sig .tc := ⟨.vmem, 39, rfl⟩
abbrev cc2_stg0_1 : Ref sig .tc := ⟨.vmem, 40, rfl⟩
abbrev cc2_stg1_0 : Ref sig .tc := ⟨.vmem, 41, rfl⟩
abbrev cc2_stg1_1 : Ref sig .tc := ⟨.vmem, 42, rfl⟩
abbrev cc2_stg2_0 : Ref sig .tc := ⟨.vmem, 43, rfl⟩
abbrev cc2_stg3_0 : Ref sig .tc := ⟨.vmem, 44, rfl⟩
abbrev cc2_stg4_0 : Ref sig .tc := ⟨.vmem, 45, rfl⟩
abbrev cc2_stg5_0 : Ref sig .tc := ⟨.vmem, 46, rfl⟩
abbrev cc2_stg6_0 : Ref sig .tc := ⟨.vmem, 47, rfl⟩
abbrev cc2_stg6_1 : Ref sig .tc := ⟨.vmem, 48, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem13_1 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc1_sem0_0 : DmaSem sig := 25
abbrev cc1_sem0_1 : DmaSem sig := 26
abbrev cc1_sem1_0 : DmaSem sig := 27
abbrev cc1_sem1_1 : DmaSem sig := 28
abbrev cc1_sem2_0 : DmaSem sig := 29
abbrev cc1_sem2_1 : DmaSem sig := 30
abbrev cc1_sem3_0 : DmaSem sig := 31
abbrev cc1_sem3_1 : DmaSem sig := 32
abbrev cc1_sem4_0 : DmaSem sig := 33
abbrev cc1_sem4_1 : DmaSem sig := 34
abbrev cc1_sem5_0 : DmaSem sig := 35
abbrev cc1_sem6_0 : DmaSem sig := 36
abbrev cc1_sem7_0 : DmaSem sig := 37
abbrev cc1_sem7_1 : DmaSem sig := 38
abbrev cc2_sem0_0 : DmaSem sig := 39
abbrev cc2_sem0_1 : DmaSem sig := 40
abbrev cc2_sem1_0 : DmaSem sig := 41
abbrev cc2_sem1_1 : DmaSem sig := 42
abbrev cc2_sem2_0 : DmaSem sig := 43
abbrev cc2_sem3_0 : DmaSem sig := 44
abbrev cc2_sem4_0 : DmaSem sig := 45
abbrev cc2_sem5_0 : DmaSem sig := 46
abbrev cc2_sem6_0 : DmaSem sig := 47
abbrev cc2_sem6_1 : DmaSem sig := 48

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : Index := Scalar.indexCast v0
  let c0 : Index := 0#32
  ![v1.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![c0_i32.toNat, v0.toNat, c0_i32_0.toNat]

def cc0_transform_18 (i : grid0.Coords) : Fin 3 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![c0_i32.toNat, v0.toNat, c0_i32_0.toNat]

abbrev stage0_0 : Fin 1 → Memref sig .tc .vmem S2056x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S7x512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x256x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x256x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x256x32 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S16x256x32 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S16x256x32 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev grid1 : Pipeline.Grid := ⟨2, ![16, 1], ![false, false]⟩

def k1_off1 (i : grid1.Coords) : Fin 3 → Nat :=
  let c0_34 : Index := 0#32
  let arg1 : BitVec 32 := BitVec.ofNat 32 (i 1).val
  let c2048_i32 : BitVec 32 := 2048#32
  let v0 : BitVec 32 := Scalar.muli arg1 c2048_i32
  let c256_i32 : BitVec 32 := 256#32
  let v97 : BitVec 32 := Scalar.addi v0 c256_i32
  let c8_i32 : BitVec 32 := 8#32
  let v98 : BitVec 32 := Scalar.subi v97 c8_i32
  let v99 : Index := Scalar.indexCast v98
  let c0_35 : Index := 0#32
  ![0, v99.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2560x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2560x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S32x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x2048x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16x256x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S256x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]
-- ==== WholeIdeal.lean ====
variable {F : FTy → Type} [FloatOps F] [Named F]
def κ : String → Option EReal := fun
  | "mask" => some ⊥
  | "neg" => some ⊥
  | _ => none
-- ==== WholeRefIdeal.lean ====
abbrev S2056x512 : Shape := ⟨2, ![2056, 512]⟩
abbrev S7x512x512 : Shape := ⟨3, ![7, 512, 512]⟩
abbrev S1x512 : Shape := ⟨2, ![1, 512]⟩
abbrev S512x512 : Shape := ⟨2, ![512, 512]⟩
abbrev S32x32 : Shape := ⟨2, ![32, 32]⟩
abbrev S1x32 : Shape := ⟨2, ![1, 32]⟩
abbrev S2048x512 : Shape := ⟨2, ![2048, 512]⟩
abbrev S1x512x512 : Shape := ⟨3, ![1, 512, 512]⟩
abbrev S_ : Shape := ⟨0, ![]⟩
abbrev S2048x16x32 : Shape := ⟨3, ![2048, 16, 32]⟩
abbrev S16x2048x32 : Shape := ⟨3, ![16, 2048, 32]⟩
abbrev S5 : Shape := ⟨1, ![5]⟩
abbrev S2048 : Shape := ⟨1, ![2048]⟩
abbrev S2048x1 : Shape := ⟨2, ![2048, 1]⟩
abbrev S1x5 : Shape := ⟨2, ![1, 5]⟩
abbrev S2048x5 : Shape := ⟨2, ![2048, 5]⟩
abbrev S2048x5x1 : Shape := ⟨3, ![2048, 5, 1]⟩
abbrev S16x2048x5x32 : Shape := ⟨4, ![16, 2048, 5, 32]⟩
abbrev S16x2048x5 : Shape := ⟨3, ![16, 2048, 5]⟩
abbrev S1x2048x5 : Shape := ⟨3, ![1, 2048, 5]⟩
abbrev S16x2048 : Shape := ⟨2, ![16, 2048]⟩
abbrev S16x2048x1 : Shape := ⟨3, ![16, 2048, 1]⟩
abbrev S16x2048x2048 : Shape := ⟨3, ![16, 2048, 2048]⟩
abbrev S16x2048x10 : Shape := ⟨3, ![16, 2048, 10]⟩
abbrev S16 : Shape := ⟨1, ![16]⟩
abbrev S16x1x1 : Shape := ⟨3, ![16, 1, 1]⟩
abbrev S16x2048x10x1 : Shape := ⟨4, ![16, 2048, 10, 1]⟩
abbrev S16x2048x10x2 : Shape := ⟨4, ![16, 2048, 10, 2]⟩
abbrev S16x2048x10x32 : Shape := ⟨4, ![16, 2048, 10, 32]⟩
abbrev S1x1x32 : Shape := ⟨3, ![1, 1, 32]⟩

abbrev nBuf : Space → Nat
  | .hbm => 246
  | .vmem => 0
  | .smem => 0
  | _ => 0

abbrev hbmTy0_0 (i : Nat) : BufTy := match i % 128 with
  | 0 => ⟨S2056x512, .f32⟩
  | 1 => ⟨S7x512x512, .f32⟩
  | 2 => ⟨S1x512, .f32⟩
  | 3 => ⟨S512x512, .f32⟩
  | 4 => ⟨S1x512, .f32⟩
  | 5 => ⟨S512x512, .f32⟩
  | 6 => ⟨S1x512, .f32⟩
  | 7 => ⟨S512x512, .f32⟩
  | 8 => ⟨S1x512, .f32⟩
  | 9 => ⟨S512x512, .f32⟩
  | 10 => ⟨S1x512, .f32⟩
  | 11 => ⟨S512x512, .f32⟩
  | 12 => ⟨S1x512, .f32⟩
  | 13 => ⟨S32x32, .f32⟩
  | 14 => ⟨S1x32, .f32⟩
  | 15 => ⟨S512x512, .f32⟩
  | 16 => ⟨S1x512, .f32⟩
  | 17 => ⟨S1x512, .f32⟩
  | 18 => ⟨S1x512, .f32⟩
  | 19 => ⟨S2048x512, .f32⟩
  | 20 => ⟨S1x512x512, .f32⟩
  | 21 => ⟨S512x512, .f32⟩
  | 22 => ⟨S2048x512, .f32⟩
  | 23 => ⟨S_, .f32⟩
  | 24 => ⟨S2048x512, .f32⟩
  | 25 => ⟨S2048x512, .f32⟩
  | 26 => ⟨S2048x512, .f32⟩
  | 27 => ⟨S1x512x512, .f32⟩
  | 28 => ⟨S512x512, .f32⟩
  | 29 => ⟨S2048x512, .f32⟩
  | 30 => ⟨S2048x512, .f32⟩
  | 31 => ⟨S2048x512, .f32⟩
  | 32 => ⟨S1x512x512, .f32⟩
  | 33 => ⟨S512x512, .f32⟩
  | 34 => ⟨S2048x512, .f32⟩
  | 35 => ⟨S2048x512, .f32⟩
  | 36 => ⟨S2048x512, .f32⟩
  | 37 => ⟨S1x512x512, .f32⟩
  | 38 => ⟨S512x512, .f32⟩
  | 39 => ⟨S2048x512, .f32⟩
  | 40 => ⟨S2048x512, .f32⟩
  | 41 => ⟨S2048x512, .f32⟩
  | 42 => ⟨S1x512x512, .f32⟩
  | 43 => ⟨S512x512, .f32⟩
  | 44 => ⟨S2048x512, .f32⟩
  | 45 => ⟨S2048x512, .f32⟩
  | 46 => ⟨S2048x512, .f32⟩
  | 47 => ⟨S1x512x512, .f32⟩
  | 48 => ⟨S512x512, .f32⟩
  | 49 => ⟨S2048x512, .f32⟩
  | 50 => ⟨S2048x512, .f32⟩
  | 51 => ⟨S2048x512, .f32⟩
  | 52 => ⟨S1x512x512, .f32⟩
  | 53 => ⟨S512x512, .f32⟩
  | 54 => ⟨S2048x512, .f32⟩
  | 55 => ⟨S2048x512, .f32⟩
  | 56 => ⟨S2048x512, .f32⟩
  | 57 => ⟨S2048x512, .f32⟩
  | 58 => ⟨S_, .f32⟩
  | 59 => ⟨S2048x512, .f32⟩
  | 60 => ⟨S2048x512, .f32⟩
  | 61 => ⟨S2048x512, .f32⟩
  | 62 => ⟨S2048x512, .f32⟩
  | 63 => ⟨S2048x512, .f32⟩
  | 64 => ⟨S2048x16x32, .f32⟩
  | 65 => ⟨S16x2048x32, .f32⟩
  | 66 => ⟨S2048x512, .f32⟩
  | 67 => ⟨S2048x512, .f32⟩
  | 68 => ⟨S2048x512, .f32⟩
  | 69 => ⟨S2048x16x32, .f32⟩
  | 70 => ⟨S16x2048x32, .f32⟩
  | 71 => ⟨S2048x512, .f32⟩
  | 72 => ⟨S2048x512, .f32⟩
  | 73 => ⟨S2048x512, .f32⟩
  | 74 => ⟨S2048x16x32, .f32⟩
  | 75 => ⟨S16x2048x32, .f32⟩
  | 76 => ⟨S2048x512, .f32⟩
  | 77 => ⟨S2048x512, .f32⟩
  | 78 => ⟨S2048x512, .f32⟩
  | 79 => ⟨S2048x16x32, .f32⟩
  | 80 => ⟨S16x2048x32, .f32⟩
  | 81 => ⟨S2048x512, .f32⟩
  | 82 => ⟨S2048x512, .f32⟩
  | 83 => ⟨S2048x512, .f32⟩
  | 84 => ⟨S2048x16x32, .f32⟩
  | 85 => ⟨S16x2048x32, .f32⟩
  | 86 => ⟨S5, .i32⟩
  | 87 => ⟨S_, .i32⟩
  | 88 => ⟨S5, .i32⟩
  | 89 => ⟨S5, .i32⟩
  | 90 => ⟨S2048, .i32⟩
  | 91 => ⟨S2048x1, .i32⟩
  | 92 => ⟨S1x5, .i32⟩
  | 93 => ⟨S2048x5, .i32⟩
  | 94 => ⟨S2048x5, .i32⟩
  | 95 => ⟨S2048x5, .i32⟩
  | 96 => ⟨S_, .i32⟩
  | 97 => ⟨S2048x5, .i32⟩
  | 98 => ⟨S2048x5, .i1⟩
  | 99 => ⟨S_, .i32⟩
  | 100 => ⟨S2048x5, .i32⟩
  | 101 => ⟨S2048x5, .i1⟩
  | 102 => ⟨S2048x5, .i1⟩
  | 103 => ⟨S_, .i32⟩
  | 104 => ⟨S_, .i32⟩
  | 105 => ⟨S_, .i32⟩
  | 106 => ⟨S2048x5, .i32⟩
  | 107 => ⟨S2048x5, .i32⟩
  | 108 => ⟨S_, .i32⟩
  | 109 => ⟨S2048x5, .i32⟩
  | 110 => ⟨S2048x5, .i32⟩
  | 111 => ⟨S_, .i32⟩
  | 112 => ⟨S2048x5, .i32⟩
  | 113 => ⟨S2048x5, .i1⟩
  | 114 => ⟨S_, .i32⟩
  | 115 => ⟨S2048x5, .i32⟩
  | 116 => ⟨S2048x5, .i32⟩
  | 117 => ⟨S2048x5, .i32⟩
  | 118 => ⟨S2048x5x1, .i32⟩
  | 119 => ⟨S16x2048x5x32, .f32⟩
  | 120 => ⟨S_, .i32⟩
  | 121 => ⟨S2048x5, .i32⟩
  | 122 => ⟨S2048x5, .i1⟩
  | 123 => ⟨S_, .i32⟩
  | 124 => ⟨S2048x5, .i32⟩
  | 125 => ⟨S2048x5, .i32⟩
  | 126 => ⟨S2048x5, .i32⟩
  | 127 => ⟨S2048x5x1, .i32⟩
  | _ => ⟨S2056x512, .f32⟩

abbrev hbmTy0_1 (i : Nat) : BufTy := match i % 128 with
  | 0 => ⟨S16x2048x5x32, .f32⟩
  | 1 => ⟨S16x2048x5, .f32⟩
  | 2 => ⟨S1x2048x5, .i1⟩
  | 3 => ⟨S_, .f32⟩
  | 4 => ⟨S_, .f32⟩
  | 5 => ⟨S16x2048x5, .i1⟩
  | 6 => ⟨S16x2048x5, .f32⟩
  | 7 => ⟨S16x2048x5, .f32⟩
  | 8 => ⟨S_, .f32⟩
  | 9 => ⟨S16x2048, .f32⟩
  | 10 => ⟨S_, .f32⟩
  | 11 => ⟨S16x2048, .f32⟩
  | 12 => ⟨S16x2048, .f32⟩
  | 13 => ⟨S16x2048x1, .f32⟩
  | 14 => ⟨S16x2048x5, .f32⟩
  | 15 => ⟨S16x2048x5, .f32⟩
  | 16 => ⟨S16x2048x5, .f32⟩
  | 17 => ⟨S_, .f32⟩
  | 18 => ⟨S16x2048, .f32⟩
  | 19 => ⟨S16x2048x1, .f32⟩
  | 20 => ⟨S16x2048x5, .f32⟩
  | 21 => ⟨S16x2048x5, .f32⟩
  | 22 => ⟨S16x2048x32, .f32⟩
  | 23 => ⟨S16x2048x2048, .f32⟩
  | 24 => ⟨S16x2048x10, .f32⟩
  | 25 => ⟨S16x2048x10, .i32⟩
  | 26 => ⟨S_, .f32⟩
  | 27 => ⟨S16x2048, .f32⟩
  | 28 => ⟨S_, .f32⟩
  | 29 => ⟨S16x2048, .f32⟩
  | 30 => ⟨S16x2048, .f32⟩
  | 31 => ⟨S16x2048x1, .f32⟩
  | 32 => ⟨S16x2048x10, .f32⟩
  | 33 => ⟨S16x2048x10, .f32⟩
  | 34 => ⟨S16x2048x10, .f32⟩
  | 35 => ⟨S_, .f32⟩
  | 36 => ⟨S16x2048, .f32⟩
  | 37 => ⟨S16x2048x1, .f32⟩
  | 38 => ⟨S16x2048x10, .f32⟩
  | 39 => ⟨S16x2048x10, .f32⟩
  | 40 => ⟨S16, .i32⟩
  | 41 => ⟨S16x1x1, .i32⟩
  | 42 => ⟨S_, .i32⟩
  | 43 => ⟨S16x1x1, .i32⟩
  | 44 => ⟨S16x1x1, .i1⟩
  | 45 => ⟨S_, .i32⟩
  | 46 => ⟨S16x1x1, .i32⟩
  | 47 => ⟨S16x1x1, .i32⟩
  | 48 => ⟨S16x1x1, .i32⟩
  | 49 => ⟨S_, .i32⟩
  | 50 => ⟨S16x2048x10, .i32⟩
  | 51 => ⟨S16x2048x10, .i1⟩
  | 52 => ⟨S_, .i32⟩
  | 53 => ⟨S16x2048x10, .i32⟩
  | 54 => ⟨S16x2048x10, .i32⟩
  | 55 => ⟨S16x2048x10, .i32⟩
  | 56 => ⟨S16x2048x10, .i32⟩
  | 57 => ⟨S16x2048x10x1, .i32⟩
  | 58 => ⟨S16x2048x10x1, .i32⟩
  | 59 => ⟨S16x2048x10x2, .i32⟩
  | 60 => ⟨S16x2048x10x32, .f32⟩
  | 61 => ⟨S16x2048x32, .f32⟩
  | 62 => ⟨S16x2048x32, .f32⟩
  | 63 => ⟨S1x1x32, .f32⟩
  | 64 => ⟨S16x2048x32, .f32⟩
  | 65 => ⟨S16x2048x32, .f32⟩
  | 66 => ⟨S16x2048x32, .f32⟩
  | 67 => ⟨S_, .f32⟩
  | 68 => ⟨S16x2048x32, .f32⟩
  | 69 => ⟨S16x2048x32, .f32⟩
  | 70 => ⟨S2048x16x32, .f32⟩
  | 71 => ⟨S2048x512, .f32⟩
  | 72 => ⟨S2048x512, .f32⟩
  | 73 => ⟨S2048x512, .f32⟩
  | 74 => ⟨S2048x512, .f32⟩
  | 75 => ⟨S2048x512, .f32⟩
  | 76 => ⟨S_, .f32⟩
  | 77 => ⟨S2048, .f32⟩
  | 78 => ⟨S2048x1, .f32⟩
  | 79 => ⟨S_, .f32⟩
  | 80 => ⟨S2048x1, .f32⟩
  | 81 => ⟨S2048x1, .f32⟩
  | 82 => ⟨S_, .i32⟩
  | 83 => ⟨S_, .f32⟩
  | 84 => ⟨S2048, .f32⟩
  | 85 => ⟨S2048x1, .f32⟩
  | 86 => ⟨S_, .f32⟩
  | 87 => ⟨S2048x1, .f32⟩
  | 88 => ⟨S2048x1, .f32⟩
  | 89 => ⟨S2048x512, .f32⟩
  | 90 => ⟨S2048x512, .f32⟩
  | 91 => ⟨S2048x512, .f32⟩
  | 92 => ⟨S_, .f32⟩
  | 93 => ⟨S_, .f32⟩
  | 94 => ⟨S_, .f32⟩
  | 95 => ⟨S_, .f32⟩
  | 96 => ⟨S2048, .f32⟩
  | 97 => ⟨S2048x1, .f32⟩
  | 98 => ⟨S2048x1, .f32⟩
  | 99 => ⟨S2048x1, .f32⟩
  | 100 => ⟨S_, .f32⟩
  | 101 => ⟨S_, .i1⟩
  | 102 => ⟨S_, .f32⟩
  | 103 => ⟨S_, .f32⟩
  | 104 => ⟨S2048x1, .f32⟩
  | 105 => ⟨S2048x1, .f32⟩
  | 106 => ⟨S2048x512, .f32⟩
  | 107 => ⟨S2048x512, .f32⟩
  | 108 => ⟨S_, .f32⟩
  | 109 => ⟨S2048x1, .f32⟩
  | 110 => ⟨S2048x1, .f32⟩
  | 111 => ⟨S2048x1, .f32⟩
  | 112 => ⟨S2048x512, .f32⟩
  | 113 => ⟨S2048x512, .f32⟩
  | 114 => ⟨S2048x512, .f32⟩
  | 115 => ⟨S2048x512, .f32⟩
  | 116 => ⟨S2048x512, .f32⟩
  | 117 => ⟨S2048x512, .f32⟩
  | _ => ⟨S2056x512, .f32⟩

abbrev hbmTy (i : Nat) : BufTy := match i / 128 with
  | 0 => hbmTy0_0 i
  | 1 => hbmTy0_1 i
  | _ => ⟨S2056x512, .f32⟩

abbrev bufTy : (tb : Table) → Fin (tcTables nBuf tb) → BufTy
  | .hbm, ⟨i, _⟩ => hbmTy i
  | _, _ => ⟨S2056x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call0_cst : Ref sig .tc := ⟨.hbm, 58, rfl⟩
abbrev main_call0_v0 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_0 : Ref sig .tc := ⟨.hbm, 96, rfl⟩
abbrev main_v73 : Ref sig .tc := ⟨.hbm, 97, rfl⟩
abbrev main_v74 : Ref sig .tc := ⟨.hbm, 98, rfl⟩
abbrev main_c_1 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_c_2 : Ref sig .tc := ⟨.hbm, 103, rfl⟩
abbrev main_c_3 : Ref sig .tc := ⟨.hbm, 104, rfl⟩
abbrev main_call1_v0 : Ref sig .tc := ⟨.hbm, 105, rfl⟩
abbrev main_call1_v1 : Ref sig .tc := ⟨.hbm, 106, rfl⟩
abbrev main_call1_v2 : Ref sig .tc := ⟨.hbm, 107, rfl⟩
abbrev main_call1_v3 : Ref sig .tc := ⟨.hbm, 108, rfl⟩
abbrev main_call1_v4 : Ref sig .tc := ⟨.hbm, 109, rfl⟩
abbrev main_v78 : Ref sig .tc := ⟨.hbm, 110, rfl⟩
abbrev main_c_4 : Ref sig .tc := ⟨.hbm, 111, rfl⟩
abbrev main_v79 : Ref sig .tc := ⟨.hbm, 112, rfl⟩
abbrev main_v80 : Ref sig .tc := ⟨.hbm, 113, rfl⟩
abbrev main_c_5 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_c_6 : Ref sig .tc := ⟨.hbm, 120, rfl⟩
abbrev main_v86 : Ref sig .tc := ⟨.hbm, 121, rfl⟩
abbrev main_v87 : Ref sig .tc := ⟨.hbm, 122, rfl⟩
abbrev main_c_7 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_8 : Ref sig .tc := ⟨.hbm, 131, rfl⟩
abbrev main_call2_v0 : Ref sig .tc := ⟨.hbm, 132, rfl⟩
abbrev main_call2_v1 : Ref sig .tc := ⟨.hbm, 133, rfl⟩
abbrev main_call2_v2 : Ref sig .tc := ⟨.hbm, 134, rfl⟩
abbrev main_v95 : Ref sig .tc := ⟨.hbm, 135, rfl⟩
abbrev main_cst_9 : Ref sig .tc := ⟨.hbm, 136, rfl⟩
abbrev main_v96 : Ref sig .tc := ⟨.hbm, 137, rfl⟩
abbrev main_cst_10 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_11 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_values : Ref sig .tc := ⟨.hbm, 152, rfl⟩
abbrev main_indices : Ref sig .tc := ⟨.hbm, 153, rfl⟩
abbrev main_cst_12 : Ref sig .tc := ⟨.hbm, 154, rfl⟩
abbrev main_v109 : Ref sig .tc := ⟨.hbm, 155, rfl⟩
abbrev main_cst_13 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_cst_14 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_c_15 : Ref sig .tc := ⟨.hbm, 170, rfl⟩
abbrev main_v122 : Ref sig .tc := ⟨.hbm, 171, rfl⟩
abbrev main_v123 : Ref sig .tc := ⟨.hbm, 172, rfl⟩
abbrev main_c_16 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_c_17 : Ref sig .tc := ⟨.hbm, 177, rfl⟩
abbrev main_v127 : Ref sig .tc := ⟨.hbm, 178, rfl⟩
abbrev main_v128 : Ref sig .tc := ⟨.hbm, 179, rfl⟩
abbrev main_c_18 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_cst_19 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_cst_20 : Ref sig .tc := ⟨.hbm, 204, rfl⟩
abbrev main_v151 : Ref sig .tc := ⟨.hbm, 205, rfl⟩
abbrev main_v152 : Ref sig .tc := ⟨.hbm, 206, rfl⟩
abbrev main_cst_21 : Ref sig .tc := ⟨.hbm, 207, rfl⟩
abbrev main_v153 : Ref sig .tc := ⟨.hbm, 208, rfl⟩
abbrev main_v154 : Ref sig .tc := ⟨.hbm, 209, rfl⟩
abbrev main_c_22 : Ref sig .tc := ⟨.hbm, 210, rfl⟩
abbrev main_call3_cst : Ref sig .tc := ⟨.hbm, 211, rfl⟩
abbrev main_call3_v0 : Ref sig .tc := ⟨.hbm, 212, rfl⟩
abbrev main_call3_v1 : Ref sig .tc := ⟨.hbm, 213, rfl⟩
abbrev main_call3_cst_0 : Ref sig .tc := ⟨.hbm, 214, rfl⟩
abbrev main_call3_v2 : Ref sig .tc := ⟨.hbm, 215, rfl⟩
abbrev main_call3_v3 : Ref sig .tc := ⟨.hbm, 216, rfl⟩
abbrev main_call3_v4 : Ref sig .tc := ⟨.hbm, 217, rfl⟩
abbrev main_call3_v5 : Ref sig .tc := ⟨.hbm, 218, rfl⟩
abbrev main_call3_v6 : Ref sig .tc := ⟨.hbm, 219, rfl⟩
abbrev main_call3_v7 : Ref sig .tc := ⟨.hbm, 220, rfl⟩
abbrev main_call3_cst_1 : Ref sig .tc := ⟨.hbm, 221, rfl⟩
abbrev main_call3_v8 : Ref sig .tc := ⟨.hbm, 222, rfl⟩
abbrev main_call3_cst_2 : Ref sig .tc := ⟨.hbm, 223, rfl⟩
abbrev main_call3_v9 : Ref sig .tc := ⟨.hbm, 224, rfl⟩
abbrev main_call3_v10 : Ref sig .tc := ⟨.hbm, 225, rfl⟩
abbrev main_call3_v11 : Ref sig .tc := ⟨.hbm, 226, rfl⟩
abbrev main_call3_v12 : Ref sig .tc := ⟨.hbm, 227, rfl⟩
abbrev main_call3_cst_3 : Ref sig .tc := ⟨.hbm, 228, rfl⟩
abbrev main_call3_v13 : Ref sig .tc := ⟨.hbm, 229, rfl⟩
abbrev main_call3_cst_4 : Ref sig .tc := ⟨.hbm, 230, rfl⟩
abbrev main_call3_call0_v0 : Ref sig .tc := ⟨.hbm, 231, rfl⟩
abbrev main_call3_call0_v1 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_cst_23 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩

abbrev nD : Nat := 1
abbrev τ : Topo := Topo.v7x

variable {F : FTy → Type} [FloatOps F]
-- ==== Proof.TopTen.lean ====
module

public import Idealize.ShloMosaic.Lib.Pointwise
public import Idealize.ShloMosaic.Lib.SortFacts

/-! The ten greatest of a row, as order facts over the extended reals, and the rounds that find them pair by pair. -/

@[expose] public section

noncomputable section

namespace Cert.TopTen

open Idealize.ShloMosaic

/-- `p` lists the places of the ten greatest entries of `s`, greatest first, every other entry strictly below them. -/
structure IsTop {n : ℕ} (s : Fin n → EReal) (p : Fin 10 → Fin n) : Prop where
  anti : StrictAnti fun i => s (p i)
  below : ∀ j, (∀ i, p i ≠ j) → s j < s (p 9)

namespace IsTop

variable {n : ℕ} {s : Fin n → EReal} {p : Fin 10 → Fin n}

theorem injective (h : IsTop s p) : Function.Injective p :=
  fun a b hab => h.anti.injective (congrArg s hab)

theorem last_le (h : IsTop s p) (i : Fin 10) : s (p 9) ≤ s (p i) :=
  h.anti.antitone (by omega)

/-- The entries at or above the tenth are exactly the listed ones. -/
theorem le_iff (h : IsTop s p) (j : Fin n) : s (p 9) ≤ s j ↔ ∃ i, p i = j := by
  constructor
  · intro hj
    by_contra hn
    exact absurd (h.below j fun i hi => hn ⟨i, hi⟩) (not_lt.mpr hj)
  · rintro ⟨i, rfl⟩; exact h.last_le i

/-- An entry equal to a listed one is that one. -/
theorem eq_of_eq (h : IsTop s p) {i : Fin 10} {j : Fin n} (hj : s j = s (p i)) : p i = j := by
  obtain ⟨k, rfl⟩ := (h.le_iff j).mp (hj ▸ h.last_le i)
  rw [h.anti.injective (show (fun i => s (p i)) i = (fun i => s (p i)) k from hj.symm)]

/-- Below the `i`-th listed entry nothing exceeds the next one. -/
theorem le_next (h : IsTop s p) {i k : Fin 10} (hk : k.val = i.val + 1) {j : Fin n} (hj : s j < s (p i)) :
    s j ≤ s (p k) := by
  by_cases hr : ∃ l, p l = j
  · obtain ⟨l, rfl⟩ := hr
    have : i < l := (h.anti.lt_iff_gt (a := l) (b := i)).mp hj
    exact h.anti.antitone (by rw [Fin.le_def]; rw [Fin.lt_def] at this; omega)
  · exact (h.below j fun l hl => hr ⟨l, hl⟩).le.trans (h.last_le k)

theorem le_first (h : IsTop s p) (j : Fin n) : s j ≤ s (p 0) := by
  by_cases hr : ∃ l, p l = j
  · obtain ⟨l, rfl⟩ := hr
    exact h.anti.antitone (Fin.zero_le l)
  · exact (h.below j fun l hl => hr ⟨l, hl⟩).le.trans (h.last_le 0)

/-- A sum over all places of a term kept only at or above the tenth entry is the sum over the ten listed places. -/
theorem sum_kept (h : IsTop s p) (f : Fin n → EReal) :
    (∑ j, if s (p 9) ≤ s j then f j else 0) = ∑ i, f (p i) := by
  classical
  rw [← Finset.sum_filter]
  have : (Finset.univ.filter fun j => s (p 9) ≤ s j) = Finset.univ.map ⟨p, h.injective⟩ := by
    ext j
    simp only [Finset.mem_filter, Finset.mem_univ, true_and, Finset.mem_map, Function.Embedding.coeFn_mk]
    exact h.le_iff j
  rw [this, Finset.sum_map]
  rfl

end IsTop

/-! ## The pair rounds -/

/-- The greater of a pair's entries still below `c`, given the pair as its greater `h` and lesser `l`. -/
def first (c h l : EReal) : EReal := if h < c then h else if l < c then l else ⊥

/-- The lesser of a pair's entries, if both are still below `c`. -/
def second (c h l : EReal) : EReal := if h < c then l else ⊥

section round

variable {n : ℕ} {h l : Fin n → EReal} {c t : EReal}

/-- What a round from bound `c` to bound `t` needs: `t` is the greatest entry below `c`, and only one entry is `t`. -/
structure Round (h l : Fin n → EReal) (c t : EReal) : Prop where
  le : ∀ j, l j ≤ h j
  lt : t < c
  bot : ⊥ < t
  left : ∀ j, h j < c → h j ≤ t
  right : ∀ j, l j < c → l j ≤ t
  found : ∃ j, h j = t ∨ l j = t
  once : ∀ j, ¬(h j = t ∧ l j = t)

theorem Round.first_le (r : Round h l c t) (j : Fin n) : first c (h j) (l j) ≤ t := by
  unfold first
  split_ifs with a b
  · exact r.left j a
  · exact r.right j b
  · exact bot_le

/-- The greatest of the pairs' first entries is `t`. -/
theorem Round.fold_eq (r : Round h l c t) :
    (Finset.univ : Finset (Fin n)).fold max ⊥ (fun j => first c (h j) (l j)) = t := by
  refine le_antisymm ?_ ?_
  · rw [Finset.fold_max_le]
    exact ⟨bot_le, fun j _ => r.first_le j⟩
  · rw [Finset.le_fold_max]
    right
    obtain ⟨j, hj⟩ := r.found
    refine ⟨j, Finset.mem_univ j, ?_⟩
    unfold first
    rcases hj with hj | hj
    · rw [if_pos (hj ▸ r.lt)]; exact hj.ge
    · split_ifs with a b
      · exact hj ▸ r.le j
      · exact hj.ge
      · exact absurd (hj ▸ r.lt) b

theorem Round.first_step (r : Round h l c t) (j : Fin n) :
    (if t ≤ first c (h j) (l j) then second c (h j) (l j) else first c (h j) (l j)) = first t (h j) (l j) := by
  have hle := r.le j
  have ho := r.once j
  have hl := r.left j
  have hr := r.right j
  have hb := r.bot
  have hc := r.lt
  unfold first second
  by_cases a : h j < c <;> by_cases b : l j < c <;>
    simp only [a, b, if_true, if_false, true_implies, false_implies] at hl hr ⊢ <;> split_ifs <;> first
    | rfl
    | (exfalso; order)
    | (exfalso; apply ho; constructor <;> order)
    | order

theorem Round.second_step (r : Round h l c t) (j : Fin n) :
    (if t ≤ first c (h j) (l j) then ⊥ else second c (h j) (l j)) = second t (h j) (l j) := by
  have hle := r.le j
  have ho := r.once j
  have hl := r.left j
  have hr := r.right j
  have hb := r.bot
  have hc := r.lt
  unfold first second
  by_cases a : h j < c <;> by_cases b : l j < c <;> simp only [a, b, if_true, if_false] <;> split_ifs <;> first
    | rfl
    | (exfalso; order)
    | (exfalso; apply ho; constructor <;> order)
    | order

end round

/-! ## Rounds from the ten greatest -/

section halves

variable {n : ℕ}

/-- The pair of places `j` and `j + n`: its greater entry. -/
def hi (s : Fin (n + n) → EReal) (j : Fin n) : EReal := max (s (Fin.castAdd n j)) (s (Fin.natAdd n j))

/-- Its lesser entry. -/
def lo (s : Fin (n + n) → EReal) (j : Fin n) : EReal := min (s (Fin.castAdd n j)) (s (Fin.natAdd n j))

variable {s : Fin (n + n) → EReal} {p : Fin 10 → Fin (n + n)}

theorem hi_cases (s : Fin (n + n) → EReal) (j : Fin n) : hi s j = s (Fin.castAdd n j) ∨ hi s j = s (Fin.natAdd n j) :=
  max_choice _ _

theorem lo_cases (s : Fin (n + n) → EReal) (j : Fin n) : lo s j = s (Fin.castAdd n j) ∨ lo s j = s (Fin.natAdd n j) :=
  min_choice _ _

theorem pair_found (s : Fin (n + n) → EReal) (k : Fin (n + n)) : ∃ j, hi s j = s k ∨ lo s j = s k := by
  induction k using Fin.addCases with
  | left j => exact ⟨j, by unfold hi lo; simpa using le_total _ _⟩
  | right j => exact ⟨j, by unfold hi lo; simpa using le_total _ _⟩

theorem IsTop.pair_once (h : IsTop s p) (i : Fin 10) (j : Fin n) : ¬(hi s j = s (p i) ∧ lo s j = s (p i)) := by
  rintro ⟨a, b⟩
  have e : s (Fin.castAdd n j) = s (p i) ∧ s (Fin.natAdd n j) = s (p i) := by
    unfold hi at a
    unfold lo at b
    constructor
    · exact le_antisymm (a ▸ le_max_left _ _) (b ▸ min_le_left _ _)
    · exact le_antisymm (a ▸ le_max_right _ _) (b ▸ min_le_right _ _)
  have := (h.eq_of_eq e.1).symm.trans (h.eq_of_eq e.2)
  have := congrArg Fin.val this
  simp at this
  have := j.isLt
  omega

/-- The first round finds the greatest entry. -/
theorem IsTop.round_first (h : IsTop s p) (fin : ∀ j, ⊥ < s j ∧ s j < ⊤) : Round (hi s) (lo s) ⊤ (s (p 0)) where
  le j := min_le_max
  lt := (fin _).2
  bot := (fin _).1
  left j _ := by rcases hi_cases s j with e | e <;> rw [e] <;> exact h.le_first _
  right j _ := by rcases lo_cases s j with e | e <;> rw [e] <;> exact h.le_first _
  found := pair_found s _
  once := h.pair_once 0

/-- Each further round finds the next entry. -/
theorem IsTop.round_next (h : IsTop s p) (fin : ∀ j, ⊥ < s j ∧ s j < ⊤) {i k : Fin 10} (hk : k.val = i.val + 1) :
    Round (hi s) (lo s) (s (p i)) (s (p k)) where
  le j := min_le_max
  lt := h.anti (by rw [Fin.lt_def]; omega)
  bot := (fin _).1
  left j := by rcases hi_cases s j with e | e <;> rw [e] <;> exact h.le_next hk
  right j := by rcases lo_cases s j with e | e <;> rw [e] <;> exact h.le_next hk
  found := pair_found s _
  once := h.pair_once k

end halves

end Cert.TopTen

end
-- ==== Proof.Rounds.lean ====
module

public import proofs.«01_k».proof.Proof.TopTen

/-! The ten rounds on a block of score rows: the greatest entry of each row, taken out and replaced by the lesser entry of
its pair, and the weighted sum over the entries that reach the last bound. -/

@[expose] public section

set_option maxRecDepth 16384

noncomputable section

namespace Cert.Rounds

open Idealize.ShloMosaic Cert.TopTen

abbrev Row : Shape := ⟨1, ![2048]⟩
abbrev Col : Shape := ⟨2, ![2048, 1]⟩
abbrev Half : Shape := ⟨2, ![2048, 1024]⟩
abbrev Full : Shape := ⟨2, ![2048, 2048]⟩
abbrev Val : Shape := ⟨2, ![2048, 32]⟩
abbrev Ones : Shape := ⟨2, ![2048, 8]⟩
abbrev Ext : Shape := ⟨2, ![2048, 40]⟩

/-- The shape conditions of the operations below. -/
class Shapes : Prop where
  reduces : Half.Reduces [1] Row
  casts : Row.ShapeCasts Col
  toHalf : Col.Broadcasts Half
  toFull : Col.Broadcasts Full
  left : Full.Slices ![0, 0] Half
  right : Full.Slices ![0, 1024] Half
  joins : Shape.Concatenates [Val, Ones] Ext 1

variable [Shapes]

/-- The greatest entry of each row, as a column. -/
def colMax (w : FVec Ideal Half .f32) : FVec Ideal Col .f32 :=
  shapeCast Col (multiReduction .maximumf [1] Row w 0xFF800000#32 Shapes.reduces (.inl rfl) rfl) Shapes.casts

def hit (w : FVec Ideal Half .f32) : IVec Half 1 := cmpf .oge w (broadcastTo Half (colMax w) Shapes.toHalf)

/-- One round: the entries that reach the row's greatest give way to their pair's lesser entry, which in turn becomes `b`. -/
def step (b : Ideal .f32) (x : FVec Ideal Half .f32 × FVec Ideal Half .f32) : FVec Ideal Half .f32 × FVec Ideal Half .f32 :=
  (select (hit x.1) x.2 x.1, select (hit x.1) (broadcast Half b) x.2)

/-- The pairs' greater and lesser entries. -/
def start (s : FVec Ideal Full .f32) : FVec Ideal Half .f32 × FVec Ideal Half .f32 :=
  (maximumf (extractStridedSlice Half ![0, 0] s Shapes.left) (extractStridedSlice Half ![0, 1024] s Shapes.right),
   minimumf (extractStridedSlice Half ![0, 0] s Shapes.left) (extractStridedSlice Half ![0, 1024] s Shapes.right))

def rounds (b : Ideal .f32) (s : FVec Ideal Full .f32) : ℕ → FVec Ideal Half .f32 × FVec Ideal Half .f32
  | 0 => start s
  | n + 1 => step b (rounds b s n)

theorem rounds_succ (b : Ideal .f32) (s : FVec Ideal Full .f32) (n : ℕ) (x : FVec Ideal Half .f32 × FVec Ideal Half .f32)
    (h : rounds b s n = x) :
    rounds b s (n + 1) = (select (hit x.1) x.2 x.1, select (hit x.1) (broadcast Half b) x.2) := by
  subst h
  rfl

/-- Row `r` of a round's two blocks, when everything at or above `c` has been taken out. -/
def Stage (r : Fin 2048) (h l : Fin 1024 → EReal) (c : EReal) (x : FVec Ideal Half .f32 × FVec Ideal Half .f32) : Prop :=
  (∀ j, x.1 (ix2 r j) = first c (h j) (l j)) ∧ ∀ j, x.2 (ix2 r j) = second c (h j) (l j)

theorem ofBits_negInf : Ideal.ofBits .f32 0xFF800000#32 = ⊥ := by simp [Ideal.ofBits, Ideal.ieee]

theorem colMax_apply (w : FVec Ideal Half .f32) (r : Fin 2048) :
    colMax w (ix2 r (0 : Fin 1)) = (Finset.univ : Finset (Fin 1024)).fold max ⊥ fun k => w (ix2 r k) := by
  pointwise [colMax]
  rw [ofBits_negInf]

theorem select_oge (x y a b : EReal) : Scalar.select (Ideal.cmp .oge x y) a b = if y ≤ x then a else b := by
  unfold Scalar.select Ideal.cmp
  by_cases h : y ≤ x <;> simp [h]

theorem select_hit (w a b : FVec Ideal Half .f32) (r : Fin 2048) (j : Fin 1024) :
    select (hit w) a b (ix2 r j) = if colMax w (ix2 r (0 : Fin 1)) ≤ w (ix2 r j) then a (ix2 r j) else b (ix2 r j) := by
  have e : broadcastTo Half (colMax w) Shapes.toHalf (ix2 r j) = colMax w (ix2 r (0 : Fin 1)) := by
    generalize colMax w = m
    pointwise
  rw [ValueIdx.select_apply, hit, ValueIdx.cmpf_apply, e]
  exact select_oge _ _ _ _

theorem step_fst (b : Ideal .f32) (x : FVec Ideal Half .f32 × FVec Ideal Half .f32) (r : Fin 2048) (j : Fin 1024) :
    (step b x).1 (ix2 r j) = if colMax x.1 (ix2 r (0 : Fin 1)) ≤ x.1 (ix2 r j) then x.2 (ix2 r j) else x.1 (ix2 r j) := by
  obtain ⟨w, l⟩ := x
  dsimp only [step]
  exact select_hit w l w r j

theorem step_snd (b : Ideal .f32) (x : FVec Ideal Half .f32 × FVec Ideal Half .f32) (r : Fin 2048) (j : Fin 1024) :
    (step b x).2 (ix2 r j) = if colMax x.1 (ix2 r (0 : Fin 1)) ≤ x.1 (ix2 r j) then b else x.2 (ix2 r j) := by
  obtain ⟨w, l⟩ := x
  dsimp only [step]
  exact select_hit w (broadcast Half b) l r j

/-- The weighted sums: each row's entries that reach `t`, as exponentials of their distance from `m`, times the values and
times ones. -/
def weigh (v : FVec Ideal Val .f32) (s : FVec Ideal Full .f32) (m t : FVec Ideal Col .f32) (d : DotDims Full Ext Ext) :
    FVec Ideal Ext .f32 :=
  matmul d none
    (select (cmpf .oge s (broadcastTo Full t Shapes.toFull)) (exp (subf s (broadcastTo Full m Shapes.toFull)))
      (broadcast Full (Scalar.ofBits .f32 0x00000000#32)))
    (concatenate Ext 1 [⟨Val, v⟩, ⟨Ones, broadcast Ones (Scalar.ofBits .f32 0x3F800000#32)⟩] Shapes.joins)
    (constant Ext .f32 0x00000000#32)

end Cert.Rounds

end
-- ==== Proof.Stages.lean ====
module

public import proofs.«01_k».proof.Proof.Rounds

/-! The ten rounds, row by row: after `n` rounds the row's greatest remaining entry is its `n`-th greatest. -/

@[expose] public section

set_option maxRecDepth 16384

noncomputable section

namespace Cert.Rounds

open Idealize.ShloMosaic Cert.TopTen

variable [Shapes] {r : Fin 2048} {h l : Fin 1024 → EReal} {c t : EReal} {x : FVec Ideal Half .f32 × FVec Ideal Half .f32}

theorem Stage.max (st : Stage r h l c x) (rd : Round h l c t) : colMax x.1 (ix2 r (0 : Fin 1)) = t := by
  rw [colMax_apply]
  simp only [st.1]
  exact rd.fold_eq

theorem Stage.next (st : Stage r h l c x) (rd : Round h l c t) : Stage r h l t (step ⊥ x) := by
  constructor
  · intro j
    rw [step_fst, st.max rd, st.1, st.2]
    exact rd.first_step j
  · intro j
    rw [step_snd, st.max rd, st.1, st.2]
    exact rd.second_step j

theorem start_fst (s : FVec Ideal Full .f32) (r : Fin 2048) (j : Fin 1024) :
    (start s).1 (ix2 r j) = hi (n := 1024) (fun k => s (ix2 r k)) j := by
  pointwise [start]
  unfold hi
  rfl

theorem start_snd (s : FVec Ideal Full .f32) (r : Fin 2048) (j : Fin 1024) :
    (start s).2 (ix2 r j) = lo (n := 1024) (fun k => s (ix2 r k)) j := by
  pointwise [start]
  unfold lo
  rfl

variable {s : FVec Ideal Full .f32} {p : Fin 10 → Fin 2048}

theorem stage_start (fin : ∀ k, ⊥ < s (ix2 r k) ∧ s (ix2 r k) < ⊤) :
    Stage r (hi (n := 1024) fun k => s (ix2 r k)) (lo (n := 1024) fun k => s (ix2 r k)) ⊤ (start s) := by
  have lt : ∀ j, hi (n := 1024) (fun k => s (ix2 r k)) j < ⊤ := fun j => by
    rcases hi_cases (n := 1024) (fun k => s (ix2 r k)) j with e | e <;> rw [e] <;> exact (fin _).2
  constructor
  · intro j
    rw [start_fst, first, if_pos (lt j)]
  · intro j
    rw [start_snd, second, if_pos (lt j)]

/-- The row after `i + 1` rounds has everything from its `i`-th greatest entry up taken out. -/
theorem stage_rounds (top : IsTop (n := 1024 + 1024) (fun k => s (ix2 r k)) p)
    (fin : ∀ k, ⊥ < s (ix2 r k) ∧ s (ix2 r k) < ⊤) (i : ℕ) (hi' : i < 10) :
    Stage r (hi (n := 1024) fun k => s (ix2 r k)) (lo (n := 1024) fun k => s (ix2 r k)) (s (ix2 r (p ⟨i, hi'⟩)))
      (rounds ⊥ s (i + 1)) := by
  induction i with
  | zero => exact (stage_start fin).next (top.round_first fin)
  | succ i ih => exact (ih (by omega)).next (top.round_next fin rfl)

theorem max_zero (top : IsTop (n := 1024 + 1024) (fun k => s (ix2 r k)) p)
    (fin : ∀ k, ⊥ < s (ix2 r k) ∧ s (ix2 r k) < ⊤) :
    colMax (rounds ⊥ s 0).1 (ix2 r (0 : Fin 1)) = s (ix2 r (p 0)) :=
  (stage_start fin).max (top.round_first fin)

theorem max_last (top : IsTop (n := 1024 + 1024) (fun k => s (ix2 r k)) p)
    (fin : ∀ k, ⊥ < s (ix2 r k) ∧ s (ix2 r k) < ⊤) :
    colMax (rounds ⊥ s 9).1 (ix2 r (0 : Fin 1)) = s (ix2 r (p 9)) :=
  (stage_rounds top fin 8 (by omega)).max (top.round_next fin rfl)

end Cert.Rounds

end
-- ==== Proof.RowMath.lean ====
module

public import proofs.«01_k».proof.Proof.TopTen

/-! Weighted means over the extended reals: dividing the weighted sum by the weights' sum is weighting by the quotients. -/

@[expose] public section

noncomputable section

namespace Cert.RowMath

open Idealize.ShloMosaic

/-- Neither infinity. -/
def IsReal (a : EReal) : Prop := ⊥ < a ∧ a < ⊤

theorem IsReal.lift {a : EReal} (h : IsReal a) : ∃ x : ℝ, a = x :=
  ⟨a.toReal, (EReal.coe_toReal h.2.ne h.1.ne').symm⟩

theorem IsReal.coe (x : ℝ) : IsReal (x : EReal) := ⟨EReal.bot_lt_coe x, EReal.coe_lt_top x⟩

theorem IsReal.add {a b : EReal} (ha : IsReal a) (hb : IsReal b) : IsReal (a + b) := by
  obtain ⟨x, rfl⟩ := ha.lift
  obtain ⟨y, rfl⟩ := hb.lift
  exact IsReal.coe (x + y)

theorem IsReal.mul {a b : EReal} (ha : IsReal a) (hb : IsReal b) : IsReal (a * b) := by
  obtain ⟨x, rfl⟩ := ha.lift
  obtain ⟨y, rfl⟩ := hb.lift
  rw [← EReal.coe_mul]
  exact IsReal.coe (x * y)

theorem IsReal.sum {ι : Type} (S : Finset ι) (f : ι → EReal) (h : ∀ i ∈ S, IsReal (f i)) : IsReal (∑ i ∈ S, f i) := by
  classical
  induction S using Finset.induction_on with
  | empty => simpa using IsReal.coe 0
  | insert a S ha ih =>
    rw [Finset.sum_insert ha]
    exact (h a (Finset.mem_insert_self a S)).add (ih fun i hi => h i (Finset.mem_insert_of_mem hi))

theorem mul_sum_of_nonneg {ι : Type} (S : Finset ι) (f : ι → EReal) {c : ℝ} (hc : 0 ≤ c) :
    (∑ i ∈ S, f i) * (c : EReal) = ∑ i ∈ S, f i * (c : EReal) := by
  classical
  induction S using Finset.induction_on with
  | empty => simp
  | insert a S ha ih =>
    rw [Finset.sum_insert ha, Finset.sum_insert ha, ← ih]
    exact EReal.right_distrib_of_nonneg_of_ne_top (EReal.coe_nonneg.mpr hc) (EReal.coe_ne_top c) _ _

theorem coe_sum {ι : Type} (S : Finset ι) (f : ι → ℝ) : ((∑ i ∈ S, f i : ℝ) : EReal) = ∑ i ∈ S, (f i : EReal) := by
  classical
  induction S using Finset.induction_on with
  | empty => rfl
  | insert a S ha ih => rw [Finset.sum_insert ha, Finset.sum_insert ha, EReal.coe_add, ih]

/-- The exponential of a distance from a real bound is nonnegative and real, or zero. -/
theorem exp_sub {a m : EReal} (ha : a < ⊤) (hm : IsReal m) : ∃ x : ℝ, 0 ≤ x ∧ Ideal.exp (a - m) = x := by
  obtain ⟨y, rfl⟩ := hm.lift
  rcases eq_or_ne a ⊥ with rfl | hb
  · exact ⟨0, le_rfl, by rw [EReal.bot_sub]; rfl⟩
  · obtain ⟨x, rfl⟩ := (show IsReal a from ⟨bot_lt_iff_ne_bot.mpr hb, ha⟩).lift
    exact ⟨Real.exp (x - y), (Real.exp_pos _).le, rfl⟩

theorem exp_sub_pos {a m : EReal} (ha : IsReal a) (hm : IsReal m) : 0 < Ideal.exp (a - m) := by
  obtain ⟨y, rfl⟩ := hm.lift
  obtain ⟨x, rfl⟩ := ha.lift
  exact EReal.coe_pos.mpr (Real.exp_pos (x - y))

theorem exp_bot_sub {m : EReal} : Ideal.exp (⊥ - m) = 0 := by
  rw [EReal.bot_sub]; rfl

/-- The weighted mean, with weights that are exponentials of distances from a real bound. -/
theorem mean_quotients {ι : Type} [Fintype ι] (s v w : ι → EReal) (m : EReal) (hm : IsReal m) (hs : ∀ i, s i < ⊤)
    (hr : ∃ i, IsReal (s i)) (hv : ∀ i, s i ≠ ⊥ → v i = w i) :
    Ideal.div (∑ i, Ideal.exp (s i - m) * v i) (∑ i, Ideal.exp (s i - m))
      = ∑ i, Ideal.div (Ideal.exp (s i - m)) (∑ i, Ideal.exp (s i - m)) * w i := by
  choose x hx he using fun i => exp_sub (hs i) hm
  have hE : (∑ i, Ideal.exp (s i - m)) = ((∑ i, x i : ℝ) : EReal) := by
    simp only [he]
    exact (coe_sum _ x).symm
  have hpos : 0 < ∑ i, x i := by
    obtain ⟨i, hi⟩ := hr
    refine Finset.sum_pos' (fun i _ => hx i) ⟨i, Finset.mem_univ i, ?_⟩
    have := exp_sub_pos hi hm
    rw [he] at this
    exact EReal.coe_pos.mp this
  rw [hE, Ideal.div_coe hpos.ne', mul_sum_of_nonneg _ _ (by positivity)]
  refine Finset.sum_congr rfl fun i _ => ?_
  rw [Ideal.div_coe hpos.ne']
  rcases eq_or_ne (s i) ⊥ with h | h
  · rw [h, exp_bot_sub, zero_mul, zero_mul, zero_mul]
  · rw [hv i h, mul_right_comm]

end Cert.RowMath

end
-- ==== Proof.RowSpec.lean ====
module

public import proofs.«01_k».proof.Proof.RowMath

/-! One row of the attention output: the mean over the five neighbours, the mean over the ten greatest scores, and the
words that say which neighbours exist. -/

@[expose] public section

noncomputable section

namespace Cert.RowSpec

open Idealize.ShloMosaic Cert.RowMath

/-- The mean of `v` weighted by the exponentials of `s`, relative to `m`. -/
def mean {n : ℕ} (s v : Fin n → EReal) (m : EReal) : EReal :=
  Ideal.div (∑ i, Ideal.exp (s i - m) * v i) (∑ i, Ideal.exp (s i - m))

/-- The greatest of `s`. -/
def top {n : ℕ} (s : Fin n → EReal) : EReal := Finset.univ.fold max ⊥ s

theorem top_five (s : Fin 5 → EReal) : max (max (max (max (s 0) (s 1)) (s 2)) (s 3)) (s 4) = top s := by
  unfold top
  refine le_antisymm ?_ ?_
  · have le : ∀ i, s i ≤ Finset.univ.fold max ⊥ s := fun i =>
      Finset.le_fold_max _ |>.mpr (Or.inr ⟨i, Finset.mem_univ i, le_rfl⟩)
    exact max_le (max_le (max_le (max_le (le 0) (le 1)) (le 2)) (le 3)) (le 4)
  · rw [Finset.fold_max_le]
    refine ⟨bot_le, fun i _ => ?_⟩
    fin_cases i <;> simp

/-- The greatest of values that are real or −∞, one of them real, is real. -/
theorem top_real {n : ℕ} (s : Fin n → EReal) (h : ∀ i, s i < ⊤) (hr : ∃ i, IsReal (s i)) : IsReal (top s) := by
  obtain ⟨i, hi⟩ := hr
  unfold top
  constructor
  · rw [Finset.lt_fold_max]
    exact Or.inr ⟨i, Finset.mem_univ i, hi.1⟩
  · rw [Finset.fold_max_lt]
    exact ⟨bot_lt_top, fun i _ => h i⟩

/-- A product that is dropped where its score is masked is the product with any value there. -/
theorem masked_mul (c : BitVec 1) (l m x v : EReal) (h1 : c = 1#1 → x = v) (h0 : c ≠ 1#1 → l = ⊥) :
    Scalar.select c (Ideal.exp (l - m) * x) 0 = Ideal.exp (l - m) * v := by
  unfold Scalar.select
  by_cases h : c = 1#1
  · rw [if_pos (show c = 1 from h), h1 h]
  · rw [if_neg (show ¬c = 1 from h), h0 h, exp_bot_sub, zero_mul]

/-- Whether the `w`-th neighbour of position `r` exists. -/
def near (r : Fin 2048) (w : Fin 5) : Prop := 2 ≤ r.val + w.val ∧ r.val + w.val < 2050

instance (r : Fin 2048) (w : Fin 5) : Decidable (near r w) := by unfold near; infer_instance

/-- The neighbour's position (the nearest existing one where it does not exist). -/
def clip (r : Fin 2048) (w : Fin 5) : Fin 2048 := ⟨min (r.val + w.val - 2) 2047, by omega⟩

theorem clip_of_near {r : Fin 2048} {w : Fin 5} (h : near r w) : (clip r w).val + 2 = r.val + w.val := by
  unfold near at h; unfold clip; dsimp only; omega

/-- The word test on a position word. -/
def inside (x : BitVec 32) : BitVec 1 := IntOp.andi (IntOp.cmpi .sge x 0#32) (IntOp.cmpi .slt x 2048#32)

theorem inside_iff (x : BitVec 32) : inside x = 1#1 ↔ 0 ≤ x.toInt ∧ x.toInt < 2048 := by
  unfold inside IntOp.andi IntOp.cmpi
  have h : (BitVec.ofNat 32 2048).toInt = 2048 := by decide
  by_cases a : 0 ≤ x.toInt <;> by_cases b : x.toInt < 2048 <;> simp [BitVec.sle, BitVec.slt, h, a, b]

theorem pos_toInt (r : Fin 2048) (w : Fin 5) (k : BitVec 32) (hk : k.toInt = w.val - 2) :
    (IntOp.addi (BitVec.ofNat 32 r.val) k).toInt = r.val + w.val - 2 := by
  unfold IntOp.addi
  have hr : (BitVec.ofNat 32 r.val).toInt = r.val := by
    rw [BitVec.toInt_ofNat', Int.bmod_eq_of_le] <;> omega
  rw [BitVec.toInt_add, hr, hk, Int.bmod_eq_of_le] <;> omega

theorem inside_near (r : Fin 2048) (w : Fin 5) (x : BitVec 32) (hx : x.toInt = r.val + w.val - 2) :
    inside x = 1#1 ↔ near r w := by
  rw [inside_iff, hx]
  unfold near
  omega

end Cert.RowSpec

end
-- ==== Proof.Body.lean ====
module

public import proofs.«01_k».proof.Proof.Gen.AttnIdeal.Skeleton
public import proofs.«01_k».proof.Proof.Stages
public import proofs.«01_k».proof.Proof.RowSpec

/-! What one step of the attention call stores, row by row. -/

@[expose] public section

set_option maxRecDepth 16384

noncomputable section

namespace Cert.AttnIdeal.Gen

open Idealize.ShloMosaic Idealize.SL.Sem Cert.TopTen Cert.RowSpec Cert.RowMath

variable [Facts]

instance : Rounds.Shapes where
  reduces := reduces_S2048x1024_S2048
  casts := shapeCasts_S2048_S2048x1
  toHalf := broadcasts_S2048x1_S2048x1024
  toFull := broadcasts_S2048x1_S2048x2048
  left := slices_S2048x2048_o0_0_S2048x1024
  right := slices_S2048x2048_o0_1024_S2048x1024
  joins := concatenates_S2048x32_S2048x8_S2048x40_d1

theorem named_mask : (Named.named κ "mask" 0xF149F2CA#32 : Ideal .f32) = ⊥ := rfl
theorem named_neg : (Named.named κ "neg" 0xFF61B1E6#32 : Ideal .f32) = ⊥ := rfl

/-! ## The ten greatest -/

/-- The replacement for an entry taken out. -/
abbrev low : Ideal .f32 := Named.named κ "neg" 0xFF61B1E6#32

theorem rounds_zero (q kp : Vec Ideal S1x2048x32 .f32) :
    Rounds.rounds low (k0_pay4 (F := Ideal) q kp) 0 = (k0_pay7 q kp, k0_pay8 q kp) := rfl

theorem rounds_one (q kp : Vec Ideal S1x2048x32 .f32) :
    Rounds.rounds low (k0_pay4 (F := Ideal) q kp) 1 = (k0_pay11 q kp, k0_pay12 q kp) := by
  refine (Rounds.rounds_succ _ _ _ _ (rounds_zero q kp)).trans (Prod.ext ?_ ?_)
  · dsimp only
    unfold k0_pay11 k0_pay10 k0_pay9
    generalize k0_pay7 q kp = w
    generalize k0_pay8 q kp = l
    rfl
  · dsimp only
    unfold k0_pay12 k0_pay10 k0_pay9
    generalize k0_pay7 q kp = w
    generalize k0_pay8 q kp = l
    rfl

theorem rounds_two (q kp : Vec Ideal S1x2048x32 .f32) :
    Rounds.rounds low (k0_pay4 (F := Ideal) q kp) 2 = (k0_pay14 q kp, k0_pay15 q kp) := by
  refine (Rounds.rounds_succ _ _ _ _ (rounds_one q kp)).trans (Prod.ext ?_ ?_)
  · dsimp only
    unfold k0_pay14 k0_pay13
    generalize k0_pay11 q kp = w
    generalize k0_pay12 q kp = l
    rfl
  · dsimp only
    unfold k0_pay15 k0_pay13
    generalize k0_pay11 q kp = w
    generalize k0_pay12 q kp = l
    rfl

theorem rounds_three (q kp : Vec Ideal S1x2048x32 .f32) :
    Rounds.rounds low (k0_pay4 (F := Ideal) q kp) 3 = (k0_pay17 q kp, k0_pay18 q kp) := by
  refine (Rounds.rounds_succ _ _ _ _ (rounds_two q kp)).trans (Prod.ext ?_ ?_)
  · dsimp only
    unfold k0_pay17 k0_pay16
    generalize k0_pay14 q kp = w
    generalize k0_pay15 q kp = l
    rfl
  · dsimp only
    unfold k0_pay18 k0_pay16
    generalize k0_pay14 q kp = w
    generalize k0_pay15 q kp = l
    rfl

theorem rounds_four (q kp : Vec Ideal S1x2048x32 .f32) :
    Rounds.rounds low (k0_pay4 (F := Ideal) q kp) 4 = (k0_pay20 q kp, select (k0_pay19 q kp) k0_pay21 (k0_pay18 q kp)) := by
  refine (Rounds.rounds_succ _ _ _ _ (rounds_three q kp)).trans (Prod.ext ?_ ?_)
  · dsimp only
    unfold k0_pay20 k0_pay19
    generalize k0_pay17 q kp = w
    generalize k0_pay18 q kp = l
    rfl
  · dsimp only
    unfold k0_pay19 k0_pay21
    generalize k0_pay17 q kp = w
    generalize k0_pay18 q kp = l
    rfl

theorem pay9_eq (q kp : Vec Ideal S1x2048x32 .f32) :
    k0_pay9 q kp = Rounds.colMax (Rounds.rounds low (k0_pay4 (F := Ideal) q kp) 0).1 := by
  rw [rounds_zero]
  rfl

/-- The last operations on the scores, over the first and the tenth greatest. -/
def sums (v6 : FVec Ideal S2048x32 .f32) (v7 : FVec Ideal S2048x2048 .f32) (v13 v74 : FVec Ideal S2048x1 .f32) :
    FVec Ideal S2048x40 .f32 :=
  Rounds.weigh v6 v7 v13 v74 dot_S2048x2048_S2048x40_S2048x40_1_0_0_1_n_n

/-- Five more rounds. -/
def five (x : FVec Ideal S2048x1024 .f32 × FVec Ideal S2048x1024 .f32) : FVec Ideal S2048x1024 .f32 × FVec Ideal S2048x1024 .f32 :=
  have x5 := Rounds.step low x
  have x6 := Rounds.step low x5
  have x7 := Rounds.step low x6
  have x8 := Rounds.step low x7
  Rounds.step low x8

theorem pay22_five (v6 : FVec Ideal S2048x32 .f32) (v7 : FVec Ideal S2048x2048 .f32) (v13 : FVec Ideal S2048x1 .f32)
    (v32 : FVec Ideal S2048x1024 .f32) (v36 : IVec S2048x1024 1) (v37 v38 : FVec Ideal S2048x1024 .f32) :
    k0_pay22 v6 v7 v13 v32 v36 v37 v38
      = sums v6 v7 v13 (Rounds.colMax (five (v37, select v36 v38 v32)).1) := by
  unfold k0_pay22 five sums Rounds.weigh
  dsimp only [Rounds.step, Rounds.hit, Rounds.colMax]

theorem pay22_eq (q kp : Vec Ideal S1x2048x32 .f32) (v6 : FVec Ideal S2048x32 .f32) :
    k0_pay22 v6 (k0_pay4 q kp) (k0_pay9 q kp) (k0_pay18 q kp) (k0_pay19 q kp) (k0_pay20 q kp) (k0_pay21 (F := Ideal))
      = sums v6 (k0_pay4 q kp) (k0_pay9 q kp) (Rounds.colMax (Rounds.rounds ⊥ (k0_pay4 (F := Ideal) q kp) 9).1) := by
  rw [pay22_five, ← rounds_four]
  rfl

theorem scores_apply (q kp : Vec Ideal S1x2048x32 .f32) (r j : Fin 2048) :
    k0_pay4 (F := Ideal) q kp (ix2 r j) = ∑ t : Fin 32, q (ix3 0 r t) * kp (ix3 0 j t) := by
  pointwise [k0_pay4, k0_pay2]

theorem sums_apply (v6 : FVec Ideal S2048x32 .f32) (v7 : FVec Ideal S2048x2048 .f32) (v13 v74 : FVec Ideal S2048x1 .f32)
    (r : Fin 2048) (t : Fin 32) :
    sums v6 v7 v13 v74 (ix2 r (⟨t.val, by omega⟩ : Fin 40))
      = ∑ j : Fin 2048, (if v74 (ix2 r 0) ≤ v7 (ix2 r j) then Ideal.exp (v7 (ix2 r j) - v13 (ix2 r 0)) else 0) * v6 (ix2 j t) := by
  pointwise [sums, Rounds.weigh]

theorem sums_one (v6 : FVec Ideal S2048x32 .f32) (v7 : FVec Ideal S2048x2048 .f32) (v13 v74 : FVec Ideal S2048x1 .f32)
    (r : Fin 2048) :
    sums v6 v7 v13 v74 (ix2 r (32 : Fin 40))
      = ∑ j : Fin 2048, if v74 (ix2 r 0) ≤ v7 (ix2 r j) then Ideal.exp (v7 (ix2 r j) - v13 (ix2 r 0)) else 0 := by
  pointwise [sums, Rounds.weigh]

/-- The sums over the ten greatest: a row's weighted values and its weights. -/
theorem far_apply (q kp vp : Vec Ideal S1x2048x32 .f32) (r : Fin 2048) (t : Fin 32) {p : Fin 10 → Fin 2048}
    (top : IsTop (n := 1024 + 1024) (fun j => k0_pay4 (F := Ideal) q kp (ix2 r j)) p)
    (fin : ∀ j, IsReal (k0_pay4 (F := Ideal) q kp (ix2 r j))) :
    sums (k0_pay3 vp) (k0_pay4 q kp) (k0_pay9 q kp) (Rounds.colMax (Rounds.rounds ⊥ (k0_pay4 (F := Ideal) q kp) 9).1)
        (ix2 r (⟨t.val, by omega⟩ : Fin 40))
      = ∑ i, Ideal.exp (k0_pay4 q kp (ix2 r (p i)) - k0_pay4 q kp (ix2 r (p 0))) * vp (ix3 0 (p i) t) := by
  rw [sums_apply, pay9_eq, show (low : Ideal .f32) = ⊥ from rfl, Rounds.max_zero top fin, Rounds.max_last top fin]
  simp only [ite_mul, zero_mul]
  refine (top.sum_kept _).trans (Finset.sum_congr rfl fun i _ => ?_)
  refine congrArg₂ (fun a z : EReal => a * z) rfl ?_
  pointwise [k0_pay3]

theorem far_weight (q kp : Vec Ideal S1x2048x32 .f32) (v6 : FVec Ideal S2048x32 .f32) (r : Fin 2048) {p : Fin 10 → Fin 2048}
    (top : IsTop (n := 1024 + 1024) (fun j => k0_pay4 (F := Ideal) q kp (ix2 r j)) p)
    (fin : ∀ j, IsReal (k0_pay4 (F := Ideal) q kp (ix2 r j))) :
    sums v6 (k0_pay4 q kp) (k0_pay9 q kp) (Rounds.colMax (Rounds.rounds ⊥ (k0_pay4 (F := Ideal) q kp) 9).1)
        (ix2 r (32 : Fin 40))
      = ∑ i, Ideal.exp (k0_pay4 q kp (ix2 r (p i)) - k0_pay4 q kp (ix2 r (p 0))) := by
  rw [sums_one, pay9_eq, show (low : Ideal .f32) = ⊥ from rfl, Rounds.max_zero top fin, Rounds.max_last top fin]
  exact top.sum_kept _

/-! ## The five neighbours -/

/-- The product of a row with its `w`-th neighbour. -/
def raw (v2 : FVec Ideal S2048x32 .f32) (klb : Vec Ideal S1x2064x32 .f32) (r : Fin 2048) (w : Fin 5) : EReal :=
  ∑ t : Fin 32, v2 (ix2 r t) * klb (ix3 0 (⟨(w.val + 6) + r.val, by omega⟩ : Fin 2064) t)

/-- The word of the neighbour's position. -/
def pos (r : Fin 2048) (k : BitVec 32) : BitVec 32 := IntOp.addi (IntOp.addi (BitVec.ofNat 32 r.val) 0#32) k

theorem near_iff (r : Fin 2048) (w : Fin 5) (k : BitVec 32) (hk : k.toInt = w.val - 2) :
    inside (pos r k) = 1#1 ↔ near r w := by
  refine inside_near r w _ ?_
  rw [pos, show IntOp.addi (BitVec.ofNat 32 r.val) 0#32 = BitVec.ofNat 32 r.val from BitVec.add_zero _]
  exact pos_toInt r w k hk

/-- The masked product. -/
def local' (v2 : FVec Ideal S2048x32 .f32) (klb : Vec Ideal S1x2064x32 .f32) (r : Fin 2048) (w : Fin 5) : EReal :=
  if near r w then raw v2 klb r w else ⊥

theorem select_near (r : Fin 2048) (w : Fin 5) (k : BitVec 32) (hk : k.toInt = w.val - 2) (a b : EReal) :
    Scalar.select (inside (pos r k)) a b = if near r w then a else b := by
  unfold Scalar.select
  by_cases h : near r w
  · rw [if_pos h, if_pos (show inside (pos r k) = 1 from (near_iff r w k hk).mpr h)]
  · rw [if_neg h, if_neg (show ¬inside (pos r k) = 1 from fun e => h ((near_iff r w k hk).mp e))]

variable (v2 : FVec Ideal S2048x32 .f32) (klb : Vec Ideal S1x2064x32 .f32) (r : Fin 2048)

theorem valid0 : k0_pay28 0#32 (ix2 r (0 : Fin 1)) = inside (pos r 4294967294#32) := by
  pointwise [k0_pay28, k0_pay25]
  all_goals rfl

theorem valid1 : k0_pay33 (k0_pay31 0#32) (k0_pay32 0#32) 2048#32 (ix2 r (0 : Fin 1)) = inside (pos r 4294967295#32) := by
  pointwise [k0_pay33, k0_pay31, k0_pay32, k0_pay25]
  all_goals rfl

theorem valid2 : k0_pay35 (k0_pay25 0#32) (ix2 r (0 : Fin 1)) = inside (pos r 0#32) := by
  pointwise [k0_pay35, k0_pay25]
  all_goals rfl

theorem valid3 : k0_pay37 (k0_pay25 0#32) (ix2 r (0 : Fin 1)) = inside (pos r 1#32) := by
  pointwise [k0_pay37, k0_pay25]
  all_goals rfl

theorem valid4 : k0_pay39 (k0_pay25 0#32) (ix2 r (0 : Fin 1)) = inside (pos r 2#32) := by
  pointwise [k0_pay39, k0_pay25]
  all_goals rfl

theorem local0 : k0_pay29 (F := Ideal) 0#32 v2 klb (ix2 r (0 : Fin 1)) = local' v2 klb r 0 := by
  refine Eq.trans ?_ (select_near r 0 4294967294#32 (by decide) _ _)
  rw [← valid0]
  pointwise [k0_pay29, k0_pay26, named_mask]
  all_goals rfl

theorem local1 : k0_pay34 (F := Ideal) (k0_pay30 v2 klb) (k0_pay31 0#32) (k0_pay32 0#32) 2048#32 (ix2 r (0 : Fin 1))
    = local' v2 klb r 1 := by
  refine Eq.trans ?_ (select_near r 1 4294967295#32 (by decide) _ _)
  rw [← valid1]
  pointwise [k0_pay34, k0_pay30, k0_pay26, named_mask]
  all_goals rfl

theorem local2 : k0_pay36 (F := Ideal) v2 (k0_pay25 0#32) (k0_pay26 klb) (ix2 r (0 : Fin 1)) = local' v2 klb r 2 := by
  refine Eq.trans ?_ (select_near r 2 0#32 (by decide) _ _)
  rw [← valid2]
  pointwise [k0_pay36, k0_pay26, named_mask]
  all_goals rfl

theorem local3 : k0_pay38 (F := Ideal) v2 (k0_pay25 0#32) (k0_pay26 klb) (ix2 r (0 : Fin 1)) = local' v2 klb r 3 := by
  refine Eq.trans ?_ (select_near r 3 1#32 (by decide) _ _)
  rw [← valid3]
  pointwise [k0_pay38, k0_pay26, named_mask]
  all_goals rfl

theorem local4 : k0_pay40 (F := Ideal) v2 (k0_pay25 0#32) (k0_pay26 klb) (ix2 r (0 : Fin 1)) = local' v2 klb r 4 := by
  refine Eq.trans ?_ (select_near r 4 2#32 (by decide) _ _)
  rw [← valid4]
  pointwise [k0_pay40, k0_pay26, named_mask]
  all_goals rfl

/-- The last operations: the neighbours' mean, the sum with the other part and the halving. -/
theorem store_apply (v104 : FVec Ideal S2064x32 .f32) (c0 c1 c2 c3 c4 : IVec S2048x1 1) (l0 l1 l2 l3 l4 : FVec Ideal S2048x1 .f32)
    (sp : FVec Ideal S2048x32 .f32) (d : Fin 32) (l v : Fin 5 → EReal)
    (h0 : l0 (ix2 r 0) = l 0) (h1 : l1 (ix2 r 0) = l 1) (h2 : l2 (ix2 r 0) = l 2) (h3 : l3 (ix2 r 0) = l 3)
    (h4 : l4 (ix2 r 0) = l 4)
    (n : ∀ w, ¬near r w → l w = ⊥)
    (x : ∀ w, near r w → v104 (ix2 (⟨(w.val + 6) + r.val, by omega⟩ : Fin 2064) d) = v w)
    (e0 : c0 (ix2 r 0) = 1#1 ↔ near r 0) (e1 : c1 (ix2 r 0) = 1#1 ↔ near r 1) (e2 : c2 (ix2 r 0) = 1#1 ↔ near r 2)
    (e3 : c3 (ix2 r 0) = 1#1 ↔ near r 3) (e4 : c4 (ix2 r 0) = 1#1 ↔ near r 4) :
    k0_pay1 (F := Ideal) sp c4 (k0_pay46 v104 c0 l0 c1 l1 c2 l2 c3 l3 l4) (k0_pay47 l0 l1 l2 l3 l4) (k0_pay48 l0 l1 l2 l3 l4)
        (k0_pay49 v104) (ix3 (0 : Fin 1) r d)
      = (mean l v (RowSpec.top l) + sp (ix2 r d)) * Ideal.ofBits .f32 0x3F000000#32 := by
  pointwise [k0_pay1, k0_pay46, k0_pay47, k0_pay48, k0_pay49, k0_pay42, k0_pay43, k0_pay44, k0_pay45, k0_pay41]
  rw [h0, h1, h2, h3, h4, top_five]
  unfold mean
  rw [Fin.sum_univ_five, Fin.sum_univ_five]
  refine congrArg₂ (fun a z : EReal => a * z) (congrArg₂ (fun a z : EReal => a + z) (congrArg₂ Ideal.div ?_ rfl) rfl) rfl
  exact congrArg₂ (fun a z : EReal => a + z) (congrArg₂ (fun a z : EReal => a + z) (congrArg₂ (fun a z : EReal => a + z)
    (congrArg₂ (fun a z : EReal => a + z)
      (masked_mul _ (l 0) _ _ (v 0) (fun h => x 0 (e0.mp h)) (fun h => n 0 (fun g => h (e0.mpr g))))
      (masked_mul _ (l 1) _ _ (v 1) (fun h => x 1 (e1.mp h)) (fun h => n 1 (fun g => h (e1.mpr g)))))
    (masked_mul _ (l 2) _ _ (v 2) (fun h => x 2 (e2.mp h)) (fun h => n 2 (fun g => h (e2.mpr g)))))
    (masked_mul _ (l 3) _ _ (v 3) (fun h => x 3 (e3.mp h)) (fun h => n 3 (fun g => h (e3.mpr g)))))
    (masked_mul _ (l 4) _ _ (v 4) (fun h => x 4 (e4.mp h)) (fun h => n 4 (fun g => h (e4.mpr g))))

theorem project_apply (v84 : FVec Ideal S2048x40 .f32) (v85 : FVec Ideal S2048x32 .f32) (w : Vec Ideal S32x32 .f32)
    (b : Vec Ideal S1x32 .f32) (d : Fin 32) :
    k0_pay24 (F := Ideal) v84 v85 w b (ix2 r d)
      = ∑ t : Fin 32, Ideal.div (v85 (ix2 r t)) (v84 (ix2 r (32 : Fin 40))) * w (ix2 t d) + b (ix2 0 d) := by
  pointwise [k0_pay24]

theorem keep_apply (v6 : FVec Ideal S2048x32 .f32) (v7 : FVec Ideal S2048x2048 .f32) (v13 : FVec Ideal S2048x1 .f32)
    (v32 : FVec Ideal S2048x1024 .f32) (v36 : IVec S2048x1024 1) (v37 v38 : FVec Ideal S2048x1024 .f32) (t : Fin 32) :
    k0_pay23 (F := Ideal) v6 v7 v13 v32 v36 v37 v38 (ix2 r t)
      = k0_pay22 v6 v7 v13 v32 v36 v37 v38 (ix2 r (⟨t.val, by omega⟩ : Fin 40)) := by
  unfold k0_pay23
  generalize k0_pay22 v6 v7 v13 v32 v36 v37 v38 = y
  pointwise

/-! ## The whole step -/

/-- What a step stores, from the blocks it reads. -/
def body (q kp vp : Vec Ideal S1x2048x32 .f32) (w : Vec Ideal S32x32 .f32) (b : Vec Ideal S1x32 .f32)
    (klb vlb : Vec Ideal S1x2064x32 .f32) (v0 : BitVec 32) : FVec Ideal S1x2048x32 .f32 :=
  have v2 := k0_pay2 q
  have v96 := k0_pay25 v0
  have v101 := k0_pay26 klb
  have v104 := k0_pay27 vlb
  have v84 := k0_pay22 (k0_pay3 vp) (k0_pay4 q kp) (k0_pay9 q kp) (k0_pay18 q kp) (k0_pay19 q kp) (k0_pay20 q kp) (k0_pay21 (F := Ideal))
  have v85 := k0_pay23 (k0_pay3 vp) (k0_pay4 q kp) (k0_pay9 q kp) (k0_pay18 q kp) (k0_pay19 q kp) (k0_pay20 q kp) (k0_pay21 (F := Ideal))
  have v115 := k0_pay28 v0
  have v117 := k0_pay29 v0 v2 klb
  have v128 := k0_pay33 (k0_pay31 v0) (k0_pay32 v0) 2048#32
  have v130 := k0_pay34 (k0_pay30 v2 klb) (k0_pay31 v0) (k0_pay32 v0) 2048#32
  have v141 := k0_pay35 v96
  have v143 := k0_pay36 v2 v96 v101
  have v154 := k0_pay37 v96
  have v156 := k0_pay38 v2 v96 v101
  have v167 := k0_pay39 v96
  have v169 := k0_pay40 v2 v96 v101
  k0_pay1 (k0_pay24 v84 v85 w b) v167 (k0_pay46 v104 v115 v117 v128 v130 v141 v143 v154 v156 v169)
    (k0_pay47 v117 v130 v143 v156 v169) (k0_pay48 v117 v130 v143 v156 v169) (k0_pay49 v104)

theorem body_apply (q kp vp : Vec Ideal S1x2048x32 .f32) (w : Vec Ideal S32x32 .f32) (b : Vec Ideal S1x32 .f32)
    (klb vlb : Vec Ideal S1x2064x32 .f32) (r : Fin 2048) (d : Fin 32) (S : Fin 2048 → EReal) (L v : Fin 5 → EReal)
    {p : Fin 10 → Fin 2048}
    (hS : ∀ j, ∑ t : Fin 32, q (ix3 0 r t) * kp (ix3 0 j t) = S j)
    (hL : ∀ n, near r n → ∑ t : Fin 32, q (ix3 0 r t) * klb (ix3 0 (⟨(n.val + 6) + r.val, by omega⟩ : Fin 2064) t) = L n)
    (hn : ∀ n, ¬near r n → L n = ⊥)
    (hv : ∀ n, near r n → vlb (ix3 0 (⟨(n.val + 6) + r.val, by omega⟩ : Fin 2064) d) = v n)
    (top : IsTop S p) (fin : ∀ j, IsReal (S j)) :
    body q kp vp w b klb vlb 0#32 (ix3 0 r d)
      = (mean L v (RowSpec.top L)
          + (∑ t : Fin 32, mean (fun i => S (p i)) (fun i => vp (ix3 0 (p i) t)) (S (p 0)) * w (ix2 t d) + b (ix2 0 d)))
        * Ideal.ofBits .f32 0x3F000000#32 := by
  have eS : ∀ j, k0_pay4 (F := Ideal) q kp (ix2 r j) = S j := fun j => (scores_apply q kp r j).trans (hS j)
  have top' : IsTop (n := 1024 + 1024) (fun j => k0_pay4 (F := Ideal) q kp (ix2 r j)) p := by
    rw [show (fun j => k0_pay4 (F := Ideal) q kp (ix2 r j)) = S from funext eS]
    exact top
  have fin' : ∀ j, IsReal (k0_pay4 (F := Ideal) q kp (ix2 r j)) := fun j => by rw [eS]; exact fin j
  have eL : ∀ n, local' (k0_pay2 q) klb r n = L n := fun n => by
    unfold local'
    by_cases h : near r n
    · rw [if_pos h, ← hL n h]
      unfold raw
      refine Finset.sum_congr rfl fun t _ => ?_
      refine congrArg₂ (fun z a : EReal => z * a) ?_ rfl
      pointwise [k0_pay2]
    · rw [if_neg h, hn n h]
  unfold body
  refine (store_apply r _ _ _ _ _ _ _ _ _ _ _ _ d L v ((local0 _ _ r).trans (eL 0)) ((local1 _ _ r).trans (eL 1))
    ((local2 _ _ r).trans (eL 2)) ((local3 _ _ r).trans (eL 3)) ((local4 _ _ r).trans (eL 4)) hn (fun n h => ?_)
    (by rw [valid0]; exact near_iff r 0 _ (by decide)) (by rw [valid1]; exact near_iff r 1 _ (by decide))
    (by rw [valid2]; exact near_iff r 2 _ (by decide)) (by rw [valid3]; exact near_iff r 3 _ (by decide))
    (by rw [valid4]; exact near_iff r 4 _ (by decide))).trans ?_
  · rw [← hv n h]
    pointwise [k0_pay27]
  · rw [project_apply]
    simp only [keep_apply, pay22_eq]
    rw [far_weight q kp _ r top' fin']
    simp only [far_apply q kp vp r _ top' fin', eS]
    rfl

end Cert.AttnIdeal.Gen

end
-- ==== Proof.Array.lean ====
module

public import proofs.«01_k».proof.Proof.Gen.AttnIdeal.Value
public import Idealize.ShloMosaic.Lib.Pipeline.ValueKit
public import proofs.«01_k».proof.Proof.Body

/-! The array the attention call leaves, entry by entry. -/

@[expose] public section

set_option maxRecDepth 16384

noncomputable section

namespace Cert.AttnIdeal.Gen

open Idealize.ShloMosaic Idealize.ShloMosaic.TcCoe Idealize.SL.Sem

variable (m : (ℓ : Loc nD τ sig) → Buf (Elt Ideal) ℓ)

/-- One head of an array of rows. -/
def head (x : Vec Ideal S16x2048x32 .f32) (h : Fin 16) : Vec Ideal S1x2048x32 .f32 :=
  fun i => x (ix3 h (i 1) (i 2))

/-- One head of a padded array of rows, from row 248 on. -/
def padded (x : Vec Ideal S16x2560x32 .f32) (h : Fin 16) : Vec Ideal S1x2064x32 .f32 :=
  fun i => x (ix3 h (⟨248 + (i 1).val, by have : (i 1).val < 2064 := (i 1).isLt; omega⟩ : Fin 2560) (i 2))

/-- The attention of every head. -/
def attn (q kp vp : Vec Ideal S16x2048x32 .f32) (kl vl : Vec Ideal S16x2560x32 .f32) (w : Vec Ideal S32x32 .f32)
    (b : Vec Ideal S1x32 .f32) : Vec Ideal S16x2048x32 .f32 :=
  fun j => body (head q (j 0)) (head kp (j 0)) (head vp (j 0)) w b (padded kl (j 0)) (padded vl (j 0)) 0#32
    (ix3 0 (j 1) (j 2))

theorem start (t : Fin cfg0.N) : Scalar.muli (BitVec.ofNat 32 ↑(grid0.coords t 1)) 2048#32 = 0#32 :=
  (by decide +kernel : ∀ t : Fin grid0.N, Scalar.muli (BitVec.ofNat 32 ↑(grid0.coords t 1)) 2048#32 = 0#32) t

theorem off (t : Fin cfg0.N) : k0_off1 (grid0.coords t) = ![0, 248, 0] :=
  (by decide +kernel : ∀ t : Fin grid0.N, k0_off1 (grid0.coords t) = ![0, 248, 0]) t

theorem outs_eq (c : Dev nD) (t : Fin cfg0.N) :
    outsAt0 m c t = body (iblk m c 0 t) (iblk m c 1 t) (iblk m c 2 t) (iblk m c 5 t) (iblk m c 6 t)
      (View.ld (iblk m c 3 t) (Rect.unit (s := S1x2560x32) (k0_off1 (grid0.coords t)) S1x2064x32.size (k0_off1_inb (grid0.coords t))))
      (View.ld (iblk m c 4 t) (Rect.unit (s := S1x2560x32) (k0_off1 (grid0.coords t)) S1x2064x32.size (k0_off1_inb (grid0.coords t))))
      0#32 := by
  unfold outsAt0
  frame_out
  rw [start]
  rfl

theorem idx : ∀ t : Fin cfg0.N, (win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![0, 0] ∧ win0_6.index t = ![0, 0])
    ∧ win0_7.index t = ![t.val, 0, 0] :=
  (by decide +kernel : ∀ t : Fin grid0.N, _)

theorem block0 (c : Dev nD) (t : Fin cfg0.N) : iblk m c 0 t = head (m ((c : Thread nD τ).loc main_arg0)) t := by
  funext i
  idx_vars i
  unfold head
  blk_ext [iblk, V, idx t]

theorem block1 (c : Dev nD) (t : Fin cfg0.N) : iblk m c 1 t = head (m ((c : Thread nD τ).loc main_arg1)) t := by
  funext i
  idx_vars i
  unfold head
  blk_ext [iblk, V, idx t]

theorem block2 (c : Dev nD) (t : Fin cfg0.N) : iblk m c 2 t = head (m ((c : Thread nD τ).loc main_arg2)) t := by
  funext i
  idx_vars i
  unfold head
  blk_ext [iblk, V, idx t]

theorem block5 (c : Dev nD) (t : Fin cfg0.N) : iblk m c 5 t = m ((c : Thread nD τ).loc main_arg5) := by
  funext i
  idx_vars i
  blk_ext [iblk, V, idx t]

theorem block6 (c : Dev nD) (t : Fin cfg0.N) : iblk m c 6 t = m ((c : Thread nD τ).loc main_arg6) := by
  funext i
  idx_vars i
  blk_ext [iblk, V, idx t]

theorem block3 (c : Dev nD) (t : Fin cfg0.N) :
    (View.ld (iblk m c 3 t) (Rect.unit (s := S1x2560x32) (k0_off1 (grid0.coords t)) S1x2064x32.size (k0_off1_inb (grid0.coords t))))
      = padded (m ((c : Thread nD τ).loc main_arg3)) t := by
  funext i
  idx_vars i
  rw [View.ld_apply]
  unfold padded
  blk_ext [iblk, V, idx t]
  · show k0_off1 (grid0.coords t) 1 + 1 * i1.val = _
    rw [off t]
    simp
  · show k0_off1 (grid0.coords t) 2 + 1 * i2.val = _
    rw [off t]
    simp

theorem block4 (c : Dev nD) (t : Fin cfg0.N) :
    (View.ld (iblk m c 4 t) (Rect.unit (s := S1x2560x32) (k0_off1 (grid0.coords t)) S1x2064x32.size (k0_off1_inb (grid0.coords t))))
      = padded (m ((c : Thread nD τ).loc main_arg4)) t := by
  funext i
  idx_vars i
  rw [View.ld_apply]
  unfold padded
  blk_ext [iblk, V, idx t]
  · show k0_off1 (grid0.coords t) 1 + 1 * i1.val = _
    rw [off t]
    simp
  · show k0_off1 (grid0.coords t) 2 + 1 * i2.val = _
    rw [off t]
    simp

theorem arr_eq (c : Dev nD) :
    (dats m 0 c).arrAt 7 cfg0.N = attn (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7, outs_eq]
  rw [block0, block1, block2, block3, block4, block5, block6]
  unfold attn
  idx_vars y
  have e : (win0_7.blk t).view.emb (ix3 y0 y1 y2) = (ix3 (t : Fin 16) y1 y2 : S16x2048x32.Idx) := by
    blk_ext [idx t]
  rw [e]
  obtain rfl : y0 = 0 := Subsingleton.elim _ _
  rfl

end Cert.AttnIdeal.Gen

end
-- ==== Proof.TopWords.lean ====
module

public import proofs.«01_k».proof.Proof.TopTen

/-! The first entries of a descending stable sort of a row: which places they are, and that they are the row's ten
greatest when the first eleven decrease strictly. -/

@[expose] public section

noncomputable section

namespace Cert.TopWords

open Idealize.ShloMosaic Cert.TopTen

/-- The places of a row in descending order of their entries. -/
def order {n : ℕ} (s : Fin n → EReal) : Fin n → Fin n :=
  sortedFrom fun k k' => FloatOps.cmpfTotal (F := Ideal) (φ := .f32) .gt (s k) (s k') == 1#1

theorem gt_iff (a b : EReal) : (FloatOps.cmpfTotal (F := Ideal) (φ := .f32) .gt a b == 1#1) = decide (b < a) := by
  show (Ideal.cmp .ogt a b == 1#1) = _
  unfold Ideal.cmp
  by_cases h : b < a <;> simp [h]

theorem order_eq {n : ℕ} (s : Fin n → EReal) : order s = sortedFrom fun k k' => decide (s k' < s k) := by
  unfold order
  congr 1
  funext k k'
  exact gt_iff _ _

theorem order_antitone {n : ℕ} (s : Fin n → EReal) {i j : Fin n} (h : i < j) : s (order s j) ≤ s (order s i) := by
  rw [order_eq]
  have := sortedFrom_noInversion (fun k k' => decide (s k' < s k)) (fun k k' => decide (s k' < s k))
    (fun a b hab => by simp only [decide_eq_true_eq, decide_eq_false_iff_not] at *; exact hab.le.not_gt)
    (fun a b hab => hab)
    (fun a b c hab hbc => by simp only [decide_eq_false_iff_not, not_lt] at *; exact hab.trans hbc) i j h
  simpa using this

theorem order_surjective {n : ℕ} (s : Fin n → EReal) : Function.Surjective (order s) := sortedFrom_surjective _

/-- The first ten places, when the first eleven entries decrease strictly. -/
theorem isTop {n : ℕ} (s : Fin n → EReal) (hn : 10 < n)
    (h : ∀ i : Fin 10, s (order s ⟨i.val + 1, by omega⟩) < s (order s ⟨i.val, by omega⟩)) :
    IsTop s fun i => order s ⟨i.val, by omega⟩ where
  anti := by
    refine Fin.strictAnti_iff_succ_lt.mpr fun i => ?_
    exact h i.castSucc
  below j hj := by
    obtain ⟨k, rfl⟩ := order_surjective s j
    have hk : 10 ≤ k.val := by
      by_contra hk
      exact hj ⟨k.val, by omega⟩ rfl
    have h9 := h 9
    refine lt_of_le_of_lt ?_ h9
    rcases Nat.eq_or_lt_of_le hk with e | e
    · exact le_of_eq (congrArg (fun t => s (order s t)) (Fin.ext e.symm))
    · exact order_antitone s (Fin.lt_def.mpr e)

abbrev Scores : Shape := ⟨3, ![16, 2048, 2048]⟩
abbrev Tops (k : ℕ) : Shape := ⟨3, ![16, 2048, k]⟩

theorem along_ix3 (a : Fin 16) (b c k : Fin 2048) :
    Shape.Idx.along (s := Scores) (ix3 a b c) (2 : Fin 3) k = ix3 a b k := by
  unfold Shape.Idx.along
  funext x
  fin_cases x <;> rfl

theorem sort2_eq (x : FVec Ideal Scores .f32) (y : IVec Scores 32) (a : Fin 16) (b c : Fin 2048) :
    (Host.sort2 Scores 2 (fun l r => FloatOps.cmpfTotal (F := Ideal) (φ := .f32) .gt l.1 r.1) x y).1 (ix3 a b c)
        = x (ix3 a b (order (fun k => x (ix3 a b k)) c))
      ∧ (Host.sort2 Scores 2 (fun l r => FloatOps.cmpfTotal (F := Ideal) (φ := .f32) .gt l.1 r.1) x y).2 (ix3 a b c)
        = y (ix3 a b (order (fun k => x (ix3 a b k)) c)) := by
  have e : sortedFrom (fun k k' : Fin 2048 => FloatOps.cmpfTotal (F := Ideal) (φ := .f32) .gt
      (x (Shape.Idx.along (s := Scores) (ix3 a b c) (2 : Fin 3) k)) (x (Shape.Idx.along (s := Scores) (ix3 a b c) (2 : Fin 3) k'))
        == 1#1) = order fun k => x (ix3 a b k) := by
    unfold order
    congr 1
    funext k k'
    exact congrArg₂ (fun u v => FloatOps.cmpfTotal (F := Ideal) (φ := .f32) .gt u v == 1#1)
      (congrArg x (along_ix3 a b c k)) (congrArg x (along_ix3 a b c k'))
  unfold Host.sort2
  rw [dif_pos (show 2 < Scores.rank by decide)]
  constructor
  · refine congrArg x (Eq.trans (congrArg (Shape.Idx.along (s := Scores) (ix3 a b c) (2 : Fin 3)) (congrFun e c)) ?_)
    exact along_ix3 a b c _
  · refine congrArg y (Eq.trans (congrArg (Shape.Idx.along (s := Scores) (ix3 a b c) (2 : Fin 3)) (congrFun e c)) ?_)
    exact along_ix3 a b c _

theorem slice_ix3 {α : Type} (k : ℕ) (hk : k ≤ 2048) (h : Scores.Slices (fun _ => 0) (Tops k)) (x : Scores.Idx → α)
    (a : Fin 16) (b : Fin 2048) (i : Fin k) :
    extractStridedSlice (Tops k) (fun _ => 0) x h (ix3 a b i) = x (ix3 a b ⟨i.val, by omega⟩) := by
  unfold extractStridedSlice
  refine congrArg x ?_
  funext c
  fin_cases c <;> exact Fin.ext (Nat.zero_add _)

/-- The place along the last axis, as a word. -/
def places : IVec Scores 32 := fun i => if hd : 2 < Scores.rank then iotaInDim Scores 32 ⟨2, hd⟩ i else 0#32

theorem topK_values (k : ℕ) (hk : k ≤ 2048) (h : Scores.Slices (fun _ => 0) (Tops k)) (x : FVec Ideal Scores .f32)
    (a : Fin 16) (b : Fin 2048) (i : Fin k) :
    (Host.topK (Tops k) 2 (FloatOps.cmpfTotal (F := Ideal) (φ := .f32) .gt) x h).1 (ix3 a b i)
      = x (ix3 a b (order (fun k => x (ix3 a b k)) ⟨i.val, by omega⟩)) :=
  (slice_ix3 k hk h _ a b i).trans (sort2_eq x places a b _).1

theorem topK_indices (k : ℕ) (hk : k ≤ 2048) (h : Scores.Slices (fun _ => 0) (Tops k)) (x : FVec Ideal Scores .f32)
    (a : Fin 16) (b : Fin 2048) (i : Fin k) :
    (Host.topK (Tops k) 2 (FloatOps.cmpfTotal (F := Ideal) (φ := .f32) .gt) x h).2 (ix3 a b i)
      = BitVec.ofNat 32 (order (fun k => x (ix3 a b k)) ⟨i.val, by omega⟩).val :=
  (slice_ix3 k hk h _ a b i).trans (sort2_eq x places a b _).2

end Cert.TopWords

end
-- ==== Proof.Window.lean ====
module

public import proofs.«01_k».proof.Proof.Gen.AttnRefIdeal.Read
public import Idealize.ShloMosaic.Lib.Pipeline.ValueKit
public import proofs.«01_k».proof.Proof.RowSpec
public import proofs.«01_k».proof.Proof.TopWords

/-! The window of five rows around a row, as the reference reads it. -/

@[expose] public section

set_option maxRecDepth 16384

noncomputable section

namespace Cert.AttnRefIdeal.Read

open Cert.AttnRefIdeal Cert.AttnRefIdeal.Gen Idealize.ShloMosaic Idealize.ShloMosaic.TcCoe Idealize.SL.Sem Idealize.ShloMosaic.StableHlo
open Cert.RowSpec

theorem position (r : Fin 2048) (w : Fin 5) :
    val_main_v10 (F := Ideal) (ix2 r w)
      = IntOp.addi (BitVec.ofNat 32 r) (IntOp.addi 4294967294#32 (BitVec.ofNat 32 w)) := by
  unfold val_main_v10 val_main_v8 val_main_v9 val_main_v7 val_main_v6 val_main_v5 val_main_v4 val_main_v3 val_main_v2 val_main_c
  pointwise

theorem clipped : ∀ (r : Fin 2048) (w : Fin 5), (
      have p := IntOp.minsi (id (constantI S_ 32 2047#32) ix0) (IntOp.maxsi (id (constantI S_ 32 0#32) ix0)
        (IntOp.addi (BitVec.ofNat 32 r.val) (IntOp.addi 4294967294#32 (BitVec.ofNat 32 w.val))))
      Scalar.select (IntOp.cmpi CmpIPredicate.slt p 0#32) (IntOp.addi p 2048#32) p)
    = BitVec.ofNat 32 (clip r w).val := by
  decide +kernel

theorem index (r : Fin 2048) (w : Fin 5) (z : Fin 1) :
    val_main_v22 (F := Ideal) (ix3 r w z) = BitVec.ofNat 32 (clip r w).val := by
  unfold val_main_v22 val_main_v21 val_main_v20 val_main_v19 val_main_v18 val_main_v17 val_main_v16 val_main_call0_v4 val_main_call0_v3 val_main_call0_v2 val_main_call0_v1 val_main_call0_v0 val_main_c_5 val_main_c_4 val_main_c_3 val_main_c_2
  pointwise
  rw [position]
  exact clipped r w

theorem index' (r : Fin 2048) (w : Fin 5) (z : Fin 1) :
    val_main_v29 (F := Ideal) (ix3 r w z) = BitVec.ofNat 32 (clip r w).val := by
  unfold val_main_v29 val_main_v28 val_main_v27 val_main_v26 val_main_v25 val_main_v24 val_main_v16 val_main_call0_v4 val_main_call0_v3 val_main_call0_v2 val_main_call0_v1 val_main_call0_v0 val_main_c_6 val_main_c_7 val_main_c_3 val_main_c_2
  pointwise
  rw [position]
  exact clipped r w

theorem gather_rows {α : Type} (x : S16x2048x32.Idx → α) (k : IVec S2048x5x1 32) (h : Fin 16) (r : Fin 2048) (w : Fin 5) (d : Fin 32)
    (n : Fin 2048) (hk : k (ix3 r w 0) = BitVec.ofNat 32 n.val) :
    Host.gather gather_S16x2048x32_S2048x5x1_S16x2048x5x32_03_1_n_n_1_2_16132 x k (ix4 h r w d) = x (ix3 h n d) := by
  unfold Host.gather
  congr 1
  funext a
  refine Fin.ext ?_
  set D := gather_S16x2048x32_S2048x5x1_S16x2048x5x32_03_1_n_n_1_2_16132
  show D.start (ix4 h r w d) k a + D.batchCoord (ix4 h r w d) a + D.offCoord (ix4 h r w d) a = _
  rw [GatherDims.batchCoord_eq_zero _ _ _ List.not_mem_nil]
  obtain rfl | rfl | rfl : a = 0 ∨ a = 1 ∨ a = 2 := by
    match a with
    | ⟨0, _⟩ => exact Or.inl rfl
    | ⟨1, _⟩ => exact Or.inr (Or.inl rfl)
    | ⟨2, _⟩ => exact Or.inr (Or.inr rfl)
  · unfold GatherDims.start
    rw [dif_neg (by decide)]
    show 0 + 0 + _ = h.val
    unfold GatherDims.offCoord
    rw [dif_pos (by decide)]
    simp only [Nat.zero_add]
    rfl
  · rw [GatherDims.offCoord_eq_zero _ _ _ (fun h => ((GatherDims.mem_sKept _ _).mp h).1 (List.mem_singleton.mpr rfl))]
    unfold GatherDims.start
    rw [dif_pos (show (1 : Fin 3) ∈ D.startIndexMap from List.mem_singleton.mpr rfl)]
    have hsi : D.siIdx (ix4 h r w d) ⟨List.idxOf (1 : Fin 3) D.startIndexMap,
        List.idxOf_lt_length_iff.2 (List.mem_singleton.mpr rfl)⟩ = ix3 r w 0 := by
      funext b; refine Fin.ext ?_
      match b with
      | ⟨0, _⟩ => rfl
      | ⟨1, _⟩ => rfl
      | ⟨2, _⟩ => rfl
    erw [hsi]
    rw [hk]
    have e : (BitVec.ofNat 32 n.val).toInt = n.val := by
      rw [BitVec.toInt_ofNat', Int.bmod_eq_of_le] <;> omega
    rw [e]
    show min n.val (2048 - 1) + 0 + 0 = n.val
    omega
  · unfold GatherDims.start
    rw [dif_neg (by decide)]
    show 0 + 0 + _ = d.val
    unfold GatherDims.offCoord
    rw [dif_pos (by decide)]
    simp only [Nat.zero_add]
    rfl

theorem near_k (x : Vec Ideal S16x2560x32 .f32) (h : Fin 16) (r : Fin 2048) (w : Fin 5) (d : Fin 32) :
    val_main_v23 (F := Ideal) x (ix4 h r w d)
      = x (ix3 h (⟨256 + (clip r w).val, by omega⟩ : Fin 2560) d) := by
  unfold val_main_v23
  rw [gather_rows _ _ h r w d _ (index r w 0)]
  unfold val_main_v0
  pointwise
  blk_ext

theorem near_v (x : Vec Ideal S16x2560x32 .f32) (h : Fin 16) (r : Fin 2048) (w : Fin 5) (d : Fin 32) :
    val_main_v30 (F := Ideal) x (ix4 h r w d)
      = x (ix3 h (⟨256 + (clip r w).val, by omega⟩ : Fin 2560) d) := by
  unfold val_main_v30
  rw [gather_rows _ _ h r w d _ (index' r w 0)]
  unfold val_main_v1
  pointwise
  blk_ext

/-- The score of a row against one row of its window. -/
def nearScore (x0 : Vec Ideal S16x2048x32 .f32) (x3 : Vec Ideal S16x2560x32 .f32) (h : Fin 16) (r : Fin 2048) (w : Fin 5) : EReal :=
  if near r w then ∑ t : Fin 32, x0 (ix3 h r t) * x3 (ix3 h (⟨256 + (clip r w).val, by omega⟩ : Fin 2560) t) else ⊥

theorem near_score (x0 : Vec Ideal S16x2048x32 .f32) (x3 : Vec Ideal S16x2560x32 .f32) (h : Fin 16) (r : Fin 2048) (w : Fin 5) :
    val_main_v33 x0 x3 (ix3 h r w) = nearScore x0 x3 h r w := by
  unfold val_main_v33 val_main_call1_v2 val_main_call1_v1 val_main_call1_v0 val_main_cst val_main_v32 val_main_v31 val_main_v15 val_main_v14 val_main_v13 val_main_v12 val_main_v11 val_main_c_0 val_main_c_1
  pointwise
  rw [position]
  have hp := pos_toInt r w (IntOp.addi 4294967294#32 (BitVec.ofNat 32 w.val)) (by revert w; decide)
  have hi := inside_near r w _ hp
  unfold nearScore
  have ne : (∑ t : Fin 32, x0 (ix3 h r t) * val_main_v23 (F := Ideal) x3 (ix4 h r w t))
      = ∑ t : Fin 32, x0 (ix3 h r t) * x3 (ix3 h (⟨256 + (clip r w).val, by omega⟩ : Fin 2560) t) :=
    Finset.sum_congr rfl fun t _ => congrArg (x0 (ix3 h r t) * ·) (near_k x3 h r w t)
  by_cases hn : near r w
  · rw [if_pos hn, ← ne]
    exact if_pos (hi.mpr hn)
  · rw [if_neg hn]
    refine (if_neg fun e => hn (hi.mp e)).trans ?_
    show Ideal.ofBits .f32 4286578688#32 = ⊥
    simp [Ideal.ofBits, Ideal.ieee]

end Cert.AttnRefIdeal.Read

end
-- ==== Proof.Reference.lean ====
module

public import proofs.«01_k».proof.Proof.Window

/-! The reference's value at a row and a column. -/

@[expose] public section

set_option maxRecDepth 16384

noncomputable section

namespace Cert.AttnRefIdeal.Read

open Cert.AttnRefIdeal Cert.AttnRefIdeal.Gen Idealize.ShloMosaic Idealize.ShloMosaic.TcCoe Idealize.SL.Sem Idealize.ShloMosaic.StableHlo
open Cert.RowSpec Cert.TopWords

variable (x0 x1 x2 : Vec Ideal S16x2048x32 .f32) (x3 x4 : Vec Ideal S16x2560x32 .f32)

theorem negInf : Ideal.ofBits .f32 4286578688#32 = ⊥ := by simp [Ideal.ofBits, Ideal.ieee]

theorem near_top (h : Fin 16) (r : Fin 2048) :
    val_main_v36 x0 x3 (ix2 h r) = RowSpec.top (nearScore x0 x3 h r) := by
  unfold val_main_v36 val_main_v35 val_main_cst_9 val_main_v34 val_main_cst_8
  pointwise
  simp only [near_score, negInf]
  exact max_eq_right bot_le

theorem near_exp (h : Fin 16) (r : Fin 2048) (w : Fin 5) :
    val_main_v40 x0 x3 (ix3 h r w) = Ideal.exp (nearScore x0 x3 h r w - RowSpec.top (nearScore x0 x3 h r)) := by
  unfold val_main_v40 val_main_v39 val_main_v38 val_main_v37
  pointwise
  rw [near_top, near_score]

theorem near_out (h : Fin 16) (r : Fin 2048) (d : Fin 32) :
    val_main_v45 x0 x3 x4 (ix3 h r d)
      = ∑ w : Fin 5, Ideal.div (Ideal.exp (nearScore x0 x3 h r w - RowSpec.top (nearScore x0 x3 h r)))
          (∑ u : Fin 5, Ideal.exp (nearScore x0 x3 h r u - RowSpec.top (nearScore x0 x3 h r)))
        * x4 (ix3 h (⟨256 + (clip r w).val, by omega⟩ : Fin 2560) d) := by
  unfold val_main_v45 val_main_v44 val_main_v43 val_main_v42 val_main_v41 val_main_cst_10
  pointwise
  simp only [near_exp, near_v]

/-- The score of a row against another. -/
def farScore (h : Fin 16) (r j : Fin 2048) : EReal := ∑ t : Fin 32, x0 (ix3 h r t) * x1 (ix3 h j t)

/-- The places of the ten greatest scores of a row. -/
def best (h : Fin 16) (r : Fin 2048) (i : Fin 10) : Fin 2048 :=
  order (farScore x0 x1 h r) ⟨i.val, by omega⟩

theorem far_score (h : Fin 16) (r j : Fin 2048) :
    val_main_v46 x0 x1 (ix3 h r j) = farScore x0 x1 h r j := by
  unfold val_main_v46
  pointwise
  rfl

theorem far_value (h : Fin 16) (r : Fin 2048) (i : Fin 10) :
    val_main_values x0 x1 (ix3 h r i) = farScore x0 x1 h r (best x0 x1 h r i) := by
  have e : (fun k => val_main_v46 x0 x1 (ix3 h r k)) = farScore x0 x1 h r := funext fun k => far_score x0 x1 h r k
  refine (topK_values 10 (by decide) _ _ h r i).trans ?_
  rw [e]
  exact far_score x0 x1 h r _

theorem far_index (h : Fin 16) (r : Fin 2048) (i : Fin 10) :
    val_main_indices x0 x1 (ix3 h r i) = BitVec.ofNat 32 (best x0 x1 h r i).val := by
  have e : (fun k => val_main_v46 x0 x1 (ix3 h r k)) = farScore x0 x1 h r := funext fun k => far_score x0 x1 h r k
  refine (topK_indices 10 (by decide) _ _ h r i).trans ?_
  rw [e]
  rfl

theorem far_top (h : Fin 16) (r : Fin 2048) :
    val_main_v49 x0 x1 (ix2 h r) = RowSpec.top fun i => farScore x0 x1 h r (best x0 x1 h r i) := by
  unfold val_main_v49 val_main_v48 val_main_cst_12 val_main_v47 val_main_cst_11
  pointwise
  simp only [far_value, negInf]
  exact max_eq_right bot_le

theorem far_exp (h : Fin 16) (r : Fin 2048) (i : Fin 10) :
    val_main_v53 x0 x1 (ix3 h r i) = Ideal.exp (farScore x0 x1 h r (best x0 x1 h r i)
      - RowSpec.top fun i => farScore x0 x1 h r (best x0 x1 h r i)) := by
  unfold val_main_v53 val_main_v52 val_main_v51 val_main_v50
  pointwise
  rw [far_top, far_value]

theorem head_word : ∀ h : Fin 16, Scalar.select (IntOp.cmpi CmpIPredicate.slt (BitVec.ofNat 32 h.val) 0#32)
    (IntOp.addi (BitVec.ofNat 32 h.val) 16#32) (BitVec.ofNat 32 h.val) = BitVec.ofNat 32 h.val := by
  decide +kernel

theorem row_word : ∀ n : Fin 2048, Scalar.select (IntOp.cmpi CmpIPredicate.slt (BitVec.ofNat 32 n.val) 0#32)
    (IntOp.addi (BitVec.ofNat 32 n.val) 2048#32) (BitVec.ofNat 32 n.val) = BitVec.ofNat 32 n.val := by
  decide +kernel

theorem far_pair (h : Fin 16) (r : Fin 2048) (i : Fin 10) :
    val_main_v73 x0 x1 (ix4 h r i 0) = BitVec.ofNat 32 h.val
      ∧ val_main_v73 x0 x1 (ix4 h r i 1) = BitVec.ofNat 32 (best x0 x1 h r i).val := by
  unfold val_main_v73 val_main_v72 val_main_v71 val_main_v70 val_main_v69 val_main_v68 val_main_v67 val_main_c_17
    val_main_v66 val_main_v65 val_main_c_16 val_main_v64 val_main_v63 val_main_v62 val_main_c_15 val_main_v61 val_main_v60
    val_main_c_14 val_main_v59 val_main_v58
  pointwise
  rw [far_index]
  generalize best x0 x1 h r i = n
  exact ⟨head_word h, row_word n⟩

theorem gather_best {α : Type} (x : S16x2048x32.Idx → α) (k : IVec S16x2048x10x2 32) (h : Fin 16) (r : Fin 2048) (i : Fin 10) (d : Fin 32)
    (n : Fin 2048) (hh : k (ix4 h r i 0) = BitVec.ofNat 32 h.val) (hk : k (ix4 h r i 1) = BitVec.ofNat 32 n.val) :
    Host.gather gather_S16x2048x32_S16x2048x10x2_S16x2048x10x32_3_01_n_n_01_3_1132 x k (ix4 h r i d) = x (ix3 h n d) := by
  unfold Host.gather
  congr 1
  funext a
  refine Fin.ext ?_
  set D := gather_S16x2048x32_S16x2048x10x2_S16x2048x10x32_3_01_n_n_01_3_1132
  show D.start (ix4 h r i d) k a + D.batchCoord (ix4 h r i d) a + D.offCoord (ix4 h r i d) a = _
  rw [GatherDims.batchCoord_eq_zero _ _ _ List.not_mem_nil]
  obtain rfl | rfl | rfl : a = 0 ∨ a = 1 ∨ a = 2 := by
    match a with
    | ⟨0, _⟩ => exact Or.inl rfl
    | ⟨1, _⟩ => exact Or.inr (Or.inl rfl)
    | ⟨2, _⟩ => exact Or.inr (Or.inr rfl)
  · rw [GatherDims.offCoord_eq_zero _ _ _ (fun h => ((GatherDims.mem_sKept _ _).mp h).1 (by decide))]
    unfold GatherDims.start
    have mem : (0 : Fin 3) ∈ D.startIndexMap := by decide
    rw [dif_pos mem]
    have hsi : D.siIdx (ix4 h r i d) ⟨List.idxOf (0 : Fin 3) D.startIndexMap, List.idxOf_lt_length_iff.2 mem⟩ = ix4 h r i 0 := by
      funext b; refine Fin.ext ?_
      match b with
      | ⟨0, _⟩ => rfl
      | ⟨1, _⟩ => rfl
      | ⟨2, _⟩ => rfl
      | ⟨3, _⟩ => rfl
    erw [hsi]
    rw [hh]
    have e : (BitVec.ofNat 32 h.val).toInt = h.val := by
      rw [BitVec.toInt_ofNat', Int.bmod_eq_of_le] <;> omega
    rw [e]
    show min h.val (16 - 1) + 0 + 0 = h.val
    omega
  · rw [GatherDims.offCoord_eq_zero _ _ _ (fun h => ((GatherDims.mem_sKept _ _).mp h).1 (by decide))]
    unfold GatherDims.start
    have mem : (1 : Fin 3) ∈ D.startIndexMap := by decide
    rw [dif_pos mem]
    have hsi : D.siIdx (ix4 h r i d) ⟨List.idxOf (1 : Fin 3) D.startIndexMap, List.idxOf_lt_length_iff.2 mem⟩ = ix4 h r i 1 := by
      funext b; refine Fin.ext ?_
      match b with
      | ⟨0, _⟩ => rfl
      | ⟨1, _⟩ => rfl
      | ⟨2, _⟩ => rfl
      | ⟨3, _⟩ => rfl
    erw [hsi]
    rw [hk]
    have e : (BitVec.ofNat 32 n.val).toInt = n.val := by
      rw [BitVec.toInt_ofNat', Int.bmod_eq_of_le] <;> omega
    rw [e]
    show min n.val (2048 - 1) + 0 + 0 = n.val
    omega
  · unfold GatherDims.start
    rw [dif_neg (by decide)]
    show 0 + 0 + _ = d.val
    unfold GatherDims.offCoord
    rw [dif_pos (by decide)]
    simp only [Nat.zero_add]
    rfl

theorem far_row (h : Fin 16) (r : Fin 2048) (i : Fin 10) (d : Fin 32) :
    val_main_v74 x0 x1 x2 (ix4 h r i d) = x2 (ix3 h (best x0 x1 h r i) d) :=
  gather_best x2 _ h r i d _ (far_pair x0 x1 h r i).1 (far_pair x0 x1 h r i).2

theorem far_out (h : Fin 16) (r : Fin 2048) (d : Fin 32) :
    val_main_v75 x0 x1 x2 (ix3 h r d)
      = ∑ i : Fin 10, Ideal.div (Ideal.exp (farScore x0 x1 h r (best x0 x1 h r i) - RowSpec.top fun i => farScore x0 x1 h r (best x0 x1 h r i)))
          (∑ u : Fin 10, Ideal.exp (farScore x0 x1 h r (best x0 x1 h r u) - RowSpec.top fun i => farScore x0 x1 h r (best x0 x1 h r i)))
        * x2 (ix3 h (best x0 x1 h r i) d) := by
  unfold val_main_v75 val_main_v57 val_main_v56 val_main_v55 val_main_v54 val_main_cst_13
  pointwise
  simp only [far_exp, far_row]

theorem value (x5 : Vec Ideal S32x32 .f32) (x6 : Vec Ideal S1x32 .f32) (h : Fin 16) (r : Fin 2048) (d : Fin 32) :
    val_main_v82 x0 x1 x2 x3 x4 x5 x6 (ix3 h r d)
      = Ideal.div (val_main_v45 x0 x3 x4 (ix3 h r d)
          + (∑ t : Fin 32, val_main_v75 x0 x1 x2 (ix3 h r t) * x5 (ix2 t d) + x6 (ix2 0 d))) (Ideal.ofBits .f32 0x40000000#32) := by
  unfold val_main_v82 val_main_v81 val_main_cst_18 val_main_v80 val_main_v79 val_main_v78 val_main_v77 val_main_v76
  pointwise

end Cert.AttnRefIdeal.Read

end
-- ==== Proof.Condition.lean ====
module

public import proofs.«01_k».proof.Proof.Gen.Pre_finite_without_top_ties
public import Idealize.ShloMosaic.Lib.Pipeline.ValueKit
public import proofs.«01_k».proof.Proof.RowMath
public import proofs.«01_k».proof.Proof.TopWords

/-! What the precondition says of a row. -/

@[expose] public section

set_option maxRecDepth 16384

noncomputable section

namespace Cert.Pre_finite_without_top_ties.Row

open Cert.Pre_finite_without_top_ties Cert.Pre_finite_without_top_ties.Gen Idealize.ShloMosaic
open Cert.RowMath Cert.TopWords

variable (x0 x1 x2 : Vec Ideal S16x2048x32 .f32) (x3 x4 : Vec Ideal S16x2560x32 .f32) (x5 : Vec Ideal S32x32 .f32)
  (x6 : Vec Ideal S1x32 .f32)

theorem real_of_abs {a : EReal} (h : BitVec.ofBool (decide (FloatOps.absf (F := Ideal) (φ := .f32) a < Ideal.ofBits FTy.f32 2139095040#32)) = 1#1) :
    IsReal a := by
  have e : Ideal.ofBits FTy.f32 2139095040#32 = ⊤ := by simp [Ideal.ofBits, Ideal.ieee]
  rw [e] at h
  have h' : FloatOps.absf (F := Ideal) (φ := .f32) a < (⊤ : EReal) := by
    by_contra n
    rw [decide_eq_false n] at h
    exact absurd h (by decide)
  have h2 : max a (-a) < (⊤ : EReal) := h'
  obtain ⟨h3, h4⟩ := max_lt_iff.mp h2
  refine ⟨?_, h3⟩
  rw [bot_lt_iff_ne_bot]
  rintro rfl
  simp at h4

theorem and_one {a b : BitVec 1} (h : IntOp.andi a b = 1#1) : a = 1#1 ∧ b = 1#1 := by
  revert a b
  decide

/-- The score of a row against another. -/
def score (h : Fin 16) (r j : Fin 2048) : EReal := ∑ t : Fin 32, x0 (ix3 h r t) * x1 (ix3 h j t)

theorem scores (h : Fin 16) (r j : Fin 2048) :
    Ideal.matmul dot_S16x2048x32_S16x2048x32_S16x2048x2048_2_2_1_1_0_0 x0 x1 (fun _ => 0) (ix3 h r j) = score x0 x1 h r j := by
  pointwise
  rfl

theorem finite (h : Fin 16) (r : Fin 2048) (d : Fin 32)
    (hp : fn (F := Ideal) x0 x1 x2 x3 x4 x5 x6 (ix3 h r (⟨d.val, by omega⟩ : Fin 42)) = 1#1) :
    IsReal (x0 (ix3 h r d)) ∧ IsReal (x1 (ix3 h r d))
      ∧ IsReal (x3 (ix3 h (⟨256 + r.val, by omega⟩ : Fin 2560) d)) := by
  unfold fn at hp
  revert hp
  pointwise
  intro hp
  obtain ⟨hp, h3⟩ := and_one hp
  obtain ⟨h1, h2⟩ := and_one hp
  exact ⟨real_of_abs h1, real_of_abs h2, real_of_abs h3⟩

theorem untied (h : Fin 16) (r : Fin 2048) (i : Fin 10)
    (hp : fn (F := Ideal) x0 x1 x2 x3 x4 x5 x6 (ix3 h r (⟨32 + i.val, by omega⟩ : Fin 42)) = 1#1) :
    score x0 x1 h r (order (score x0 x1 h r) ⟨i.val + 1, by omega⟩)
      < score x0 x1 h r (order (score x0 x1 h r) ⟨i.val, by omega⟩) := by
  unfold fn at hp
  revert hp
  pointwise
  intro hp
  have e : (fun j => Ideal.matmul dot_S16x2048x32_S16x2048x32_S16x2048x2048_2_2_1_1_0_0 x0 x1 (fun _ => 0) (ix3 h r j))
      = score x0 x1 h r := funext fun j => scores x0 x1 h r j
  have top : ∀ k : Fin 11, (Host.topK (α := EReal) S16x2048x11 2 (FloatOps.cmpfTotal (F := Ideal) (φ := .f32) CmpDirection.gt)
      (Ideal.matmul dot_S16x2048x32_S16x2048x32_S16x2048x2048_2_2_1_1_0_0 x0 x1 fun _ => 0)
        sliceFits_S16x2048x2048_S16x2048x11).1 (ix3 h r k) = score x0 x1 h r (order (score x0 x1 h r) ⟨k.val, by omega⟩) := by
    intro k
    refine (topK_values 11 (by decide) _ _ h r k).trans ?_
    rw [e]
    exact scores x0 x1 h r _
  have lt := of_decide_eq_true (by_contra fun n => by
    rw [Bool.not_eq_true] at n
    rw [n] at hp
    exact absurd hp (by decide))
  rw [top, top] at lt
  simpa only [Nat.add_comm 1] using lt

end Cert.Pre_finite_without_top_ties.Row

end
-- ==== Proof.Equal.lean ====
module

public import proofs.«01_k».proof.Proof.Array
public import proofs.«01_k».proof.Proof.Reference
public import proofs.«01_k».proof.Proof.Condition

/-! The attention call's array is the reference's. -/

@[expose] public section

set_option maxRecDepth 16384

noncomputable section

namespace Cert.Equal

open Idealize.ShloMosaic
open Cert.RowMath Cert.RowSpec Cert.TopWords Cert.TopTen Cert.AttnRefIdeal.Read Cert.AttnIdeal.Gen
open Cert.AttnIdeal (S16x2048x32 S16x2560x32 S32x32 S1x32 S1x2048x32 S1x2064x32)

variable (x0 x1 x2 : Vec Ideal S16x2048x32 .f32) (x3 x4 : Vec Ideal S16x2560x32 .f32) (x5 : Vec Ideal S32x32 .f32)
  (x6 : Vec Ideal S1x32 .f32)

theorem top_best {n : ℕ} {s : Fin n → EReal} {p : Fin 10 → Fin n} (h : IsTop s p) : RowSpec.top (fun i => s (p i)) = s (p 0) := by
  unfold RowSpec.top
  refine le_antisymm ?_ ?_
  · refine Finset.fold_max_le _ |>.mpr ⟨bot_le, fun i _ => ?_⟩
    exact h.anti.antitone (Fin.zero_le i)
  · exact Finset.le_fold_max _ |>.mpr (Or.inr ⟨0, Finset.mem_univ 0, le_rfl⟩)

theorem halve (x : EReal) : x * Ideal.ofBits .f32 0x3F000000#32 = Ideal.div x (Ideal.ofBits .f32 0x40000000#32) := by
  have h1 : Ideal.ofBits .f32 0x3F000000#32 = ((1 / 2 : ℝ) : EReal) := by
    simp [Ideal.ofBits, Ideal.ieee]
    rw [← EReal.coe_mul]
    norm_num
  have h2 : Ideal.ofBits .f32 0x40000000#32 = ((2 : ℝ) : EReal) := by
    simp [Ideal.ofBits, Ideal.ieee]
    rw [← EReal.coe_mul]
    norm_num
  rw [h1, h2, Ideal.div_coe (by norm_num)]

variable (hp : Cert.Pre_finite_without_top_ties.fn (F := Ideal) x0 x1 x2 x3 x4 x5 x6 = fun _ => 1#1)
include hp

theorem finite (h : Fin 16) (r : Fin 2048) (d : Fin 32) :
    IsReal (x0 (ix3 h r d)) ∧ IsReal (x1 (ix3 h r d)) ∧ IsReal (x3 (ix3 h (⟨256 + r.val, by omega⟩ : Fin 2560) d)) :=
  Cert.Pre_finite_without_top_ties.Row.finite x0 x1 x2 x3 x4 x5 x6 h r d (congrFun hp _)

theorem best_top (h : Fin 16) (r : Fin 2048) : IsTop (farScore x0 x1 h r) (best x0 x1 h r) :=
  isTop (farScore x0 x1 h r) (by decide) fun i =>
    Cert.Pre_finite_without_top_ties.Row.untied x0 x1 x2 x3 x4 x5 x6 h r i (congrFun hp _)

theorem far_real (h : Fin 16) (r j : Fin 2048) : IsReal (farScore x0 x1 h r j) :=
  IsReal.sum _ _ fun t _ => (finite x0 x1 x2 x3 x4 x5 x6 hp h r t).1.mul (finite x0 x1 x2 x3 x4 x5 x6 hp h j t).2.1

theorem near_real (h : Fin 16) (r : Fin 2048) (w : Fin 5) (hn : near r w) : IsReal (nearScore x0 x3 h r w) := by
  unfold nearScore
  rw [if_pos hn]
  exact IsReal.sum _ _ fun t _ => (finite x0 x1 x2 x3 x4 x5 x6 hp h r t).1.mul (finite x0 x1 x2 x3 x4 x5 x6 hp h (clip r w) t).2.2

theorem near_below (h : Fin 16) (r : Fin 2048) (w : Fin 5) : nearScore x0 x3 h r w < ⊤ := by
  by_cases hn : near r w
  · exact (near_real x0 x1 x2 x3 x4 x5 x6 hp h r w hn).2
  · unfold nearScore
    rw [if_neg hn]
    exact bot_lt_top

theorem near_some (h : Fin 16) (r : Fin 2048) : ∃ w, IsReal (nearScore x0 x3 h r w) :=
  ⟨2, near_real x0 x1 x2 x3 x4 x5 x6 hp h r 2 (by unfold near; show 2 ≤ r.val + 2 ∧ r.val + 2 < 2050; omega)⟩

theorem near_mean (h : Fin 16) (r : Fin 2048) (d : Fin 32) :
    mean (nearScore x0 x3 h r) (fun w => x4 (ix3 h (⟨256 + (clip r w).val, by omega⟩ : Fin 2560) d)) (RowSpec.top (nearScore x0 x3 h r))
      = val_main_v45 x0 x3 x4 (ix3 h r d) := by
  rw [near_out]
  exact mean_quotients _ _ _ _ (top_real _ (near_below x0 x1 x2 x3 x4 x5 x6 hp h r) (near_some x0 x1 x2 x3 x4 x5 x6 hp h r))
    (near_below x0 x1 x2 x3 x4 x5 x6 hp h r) (near_some x0 x1 x2 x3 x4 x5 x6 hp h r) fun _ _ => rfl

theorem far_mean (h : Fin 16) (r : Fin 2048) (d : Fin 32) :
    mean (fun i => farScore x0 x1 h r (best x0 x1 h r i)) (fun i => x2 (ix3 h (best x0 x1 h r i) d))
        (farScore x0 x1 h r (best x0 x1 h r 0))
      = val_main_v75 x0 x1 x2 (ix3 h r d) := by
  rw [far_out, top_best (best_top x0 x1 x2 x3 x4 x5 x6 hp h r)]
  exact mean_quotients _ _ _ _ (far_real x0 x1 x2 x3 x4 x5 x6 hp h r _) (fun i => (far_real x0 x1 x2 x3 x4 x5 x6 hp h r _).2)
    ⟨0, far_real x0 x1 x2 x3 x4 x5 x6 hp h r _⟩ fun _ _ => rfl

theorem equal : attn x0 x1 x2 x3 x4 x5 x6 = val_main_v82 x0 x1 x2 x3 x4 x5 x6 := by
  funext j
  idx_vars j
  rename' j0 => h, j1 => r, j2 => d
  refine Eq.trans ?_ (value x0 x1 x2 x3 x4 x5 x6 h r d).symm
  rw [← halve, ← near_mean x0 x1 x2 x3 x4 x5 x6 hp]
  simp only [← far_mean x0 x1 x2 x3 x4 x5 x6 hp]
  refine body_apply (head x0 h) (head x1 h) (head x2 h) x5 x6 (padded x3 h) (padded x4 h) r d (farScore x0 x1 h r)
    (nearScore x0 x3 h r) (fun w => x4 (ix3 h (⟨256 + (clip r w).val, by omega⟩ : Fin 2560) d)) (p := best x0 x1 h r)
    (fun j => rfl) (fun n hn => ?_) (fun n hn => if_neg hn) (fun n hn => ?_) (best_top x0 x1 x2 x3 x4 x5 x6 hp h r)
    (far_real x0 x1 x2 x3 x4 x5 x6 hp h r)
  · unfold nearScore
    rw [if_pos hn]
    have c := clip_of_near hn
    refine Finset.sum_congr rfl fun t _ => congrArg (x0 (ix3 h r t) * ·) ?_
    show x3 (ix3 h (⟨248 + (n.val + 6 + r.val), _⟩ : Fin 2560) t) = _
    have e : 248 + (n.val + 6 + r.val) = 256 + (clip r n).val := by omega
    simp only [e]
  · have c := clip_of_near hn
    show x4 (ix3 h (⟨248 + (n.val + 6 + r.val), _⟩ : Fin 2560) d) = _
    have e : 248 + (n.val + 6 + r.val) = 256 + (clip r n).val := by omega
    simp only [e]

end Cert.Equal

end
-- ==== Proof.FrontBody.lean ====
module

public import proofs.«01_k».proof.Proof.Gen.FrontIdeal.Frame
public import Idealize.ShloMosaic.Lib.Pipeline.Value
public import Idealize.ShloMosaic.Lib.Pipeline.ValueKit
public import Idealize.ShloMosaic.Lib.Pointwise

/-! What one block of the front call computes. -/

@[expose] public section

set_option maxRecDepth 16384

noncomputable section

namespace Cert.FrontIdeal.Gen

open Idealize.ShloMosaic Idealize.ShloMosaic.TcCoe Idealize.SL.Sem

theorem pay2_apply (x : Vec Ideal S264x512 .f32) (w0 w1 w2 w3 w4 : Vec Ideal S1x512x512 .f32) (i : Fin 256) (j : Fin 512) :
    k0_pay2 x w0 w1 w2 w3 w4 (ix2 i j) = (∑ k : Fin 512, x (ix2 (⟨i.val, by omega⟩ : Fin 264) k) * w0 (ix3 0 k j))
    + (∑ k : Fin 512, x (ix2 (⟨1 + i.val, by omega⟩ : Fin 264) k) * w1 (ix3 0 k j))
    + (∑ k : Fin 512, x (ix2 (⟨2 + i.val, by omega⟩ : Fin 264) k) * w2 (ix3 0 k j)) + (∑ k : Fin 512, x (ix2 (⟨3 + i.val, by omega⟩ : Fin 264) k) * w3 (ix3 0 k j))
    + (∑ k : Fin 512, x (ix2 (⟨4 + i.val, by omega⟩ : Fin 264) k) * w4 (ix3 0 k j)) := by
  unfold k0_pay2
  pointwise

theorem pay5_apply (x : Vec Ideal S264x512 .f32) (a : FVec Ideal S256x512 .f32) (w5 w6 : Vec Ideal S1x512x512 .f32) (b : Vec Ideal S1x512 .f32) (i : Fin 256) (j : Fin 512) :
    k0_pay5 x a (k0_pay3 x) (k0_pay4 w5) (constant S256x512 .f32 0x00000000#32) w6 b (ix2 i j)
      = max (a (ix2 i j) + (∑ k : Fin 512, x (ix2 (⟨5 + i.val, by omega⟩ : Fin 264) k) * w5 (ix3 0 k j))
    + (∑ k : Fin 512, x (ix2 (⟨6 + i.val, by omega⟩ : Fin 264) k) * w6 (ix3 0 k j)) + b (ix2 0 j)) 0 := by
  unfold k0_pay5 k0_pay3 k0_pay4
  pointwise

/-- A product with a weight matrix and a bias. -/
def project (h : FVec Ideal S256x512 .f32) (w : FVec Ideal S512x512 .f32) (b : Vec Ideal S1x512 .f32) : FVec Ideal S256x512 .f32 :=
  addf (matmul dot_S256x512_S512x512_S256x512_1_0_0_1_n_n none h w (constant S256x512 .f32 0x00000000#32)) (broadcastTo S256x512 b broadcasts_S1x512_S256x512)

theorem project_apply (h : FVec Ideal S256x512 .f32) (w : FVec Ideal S512x512 .f32) (b : Vec Ideal S1x512 .f32) (i : Fin 256) (j : Fin 512) :
    project h w b (ix2 i j) = (∑ k : Fin 512, h (ix2 i k) * w (ix2 k j)) + b (ix2 0 j) := by
  unfold project
  pointwise

/-- The columns of a block, cut into sixteen heads. -/
def heads (T : FVec Ideal S256x512 .f32) : Vec Ideal S16x256x32 .f32 :=
  fun i => T (ix2 (i 1) (⟨32 * (i 0).val + (i 2).val, by have : (i 0).val < 16 := (i 0).isLt; have : (i 2).val < 32 := (i 2).isLt; omega⟩ : Fin 512))

theorem pay6_eq (x : Vec Ideal S264x512 .f32) (a e : FVec Ideal S256x512 .f32) (f : FVec Ideal S512x512 .f32) (z : FVec Ideal S256x512 .f32) (v : Vec Ideal S1x512x512 .f32)
    (b : Vec Ideal S1x512 .f32) (w : Vec Ideal S512x512 .f32) (g : Vec Ideal S1x512 .f32) :
    k0_pay6 x a e f z v b w g = project (k0_pay5 x a e f z v b) w g := rfl

theorem pay7_eq (x : Vec Ideal S264x512 .f32) (a e : FVec Ideal S256x512 .f32) (f : FVec Ideal S512x512 .f32) (z : FVec Ideal S256x512 .f32) (v : Vec Ideal S1x512x512 .f32)
    (b : Vec Ideal S1x512 .f32) (w : Vec Ideal S512x512 .f32) (g : Vec Ideal S1x512 .f32) :
    k0_pay7 x a e f z v b w g = project (k0_pay5 x a e f z v b) w g := rfl

theorem pay8_eq (x : Vec Ideal S264x512 .f32) (a e : FVec Ideal S256x512 .f32) (f : FVec Ideal S512x512 .f32) (z : FVec Ideal S256x512 .f32) (v : Vec Ideal S1x512x512 .f32)
    (b : Vec Ideal S1x512 .f32) (w : Vec Ideal S512x512 .f32) (g : Vec Ideal S1x512 .f32) :
    k0_pay8 x a e f z v b w g = project (k0_pay5 x a e f z v b) w g := rfl

theorem pay9_eq (x : Vec Ideal S264x512 .f32) (a e : FVec Ideal S256x512 .f32) (f : FVec Ideal S512x512 .f32) (z : FVec Ideal S256x512 .f32) (v : Vec Ideal S1x512x512 .f32)
    (b : Vec Ideal S1x512 .f32) (w : Vec Ideal S512x512 .f32) (g : Vec Ideal S1x512 .f32) :
    k0_pay10 (k0_pay9 x a e f z v b w) g = project (k0_pay5 x a e f z v b) w g := rfl

theorem pay11_eq (h : FVec Ideal S256x512 .f32) (w : Vec Ideal S512x512 .f32) (g : Vec Ideal S1x512 .f32) : k0_pay11 h w g = project h w g := rfl

variable (m : (ℓ : Loc nD τ sig) → Buf (Elt Ideal) ℓ)

/-- The rows of the padded input that one block reads. -/
def rows (c : Dev nD) (t : Fin cfg0.N) : Vec Ideal S264x512 .f32 :=
  View.ld (iblk m c 0 t) (Rect.unit (s := S2056x512) (k0_off1 (grid0.coords t)) S264x512.size (k0_off1_inb (grid0.coords t)))

/-- One block of the hidden layer. -/
def hidden (c : Dev nD) (t : Fin cfg0.N) : FVec Ideal S256x512 .f32 :=
  k0_pay5 (rows m c t)
    (k0_pay2 (rows m c t)
      (View.ld (iblk m c 1 t) (Rect.unit (s := S7x512x512) ![0, 0, 0] S1x512x512.size inb_S7x512x512_S1x512x512_0_0_0))
      (View.ld (iblk m c 1 t) (Rect.unit (s := S7x512x512) ![1, 0, 0] S1x512x512.size inb_S7x512x512_S1x512x512_1_0_0))
      (View.ld (iblk m c 1 t) (Rect.unit (s := S7x512x512) ![2, 0, 0] S1x512x512.size inb_S7x512x512_S1x512x512_2_0_0))
      (View.ld (iblk m c 1 t) (Rect.unit (s := S7x512x512) ![3, 0, 0] S1x512x512.size inb_S7x512x512_S1x512x512_3_0_0))
      (View.ld (iblk m c 1 t) (Rect.unit (s := S7x512x512) ![4, 0, 0] S1x512x512.size inb_S7x512x512_S1x512x512_4_0_0)))
    (k0_pay3 (rows m c t))
    (k0_pay4 (View.ld (iblk m c 1 t) (Rect.unit (s := S7x512x512) ![5, 0, 0] S1x512x512.size inb_S7x512x512_S1x512x512_5_0_0)))
    (constant S256x512 .f32 0x00000000#32)
    (View.ld (iblk m c 1 t) (Rect.unit (s := S7x512x512) ![6, 0, 0] S1x512x512.size inb_S7x512x512_S1x512x512_6_0_0))
    (iblk m c 2 t)

theorem outs0 (c : Dev nD) (t : Fin cfg0.N) : (outsAt0 m c t).1 = hidden m c t := by
  unfold outsAt0
  frame_out
  rfl

theorem outs1 (c : Dev nD) (t : Fin cfg0.N) : (outsAt0 m c t).2.1 = heads (project (hidden m c t) (iblk m c 3 t) (iblk m c 4 t)) := by
  unfold outsAt0 hidden rows
  frame_out
  simp only [k0_pay13, k0_pay14, pay6_eq]
  generalize project _ _ _ = T
  funext y
  unfold heads
  canon_tiles x h
  all_goals (open_payloads; pointwise; blk_ext)

theorem outs2 (c : Dev nD) (t : Fin cfg0.N) : (outsAt0 m c t).2.2.1 = heads (project (hidden m c t) (iblk m c 9 t) (iblk m c 10 t)) := by
  unfold outsAt0 hidden rows
  frame_out
  simp only [k0_pay13, k0_pay14, pay9_eq]
  generalize project _ _ _ = T
  funext y
  unfold heads
  canon_tiles x h
  all_goals (open_payloads; pointwise; blk_ext)

theorem outs3 (c : Dev nD) (t : Fin cfg0.N) : (outsAt0 m c t).2.2.2.1 = heads (project (hidden m c t) (iblk m c 11 t) (iblk m c 12 t)) := by
  unfold outsAt0 hidden rows
  frame_out
  simp only [k0_pay13, k0_pay14, pay11_eq]
  generalize project _ _ _ = T
  funext y
  unfold heads
  canon_tiles x h
  all_goals (open_payloads; pointwise; blk_ext)

theorem outs4 (c : Dev nD) (t : Fin cfg0.N) : (outsAt0 m c t).2.2.2.2.1 = heads (project (hidden m c t) (iblk m c 5 t) (iblk m c 6 t)) := by
  unfold outsAt0 hidden rows
  frame_out
  simp only [k0_pay13, k0_pay14, pay7_eq]
  generalize project _ _ _ = T
  funext y
  unfold heads
  canon_tiles x h
  all_goals (open_payloads; pointwise; blk_ext)

theorem outs5 (c : Dev nD) (t : Fin cfg0.N) : (outsAt0 m c t).2.2.2.2.2 = heads (project (hidden m c t) (iblk m c 7 t) (iblk m c 8 t)) := by
  unfold outsAt0 hidden rows
  frame_out
  simp only [k0_pay13, k0_pay14, pay8_eq]
  generalize project _ _ _ = T
  funext y
  unfold heads
  canon_tiles x h
  all_goals (open_payloads; pointwise; blk_ext)

end Cert.FrontIdeal.Gen

end
-- ==== Proof.FrontArray.lean ====
module

public import proofs.«01_k».proof.Proof.FrontBody

/-! The arrays that the front call leaves, entry by entry. -/

@[expose] public section

set_option maxRecDepth 16384

noncomputable section

namespace Cert.FrontIdeal.Gen

open Idealize.ShloMosaic Idealize.ShloMosaic.TcCoe Idealize.SL.Sem

variable (m : (ℓ : Loc nD τ sig) → Buf (Elt Ideal) ℓ)

/-- One tap of the convolution: the padded input's row `r + d` against column `j` of the tap's weights. -/
def tap (x : Vec Ideal S2056x512 .f32) (w : Vec Ideal S7x512x512 .f32) (d : Fin 7) (r : Fin 2048) (j : Fin 512) : EReal :=
  ∑ k : Fin 512, x (ix2 (⟨d.val + r.val, by omega⟩ : Fin 2056) k) * w (ix3 d k j)

/-- The hidden layer: seven taps, a bias, and the positive part. -/
def layer (x : Vec Ideal S2056x512 .f32) (w : Vec Ideal S7x512x512 .f32) (b : Vec Ideal S1x512 .f32) : Vec Ideal S2048x512 .f32 :=
  fun i => max (tap x w 0 (i 0) (i 1) + tap x w 1 (i 0) (i 1) + tap x w 2 (i 0) (i 1) + tap x w 3 (i 0) (i 1) + tap x w 4 (i 0) (i 1)
    + tap x w 5 (i 0) (i 1) + tap x w 6 (i 0) (i 1) + b (ix2 0 (i 1))) 0

/-- A projection of the hidden layer, cut into heads. -/
def projected (h : Vec Ideal S2048x512 .f32) (w : Vec Ideal S512x512 .f32) (b : Vec Ideal S1x512 .f32) : Vec Ideal S16x2048x32 .f32 :=
  fun i => (∑ k : Fin 512, h (ix2 (i 1) k)
      * w (ix2 k (⟨32 * (i 0).val + (i 2).val, by have : (i 0).val < 16 := (i 0).isLt; have : (i 2).val < 32 := (i 2).isLt; omega⟩ : Fin 512)))
    + b (ix2 0 (⟨32 * (i 0).val + (i 2).val, by have : (i 0).val < 16 := (i 0).isLt; have : (i 2).val < 32 := (i 2).isLt; omega⟩ : Fin 512))

theorem idx : ∀ t : Fin cfg0.N, (win0_0.index t = ![0, 0] ∧ win0_1.index t = ![0, 0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] ∧ win0_12.index t = ![0, 0])
    ∧ (win0_13.index t = ![t.val, 0] ∧ win0_14.index t = ![0, t.val, 0] ∧ win0_15.index t = ![0, t.val, 0] ∧ win0_16.index t = ![0, t.val, 0]
    ∧ win0_17.index t = ![0, t.val + 1, 0] ∧ win0_18.index t = ![0, t.val + 1, 0]) :=
  (by decide +kernel : ∀ t : Fin grid0.N, _)

theorem off (t : Fin cfg0.N) : k0_off1 (grid0.coords t) = ![t.val * 256, 0] :=
  (by decide +kernel : ∀ t : Fin grid0.N, k0_off1 (grid0.coords t) = ![t.val * 256, 0]) t

/-- Row `i` of block `t` in the whole array. -/
def row (t : Fin cfg0.N) (i : Fin 256) : Fin 2048 := ⟨t.val * 256 + i.val, by have : t.val < 8 := t.isLt; omega⟩

theorem block2 (c : Dev nD) (t : Fin cfg0.N) : iblk m c 2 t = m ((c : Thread nD τ).loc main_arg2) := by
  funext i
  idx_vars i
  blk_ext [iblk, V, idx t]

theorem block3 (c : Dev nD) (t : Fin cfg0.N) : iblk m c 3 t = m ((c : Thread nD τ).loc main_arg3) := by
  funext i
  idx_vars i
  blk_ext [iblk, V, idx t]

theorem block4 (c : Dev nD) (t : Fin cfg0.N) : iblk m c 4 t = m ((c : Thread nD τ).loc main_arg4) := by
  funext i
  idx_vars i
  blk_ext [iblk, V, idx t]

theorem block5 (c : Dev nD) (t : Fin cfg0.N) : iblk m c 5 t = m ((c : Thread nD τ).loc main_arg5) := by
  funext i
  idx_vars i
  blk_ext [iblk, V, idx t]

theorem block6 (c : Dev nD) (t : Fin cfg0.N) : iblk m c 6 t = m ((c : Thread nD τ).loc main_arg6) := by
  funext i
  idx_vars i
  blk_ext [iblk, V, idx t]

theorem block7 (c : Dev nD) (t : Fin cfg0.N) : iblk m c 7 t = m ((c : Thread nD τ).loc main_arg7) := by
  funext i
  idx_vars i
  blk_ext [iblk, V, idx t]

theorem block8 (c : Dev nD) (t : Fin cfg0.N) : iblk m c 8 t = m ((c : Thread nD τ).loc main_arg8) := by
  funext i
  idx_vars i
  blk_ext [iblk, V, idx t]

theorem block9 (c : Dev nD) (t : Fin cfg0.N) : iblk m c 9 t = m ((c : Thread nD τ).loc main_arg9) := by
  funext i
  idx_vars i
  blk_ext [iblk, V, idx t]

theorem block10 (c : Dev nD) (t : Fin cfg0.N) : iblk m c 10 t = m ((c : Thread nD τ).loc main_arg10) := by
  funext i
  idx_vars i
  blk_ext [iblk, V, idx t]

theorem block11 (c : Dev nD) (t : Fin cfg0.N) : iblk m c 11 t = m ((c : Thread nD τ).loc main_arg11) := by
  funext i
  idx_vars i
  blk_ext [iblk, V, idx t]

theorem block12 (c : Dev nD) (t : Fin cfg0.N) : iblk m c 12 t = m ((c : Thread nD τ).loc main_arg12) := by
  funext i
  idx_vars i
  blk_ext [iblk, V, idx t]

theorem rows_apply (c : Dev nD) (t : Fin cfg0.N) (i : Fin 264) (k : Fin 512) :
    rows m c t (ix2 i k) = m ((c : Thread nD τ).loc main_arg0) (ix2 (⟨t.val * 256 + i.val, by have : t.val < 8 := t.isLt; omega⟩ : Fin 2056) k) := by
  unfold rows
  rw [View.ld_apply]
  blk_ext [iblk, V, idx t]
  · show k0_off1 (grid0.coords t) 0 + 1 * i.val = _
    rw [off t]
    simp
  · show k0_off1 (grid0.coords t) 1 + 1 * k.val = _
    rw [off t]
    simp

/-- The weights of one tap. -/
def plane (w : Vec Ideal S7x512x512 .f32) (d : Fin 7) : Vec Ideal S1x512x512 .f32 := fun i => w (ix3 d (i 1) (i 2))

theorem weights0 (c : Dev nD) (t : Fin cfg0.N) :
    View.ld (iblk m c 1 t) (Rect.unit (s := S7x512x512) ![0, 0, 0] S1x512x512.size inb_S7x512x512_S1x512x512_0_0_0)
      = plane (m ((c : Thread nD τ).loc main_arg1)) 0 := by
  funext i
  idx_vars i
  obtain rfl : i0 = 0 := Subsingleton.elim _ _
  rw [View.ld_apply]
  unfold plane
  blk_ext [iblk, V, idx t]
  · rfl
  · show 0 + 1 * i1.val = i1.val
    omega
  · show 0 + 1 * i2.val = i2.val
    omega

theorem weights1 (c : Dev nD) (t : Fin cfg0.N) :
    View.ld (iblk m c 1 t) (Rect.unit (s := S7x512x512) ![1, 0, 0] S1x512x512.size inb_S7x512x512_S1x512x512_1_0_0)
      = plane (m ((c : Thread nD τ).loc main_arg1)) 1 := by
  funext i
  idx_vars i
  obtain rfl : i0 = 0 := Subsingleton.elim _ _
  rw [View.ld_apply]
  unfold plane
  blk_ext [iblk, V, idx t]
  · rfl
  · show 0 + 1 * i1.val = i1.val
    omega
  · show 0 + 1 * i2.val = i2.val
    omega

theorem weights2 (c : Dev nD) (t : Fin cfg0.N) :
    View.ld (iblk m c 1 t) (Rect.unit (s := S7x512x512) ![2, 0, 0] S1x512x512.size inb_S7x512x512_S1x512x512_2_0_0)
      = plane (m ((c : Thread nD τ).loc main_arg1)) 2 := by
  funext i
  idx_vars i
  obtain rfl : i0 = 0 := Subsingleton.elim _ _
  rw [View.ld_apply]
  unfold plane
  blk_ext [iblk, V, idx t]
  · rfl
  · show 0 + 1 * i1.val = i1.val
    omega
  · show 0 + 1 * i2.val = i2.val
    omega

theorem weights3 (c : Dev nD) (t : Fin cfg0.N) :
    View.ld (iblk m c 1 t) (Rect.unit (s := S7x512x512) ![3, 0, 0] S1x512x512.size inb_S7x512x512_S1x512x512_3_0_0)
      = plane (m ((c : Thread nD τ).loc main_arg1)) 3 := by
  funext i
  idx_vars i
  obtain rfl : i0 = 0 := Subsingleton.elim _ _
  rw [View.ld_apply]
  unfold plane
  blk_ext [iblk, V, idx t]
  · rfl
  · show 0 + 1 * i1.val = i1.val
    omega
  · show 0 + 1 * i2.val = i2.val
    omega

theorem weights4 (c : Dev nD) (t : Fin cfg0.N) :
    View.ld (iblk m c 1 t) (Rect.unit (s := S7x512x512) ![4, 0, 0] S1x512x512.size inb_S7x512x512_S1x512x512_4_0_0)
      = plane (m ((c : Thread nD τ).loc main_arg1)) 4 := by
  funext i
  idx_vars i
  obtain rfl : i0 = 0 := Subsingleton.elim _ _
  rw [View.ld_apply]
  unfold plane
  blk_ext [iblk, V, idx t]
  · rfl
  · show 0 + 1 * i1.val = i1.val
    omega
  · show 0 + 1 * i2.val = i2.val
    omega

theorem weights5 (c : Dev nD) (t : Fin cfg0.N) :
    View.ld (iblk m c 1 t) (Rect.unit (s := S7x512x512) ![5, 0, 0] S1x512x512.size inb_S7x512x512_S1x512x512_5_0_0)
      = plane (m ((c : Thread nD τ).loc main_arg1)) 5 := by
  funext i
  idx_vars i
  obtain rfl : i0 = 0 := Subsingleton.elim _ _
  rw [View.ld_apply]
  unfold plane
  blk_ext [iblk, V, idx t]
  · rfl
  · show 0 + 1 * i1.val = i1.val
    omega
  · show 0 + 1 * i2.val = i2.val
    omega

theorem weights6 (c : Dev nD) (t : Fin cfg0.N) :
    View.ld (iblk m c 1 t) (Rect.unit (s := S7x512x512) ![6, 0, 0] S1x512x512.size inb_S7x512x512_S1x512x512_6_0_0)
      = plane (m ((c : Thread nD τ).loc main_arg1)) 6 := by
  funext i
  idx_vars i
  obtain rfl : i0 = 0 := Subsingleton.elim _ _
  rw [View.ld_apply]
  unfold plane
  blk_ext [iblk, V, idx t]
  · rfl
  · show 0 + 1 * i1.val = i1.val
    omega
  · show 0 + 1 * i2.val = i2.val
    omega

theorem hidden_apply (c : Dev nD) (t : Fin cfg0.N) (i : Fin 256) (j : Fin 512) :
    hidden m c t (ix2 i j) = layer (m ((c : Thread nD τ).loc main_arg0)) (m ((c : Thread nD τ).loc main_arg1)) (m ((c : Thread nD τ).loc main_arg2)) (ix2 (row t i) j) := by
  unfold hidden layer tap
  rw [weights0, weights1, weights2, weights3, weights4, weights5, weights6, pay5_apply, pay2_apply, block2]
  simp only [rows_apply]
  have e : ∀ (d n : Nat) (hd : n < 2056) (he : d + (t.val * 256 + i.val) < 2056), n = d + (t.val * 256 + i.val) →
      (⟨n, hd⟩ : Fin 2056) = ⟨d + (t.val * 256 + i.val), he⟩ := by
    intro d n hd he h
    exact Fin.ext h
  have ht : t.val < 8 := t.isLt
  rw [e 0 (t.val * 256 + i.val) (by omega) (by omega) (by omega), e 1 (t.val * 256 + (1 + i.val)) (by omega) (by omega) (by omega),
    e 2 (t.val * 256 + (2 + i.val)) (by omega) (by omega) (by omega), e 3 (t.val * 256 + (3 + i.val)) (by omega) (by omega) (by omega),
    e 4 (t.val * 256 + (4 + i.val)) (by omega) (by omega) (by omega), e 5 (t.val * 256 + (5 + i.val)) (by omega) (by omega) (by omega),
    e 6 (t.val * 256 + (6 + i.val)) (by omega) (by omega) (by omega)]
  rfl

theorem heads_apply (c : Dev nD) (t : Fin cfg0.N) (w : Vec Ideal S512x512 .f32) (b : Vec Ideal S1x512 .f32) (a : Fin 16) (i : Fin 256) (d : Fin 32) :
    heads (project (hidden m c t) w b) (ix3 a i d)
      = projected (layer (m ((c : Thread nD τ).loc main_arg0)) (m ((c : Thread nD τ).loc main_arg1)) (m ((c : Thread nD τ).loc main_arg2))) w b (ix3 a (row t i) d) := by
  show project (hidden m c t) w b (ix2 i (⟨32 * a.val + d.val, by omega⟩ : Fin 512)) = _
  rw [project_apply]
  refine congrArg (fun z : EReal => z + _) (Finset.sum_congr rfl fun k _ => ?_)
  exact congrArg (fun z : EReal => z * _) (hidden_apply m c t i k)

theorem arr13 (c : Dev nD) :
    (dats m 0 c).arrAt 13 cfg0.N = layer (m ((c : Thread nD τ).loc main_arg0)) (m ((c : Thread nD τ).loc main_arg1)) (m ((c : Thread nD τ).loc main_arg2)) := by
  refine (dats m 0 c).arrAt_eq_of_covers 13 _ (by decide +kernel) fun t hf y => ?_
  blk_simp
  rw [after0_13, outs0]
  idx_vars y
  have e : (win0_13.blk t).view.emb (ix2 y0 y1) = (ix2 (row t y0) y1 : S2048x512.Idx) := by
    unfold row
    blk_ext [idx t]
  rw [e]
  exact hidden_apply m c t y0 y1

theorem arr14 (c : Dev nD) :
    (dats m 0 c).arrAt 14 cfg0.N
      = projected (layer (m ((c : Thread nD τ).loc main_arg0)) (m ((c : Thread nD τ).loc main_arg1)) (m ((c : Thread nD τ).loc main_arg2)))
          (m ((c : Thread nD τ).loc main_arg3)) (m ((c : Thread nD τ).loc main_arg4)) := by
  refine (dats m 0 c).arrAt_eq_of_covers 14 _ (by decide +kernel) fun t hf y => ?_
  blk_simp
  rw [after0_14, outs1]
  idx_vars y
  have e : (win0_14.blk t).view.emb (ix3 y0 y1 y2) = (ix3 y0 (row t y1) y2 : S16x2048x32.Idx) := by
    unfold row
    blk_ext [idx t]
  rw [e, block3, block4]
  exact heads_apply m c t _ _ y0 y1 y2

theorem arr15 (c : Dev nD) :
    (dats m 0 c).arrAt 15 cfg0.N
      = projected (layer (m ((c : Thread nD τ).loc main_arg0)) (m ((c : Thread nD τ).loc main_arg1)) (m ((c : Thread nD τ).loc main_arg2)))
          (m ((c : Thread nD τ).loc main_arg9)) (m ((c : Thread nD τ).loc main_arg10)) := by
  refine (dats m 0 c).arrAt_eq_of_covers 15 _ (by decide +kernel) fun t hf y => ?_
  blk_simp
  rw [after0_15, outs2]
  idx_vars y
  have e : (win0_15.blk t).view.emb (ix3 y0 y1 y2) = (ix3 y0 (row t y1) y2 : S16x2048x32.Idx) := by
    unfold row
    blk_ext [idx t]
  rw [e, block9, block10]
  exact heads_apply m c t _ _ y0 y1 y2

theorem arr16 (c : Dev nD) :
    (dats m 0 c).arrAt 16 cfg0.N
      = projected (layer (m ((c : Thread nD τ).loc main_arg0)) (m ((c : Thread nD τ).loc main_arg1)) (m ((c : Thread nD τ).loc main_arg2)))
          (m ((c : Thread nD τ).loc main_arg11)) (m ((c : Thread nD τ).loc main_arg12)) := by
  refine (dats m 0 c).arrAt_eq_of_covers 16 _ (by decide +kernel) fun t hf y => ?_
  blk_simp
  rw [after0_16, outs3]
  idx_vars y
  have e : (win0_16.blk t).view.emb (ix3 y0 y1 y2) = (ix3 y0 (row t y1) y2 : S16x2048x32.Idx) := by
    unfold row
    blk_ext [idx t]
  rw [e, block11, block12]
  exact heads_apply m c t _ _ y0 y1 y2

/-- A padded array of heads: the projection in rows 256 to 2303, and `u` elsewhere. -/
def padded (p : Vec Ideal S16x2048x32 .f32) (u : Vec Ideal S16x2560x32 .f32) : Vec Ideal S16x2560x32 .f32 :=
  fun i => if h : 256 * 1 ≤ (i 1).val ∧ (i 1).val < 256 * 9 then p (ix3 (i 0) (⟨(i 1).val - 256, by omega⟩ : Fin 2048) (i 2)) else u i

theorem padded_row (p : Vec Ideal S16x2048x32 .f32) (u : Vec Ideal S16x2560x32 .f32) (a : Fin 16) (r : Fin 2048) (d : Fin 32) :
    padded p u (ix3 a (⟨256 + r.val, by omega⟩ : Fin 2560) d) = p (ix3 a r d) := by
  unfold padded
  rw [dif_pos ⟨by show 256 * 1 ≤ 256 + r.val; omega, by show 256 + r.val < 256 * 9; omega⟩]
  exact congrArg p (by congr 1; exact Fin.ext (by show 256 + r.val - 256 = r.val; omega))

theorem arr17 (c : Dev nD) :
    (dats m 0 c).arrAt 17 cfg0.N
      = padded (projected (layer (m ((c : Thread nD τ).loc main_arg0)) (m ((c : Thread nD τ).loc main_arg1)) (m ((c : Thread nD τ).loc main_arg2)))
          (m ((c : Thread nD τ).loc main_arg5)) (m ((c : Thread nD τ).loc main_arg6))) (V m c main_v0_4) := by
  refine (dats m 0 c).arrAt_eq_of_coversWhere_of_agree 17 _ (fun β => 1 ≤ β 1 ∧ β 1 < 9) (by decide +kernel) (fun t hf y => ?_) (fun j hj => ?_)
  · blk_simp
    rw [after0_17, outs4]
    idx_vars y
    have e : (win0_17.blk t).view.emb (ix3 y0 y1 y2) = (ix3 y0 (⟨256 + (row t y1).val, by omega⟩ : Fin 2560) y2 : S16x2560x32.Idx) := by
      unfold row
      blk_ext [idx t]
    rw [e, block5, block6, padded_row]
    exact heads_apply m c t _ _ y0 y1 y2
  · rw [A_eq]
    unfold padded
    rw [dif_neg]
    blk_simp [Pipeline.Window.cell_apply] at hj ⊢
    omega

theorem arr18 (c : Dev nD) :
    (dats m 0 c).arrAt 18 cfg0.N
      = padded (projected (layer (m ((c : Thread nD τ).loc main_arg0)) (m ((c : Thread nD τ).loc main_arg1)) (m ((c : Thread nD τ).loc main_arg2)))
          (m ((c : Thread nD τ).loc main_arg7)) (m ((c : Thread nD τ).loc main_arg8))) (V m c main_v0_5) := by
  refine (dats m 0 c).arrAt_eq_of_coversWhere_of_agree 18 _ (fun β => 1 ≤ β 1 ∧ β 1 < 9) (by decide +kernel) (fun t hf y => ?_) (fun j hj => ?_)
  · blk_simp
    rw [after0_18, outs5]
    idx_vars y
    have e : (win0_18.blk t).view.emb (ix3 y0 y1 y2) = (ix3 y0 (⟨256 + (row t y1).val, by omega⟩ : Fin 2560) y2 : S16x2560x32.Idx) := by
      unfold row
      blk_ext [idx t]
    rw [e, block7, block8, padded_row]
    exact heads_apply m c t _ _ y0 y1 y2
  · rw [A_eq]
    unfold padded
    rw [dif_neg]
    blk_simp [Pipeline.Window.cell_apply] at hj ⊢
    omega

end Cert.FrontIdeal.Gen

end
-- ==== Proof.FrontReference.lean ====
module

public import proofs.«01_k».proof.Proof.Gen.FrontRefIdeal.Read
public import proofs.«01_k».proof.Proof.FrontArray

/-! The front call's reference, entry by entry: it has the arrays of the call. -/

@[expose] public section

set_option maxRecDepth 16384

noncomputable section

namespace Cert.FrontReference

open Idealize.ShloMosaic Cert.FrontRefIdeal Cert.FrontRefIdeal.Read
open Cert.FrontIdeal.Gen (tap layer projected)

theorem zero_word (x : EReal) (h : x = Ideal.ofBits FTy.f32 0) : x = 0 := by
  rw [h]
  simp [Ideal.ofBits, Ideal.ieee]

theorem tap0 (x : Vec Ideal S2056x512 .f32) (w : Vec Ideal S7x512x512 .f32) (r : Fin 2048) (j : Fin 512) :
    val_main_v3 (F := Ideal) x w (ix2 r j) = tap x w 0 r j := by
  unfold val_main_v3 val_main_v2 val_main_v1 val_main_v0 tap
  pointwise

theorem tap1 (x : Vec Ideal S2056x512 .f32) (w : Vec Ideal S7x512x512 .f32) (r : Fin 2048) (j : Fin 512) :
    val_main_v9 (F := Ideal) x w (ix2 r j) = tap x w 1 r j := by
  unfold val_main_v9 val_main_v8 val_main_v7 val_main_v6 tap
  pointwise

theorem tap2 (x : Vec Ideal S2056x512 .f32) (w : Vec Ideal S7x512x512 .f32) (r : Fin 2048) (j : Fin 512) :
    val_main_v14 (F := Ideal) x w (ix2 r j) = tap x w 2 r j := by
  unfold val_main_v14 val_main_v13 val_main_v12 val_main_v11 tap
  pointwise

theorem tap3 (x : Vec Ideal S2056x512 .f32) (w : Vec Ideal S7x512x512 .f32) (r : Fin 2048) (j : Fin 512) :
    val_main_v19 (F := Ideal) x w (ix2 r j) = tap x w 3 r j := by
  unfold val_main_v19 val_main_v18 val_main_v17 val_main_v16 tap
  pointwise

theorem tap4 (x : Vec Ideal S2056x512 .f32) (w : Vec Ideal S7x512x512 .f32) (r : Fin 2048) (j : Fin 512) :
    val_main_v24 (F := Ideal) x w (ix2 r j) = tap x w 4 r j := by
  unfold val_main_v24 val_main_v23 val_main_v22 val_main_v21 tap
  pointwise

theorem tap5 (x : Vec Ideal S2056x512 .f32) (w : Vec Ideal S7x512x512 .f32) (r : Fin 2048) (j : Fin 512) :
    val_main_v29 (F := Ideal) x w (ix2 r j) = tap x w 5 r j := by
  unfold val_main_v29 val_main_v28 val_main_v27 val_main_v26 tap
  pointwise

theorem tap6 (x : Vec Ideal S2056x512 .f32) (w : Vec Ideal S7x512x512 .f32) (r : Fin 2048) (j : Fin 512) :
    val_main_v34 (F := Ideal) x w (ix2 r j) = tap x w 6 r j := by
  unfold val_main_v34 val_main_v33 val_main_v32 val_main_v31 tap
  pointwise

theorem layer_eq (x : Vec Ideal S2056x512 .f32) (w : Vec Ideal S7x512x512 .f32) (b : Vec Ideal S1x512 .f32) :
    val_main_v38 (F := Ideal) x w b = layer x w b := by
  funext i
  obtain ⟨r, j, rfl⟩ : ∃ (r : Fin 2048) (j : Fin 512), i = ix2 r j := ⟨i 0, i 1, by funext a; fin_cases a <;> rfl⟩
  unfold val_main_v38 val_main_v37 val_main_v36 val_main_v35 val_main_v30 val_main_v25 val_main_v20 val_main_v15 val_main_v10 val_main_v5 val_main_v4
    val_main_call0_v0 layer
  pointwise
  simp only [tap0, tap1, tap2, tap3, tap4, tap5, tap6]
  rw [zero_word (val_main_cst (F := Ideal) ix0) rfl, zero_word (val_main_call0_cst (F := Ideal) ix0) rfl, zero_add]

theorem projected0 (x : Vec Ideal S2056x512 .f32) (w : Vec Ideal S7x512x512 .f32) (b : Vec Ideal S1x512 .f32) (u : Vec Ideal S512x512 .f32) (v : Vec Ideal S1x512 .f32) :
    val_main_v43 (F := Ideal) x w b u v = projected (layer x w b) u v := by
  funext i
  obtain ⟨a, r, d, rfl⟩ : ∃ (a : Fin 16) (r : Fin 2048) (d : Fin 32), i = ix3 a r d := ⟨i 0, i 1, i 2, by funext a; fin_cases a <;> rfl⟩
  unfold val_main_v43 val_main_v42 val_main_v41 val_main_v40 val_main_v39
  rw [layer_eq]
  generalize layer x w b = h
  unfold projected
  pointwise
  rw [show (⟨a.val * 32 + d.val, by omega⟩ : Fin 512) = ⟨32 * a.val + d.val, by omega⟩ from Fin.ext (by show a.val * 32 + d.val = 32 * a.val + d.val; omega)]

theorem projected1 (x : Vec Ideal S2056x512 .f32) (w : Vec Ideal S7x512x512 .f32) (b : Vec Ideal S1x512 .f32) (u : Vec Ideal S512x512 .f32) (v : Vec Ideal S1x512 .f32) :
    val_main_v48 (F := Ideal) x w b u v = projected (layer x w b) u v := by
  funext i
  obtain ⟨a, r, d, rfl⟩ : ∃ (a : Fin 16) (r : Fin 2048) (d : Fin 32), i = ix3 a r d := ⟨i 0, i 1, i 2, by funext a; fin_cases a <;> rfl⟩
  unfold val_main_v48 val_main_v47 val_main_v46 val_main_v45 val_main_v44
  rw [layer_eq]
  generalize layer x w b = h
  unfold projected
  pointwise
  rw [show (⟨a.val * 32 + d.val, by omega⟩ : Fin 512) = ⟨32 * a.val + d.val, by omega⟩ from Fin.ext (by show a.val * 32 + d.val = 32 * a.val + d.val; omega)]

theorem projected2 (x : Vec Ideal S2056x512 .f32) (w : Vec Ideal S7x512x512 .f32) (b : Vec Ideal S1x512 .f32) (u : Vec Ideal S512x512 .f32) (v : Vec Ideal S1x512 .f32) :
    val_main_v53 (F := Ideal) x w b u v = projected (layer x w b) u v := by
  funext i
  obtain ⟨a, r, d, rfl⟩ : ∃ (a : Fin 16) (r : Fin 2048) (d : Fin 32), i = ix3 a r d := ⟨i 0, i 1, i 2, by funext a; fin_cases a <;> rfl⟩
  unfold val_main_v53 val_main_v52 val_main_v51 val_main_v50 val_main_v49
  rw [layer_eq]
  generalize layer x w b = h
  unfold projected
  pointwise
  rw [show (⟨a.val * 32 + d.val, by omega⟩ : Fin 512) = ⟨32 * a.val + d.val, by omega⟩ from Fin.ext (by show a.val * 32 + d.val = 32 * a.val + d.val; omega)]

theorem projected3 (x : Vec Ideal S2056x512 .f32) (w : Vec Ideal S7x512x512 .f32) (b : Vec Ideal S1x512 .f32) (u : Vec Ideal S512x512 .f32) (v : Vec Ideal S1x512 .f32) :
    val_main_v58 (F := Ideal) x w b u v = projected (layer x w b) u v := by
  funext i
  obtain ⟨a, r, d, rfl⟩ : ∃ (a : Fin 16) (r : Fin 2048) (d : Fin 32), i = ix3 a r d := ⟨i 0, i 1, i 2, by funext a; fin_cases a <;> rfl⟩
  unfold val_main_v58 val_main_v57 val_main_v56 val_main_v55 val_main_v54
  rw [layer_eq]
  generalize layer x w b = h
  unfold projected
  pointwise
  rw [show (⟨a.val * 32 + d.val, by omega⟩ : Fin 512) = ⟨32 * a.val + d.val, by omega⟩ from Fin.ext (by show a.val * 32 + d.val = 32 * a.val + d.val; omega)]

theorem projected4 (x : Vec Ideal S2056x512 .f32) (w : Vec Ideal S7x512x512 .f32) (b : Vec Ideal S1x512 .f32) (u : Vec Ideal S512x512 .f32) (v : Vec Ideal S1x512 .f32) :
    val_main_v63 (F := Ideal) x w b u v = projected (layer x w b) u v := by
  funext i
  obtain ⟨a, r, d, rfl⟩ : ∃ (a : Fin 16) (r : Fin 2048) (d : Fin 32), i = ix3 a r d := ⟨i 0, i 1, i 2, by funext a; fin_cases a <;> rfl⟩
  unfold val_main_v63 val_main_v62 val_main_v61 val_main_v60 val_main_v59
  rw [layer_eq]
  generalize layer x w b = h
  unfold projected
  pointwise
  rw [show (⟨a.val * 32 + d.val, by omega⟩ : Fin 512) = ⟨32 * a.val + d.val, by omega⟩ from Fin.ext (by show a.val * 32 + d.val = 32 * a.val + d.val; omega)]

end Cert.FrontReference

end
-- ==== Proof.FrontRun.lean ====
module

public import proofs.«01_k».proof.Proof.FrontArray

/-! The run of the front call's program, with the two slices that it takes after the call. -/

@[expose] public section

set_option maxRecDepth 16384

noncomputable section

namespace Cert.FrontIdeal.Gen

open Idealize.ShloMosaic Idealize.ShloMosaic.TcCoe Idealize.SL.Sem

variable (m : (ℓ : Loc nD τ sig) → Buf (Elt Ideal) ℓ) (ρ : Dev nD → PrngReg)

/-- Rows 256 to 2303 of a padded array. -/
def inner (x : Vec Ideal S16x2560x32 .f32) : Vec Ideal S16x2048x32 .f32 :=
  extractStridedSlice S16x2048x32 ![0, 256, 0] x slices_S16x2560x32_S16x2048x32_0_256_0

theorem inner_padded (p : Vec Ideal S16x2048x32 .f32) (u : Vec Ideal S16x2560x32 .f32) : inner (padded p u) = p := by
  funext i
  obtain ⟨a, r, d, rfl⟩ : ∃ (a : Fin 16) (r : Fin 2048) (d : Fin 32), i = ix3 a r d := ⟨i 0, i 1, i 2, by funext a; fin_cases a <;> rfl⟩
  rw [← padded_row p u a r d]
  unfold inner
  pointwise

theorem slice1 (c : Dev nD) : Pipeline.afterTail₀ cfgs (dats m) 0 (V0 m) [hostOps1] c main_v1 = inner ((dats m 0 c).arrAt 17 cfg0.N) := by
  unfold Pipeline.afterTail₀
  simp only [List.flatten_cons, List.flatten_nil, List.append_nil, hostOps1]
  after_region_results
  erw [Pipeline.withArrays_arr spec0 launch0.win.arr_inj c (V0 m c) _ 17]
  rfl

theorem slice2 (c : Dev nD) : Pipeline.afterTail₀ cfgs (dats m) 0 (V0 m) [hostOps1] c main_v2 = inner ((dats m 0 c).arrAt 18 cfg0.N) := by
  unfold Pipeline.afterTail₀
  simp only [List.flatten_cons, List.flatten_nil, List.append_nil, hostOps1]
  after_region_results
  erw [Pipeline.withArrays_arr spec0 launch0.win.arr_inj c (V0 m c) _ 18]
  rfl

theorem run_values : θ_run defs (onTc (τ := τ) (main (F := Ideal))) ⟨m, fun _ => 0, ρ⟩ fun r => ∀ c : Dev nD,
      r.2.mem ((c : Thread nD τ).loc main_v0_0) = (dats m 0 c).arrAt 13 cfg0.N
      ∧ r.2.mem ((c : Thread nD τ).loc main_v0_1) = (dats m 0 c).arrAt 14 cfg0.N
      ∧ r.2.mem ((c : Thread nD τ).loc main_v0_2) = (dats m 0 c).arrAt 15 cfg0.N
      ∧ r.2.mem ((c : Thread nD τ).loc main_v0_3) = (dats m 0 c).arrAt 16 cfg0.N
      ∧ r.2.mem ((c : Thread nD τ).loc main_v1) = inner ((dats m 0 c).arrAt 17 cfg0.N)
      ∧ r.2.mem ((c : Thread nD τ).loc main_v2) = inner ((dats m 0 c).arrAt 18 cfg0.N) :=
  (θ_run defs _ _).mono (fun r h c => ⟨(h c).1 13, (h c).1 14, (h c).1 15, (h c).1 16,
    ((h c).2 main_v1 (by decide)).trans (slice1 m c), ((h c).2 main_v2 (by decide)).trans (slice2 m c)⟩) (run_main m ρ)

end Cert.FrontIdeal.Gen

end
-- ==== Proof.NormRow.lean ====
module

public import Idealize.ShloMosaic.PureOps.Ideal
public import Idealize.ShloMosaic.Lib.ValueIdx

/-! The layer normalisation of one row of 512 numbers, and the projection before it. -/

@[expose] public section

noncomputable section

namespace Cert.NormRow

open Idealize.ShloMosaic

/-- The mean of a row, with the word of 512 as divisor. -/
def mean (x : Fin 512 → EReal) : EReal := Ideal.div (∑ k, x k) (Ideal.ofBits FTy.f32 1140850688#32)

/-- The mean of the squared distances to the mean, and the small constant. -/
def spread (x : Fin 512 → EReal) : EReal :=
  mean (fun k => (x k - mean x) * (x k - mean x)) + Ideal.ofBits FTy.f32 925353388#32

theorem width : Ideal.ofBits FTy.f32 1140850688#32 = ((512 : ℝ) : EReal) := by
  simp [Ideal.ofBits, Ideal.ieee]
  rw [← EReal.coe_mul]
  norm_num

theorem small : ∃ e : ℝ, 0 < e ∧ Ideal.ofBits FTy.f32 925353388#32 = (e : EReal) := by
  refine ⟨2748779 / 274877906944, by norm_num, ?_⟩
  simp [Ideal.ofBits, Ideal.ieee]
  rw [← EReal.coe_mul]
  norm_num

theorem square_nonneg (x : EReal) : 0 ≤ x * x := by
  rcases le_total 0 x with h | h
  · exact mul_nonneg h h
  · rw [← neg_mul_neg x x]
    exact mul_nonneg (by simpa using EReal.neg_le_neg_iff.2 h) (by simpa using EReal.neg_le_neg_iff.2 h)

theorem mean_nonneg (x : Fin 512 → EReal) (h : ∀ k, 0 ≤ x k) : 0 ≤ mean x := by
  unfold mean
  rw [width, Ideal.div_coe (by norm_num)]
  exact mul_nonneg (Finset.sum_nonneg fun k _ => h k) (by exact_mod_cast (by norm_num : (0 : ℝ) ≤ 1 / 512))

theorem spread_pos (x : Fin 512 → EReal) : 0 < spread x := by
  obtain ⟨e, he, h⟩ := small
  unfold spread
  rw [h]
  have := mean_nonneg (fun k => (x k - mean x) * (x k - mean x)) fun k => square_nonneg _
  calc (0 : EReal) < (e : EReal) := by exact_mod_cast he
    _ ≤ _ := le_add_of_nonneg_left this

/-- Multiplying by the reciprocal root of a positive number is dividing by its root. -/
theorem mul_rsqrt (x y : EReal) (h : 0 < y) : x * Ideal.rsqrt y = Ideal.div x (Ideal.sqrt y) := by
  induction y with
  | bot => simp at h
  | top => simp [Ideal.div]
  | coe r =>
    have hr : 0 < r := by exact_mod_cast h
    have hs : Real.sqrt r ≠ 0 := (Real.sqrt_pos.2 hr).ne'
    simp only [Ideal.rsqrt_coe, Ideal.sqrt_coe, if_neg hr.not_gt, if_neg hr.ne']
    rw [Ideal.div_coe hs, one_div]

end Cert.NormRow

end
-- ==== Proof.NormBody.lean ====
module

public import proofs.«01_k».proof.Proof.Gen.NormIdeal.Value
public import proofs.«01_k».proof.Proof.NormRow
public import Idealize.ShloMosaic.Lib.Pipeline.ValueKit
public import Idealize.ShloMosaic.Lib.Pointwise

/-! What the output call leaves, entry by entry. -/

@[expose] public section

set_option maxRecDepth 16384

noncomputable section

namespace Cert.NormIdeal.Gen

open Idealize.ShloMosaic Idealize.ShloMosaic.TcCoe Idealize.SL.Sem

variable (m : (ℓ : Loc nD τ sig) → Buf (Elt Ideal) ℓ)

/-- One entry of the projected heads with its bias and the skipped input: row `r`, column `j`. -/
def joined {n : Nat} (o : (⟨⟨3, ![16, n, 32]⟩, .f32⟩ : BufTy).Contents (Elt Ideal)) (w : Vec Ideal S512x512 .f32) (b : Vec Ideal S1x512 .f32)
    (h : (⟨⟨2, ![n, 512]⟩, .f32⟩ : BufTy).Contents (Elt Ideal)) (r : Fin n) (j : Fin 512) : EReal :=
  ∑ k : Fin 512, o (ix3 (⟨k.val / 32, by omega⟩ : Fin 16) r (⟨k.val % 32, by omega⟩ : Fin 32)) * w (ix2 k j) + b (ix2 0 j) + h (ix2 r j)

theorem pay_apply (o : Vec Ideal S16x256x32 .f32) (w : Vec Ideal S512x512 .f32) (b : Vec Ideal S1x512 .f32) (h : Vec Ideal S256x512 .f32)
    (g : Vec Ideal S1x512 .f32) (e : Vec Ideal S1x512 .f32) (i : Fin 256) (j : Fin 512) :
    k0_pay1 o w b h g e (ix2 i j)
      = (joined o w b h i j - NormRow.mean (joined o w b h i)) * Ideal.rsqrt (NormRow.spread (joined o w b h i)) * g (ix2 0 j)
        + e (ix2 0 j) := by
  unfold k0_pay1
  pointwise
  rfl

/-- The normalised rows of the whole array. -/
def normed (o : Vec Ideal S16x2048x32 .f32) (h : Vec Ideal S2048x512 .f32) (w : Vec Ideal S512x512 .f32) (b : Vec Ideal S1x512 .f32)
    (g : Vec Ideal S1x512 .f32) (e : Vec Ideal S1x512 .f32) : Vec Ideal S2048x512 .f32 :=
  fun i => (joined o w b h (i 0) (i 1) - NormRow.mean (joined o w b h (i 0))) * Ideal.rsqrt (NormRow.spread (joined o w b h (i 0)))
    * g (ix2 0 (i 1)) + e (ix2 0 (i 1))

theorem outs_eq (c : Dev nD) (t : Fin cfg0.N) :
    out0_6 (iblk m c 0 t) (iblk m c 1 t) (iblk m c 2 t) (iblk m c 3 t) (iblk m c 4 t) (iblk m c 5 t)
      = k0_pay1 (iblk m c 0 t) (iblk m c 2 t) (iblk m c 3 t) (iblk m c 1 t) (iblk m c 4 t) (iblk m c 5 t) := by
  unfold out0_6
  frame_out

theorem idx : ∀ t : Fin cfg0.N, (win0_0.index t = ![0, t.val, 0] ∧ win0_1.index t = ![t.val, 0] ∧ win0_2.index t = ![0, 0]
    ∧ win0_3.index t = ![0, 0] ∧ win0_4.index t = ![0, 0] ∧ win0_5.index t = ![0, 0]) ∧ win0_6.index t = ![t.val, 0] :=
  (by decide +kernel : ∀ t : Fin grid0.N, _)

theorem block2 (c : Dev nD) (t : Fin cfg0.N) : iblk m c 2 t = m ((c : Thread nD τ).loc main_arg2) := by
  funext i
  idx_vars i
  blk_ext [iblk, V, idx t]

theorem block3 (c : Dev nD) (t : Fin cfg0.N) : iblk m c 3 t = m ((c : Thread nD τ).loc main_arg3) := by
  funext i
  idx_vars i
  blk_ext [iblk, V, idx t]

theorem block4 (c : Dev nD) (t : Fin cfg0.N) : iblk m c 4 t = m ((c : Thread nD τ).loc main_arg4) := by
  funext i
  idx_vars i
  blk_ext [iblk, V, idx t]

theorem block5 (c : Dev nD) (t : Fin cfg0.N) : iblk m c 5 t = m ((c : Thread nD τ).loc main_arg5) := by
  funext i
  idx_vars i
  blk_ext [iblk, V, idx t]

/-- Row `i` of block `t` in the whole array. -/
def row (t : Fin cfg0.N) (i : Fin 256) : Fin 2048 := ⟨t.val * 256 + i.val, by have : t.val < 8 := t.isLt; omega⟩

theorem block0 (c : Dev nD) (t : Fin cfg0.N) (a : Fin 16) (i : Fin 256) (d : Fin 32) :
    iblk m c 0 t (ix3 a i d) = m ((c : Thread nD τ).loc main_arg0) (ix3 a (row t i) d) := by
  unfold row
  blk_ext [iblk, V, idx t]

theorem block1 (c : Dev nD) (t : Fin cfg0.N) (i : Fin 256) (j : Fin 512) :
    iblk m c 1 t (ix2 i j) = m ((c : Thread nD τ).loc main_arg1) (ix2 (row t i) j) := by
  unfold row
  blk_ext [iblk, V, idx t]

theorem joined_block (c : Dev nD) (t : Fin cfg0.N) (w : Vec Ideal S512x512 .f32) (b : Vec Ideal S1x512 .f32) (i : Fin 256) :
    joined (iblk m c 0 t) w b (iblk m c 1 t) i = joined (m ((c : Thread nD τ).loc main_arg0)) w b (m ((c : Thread nD τ).loc main_arg1)) (row t i) := by
  funext j
  unfold joined
  rw [block1]
  refine congrArg (fun z : EReal => z + b (ix2 0 j) + _) (Finset.sum_congr rfl fun k _ => ?_)
  rw [block0]

theorem arr_eq (c : Dev nD) :
    (dats m 0 c).arrAt 6 cfg0.N = normed (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6, outs_eq]
  idx_vars y
  have e : (win0_6.blk t).view.emb (ix2 y0 y1) = (ix2 (row t y0) y1 : S2048x512.Idx) := by
    unfold row
    blk_ext [idx t]
  rw [e, pay_apply, block2, block3, block4, block5, joined_block]
  rfl

end Cert.NormIdeal.Gen

end
-- ==== Proof.NormReference.lean ====
module

public import proofs.«01_k».proof.Proof.Gen.NormRefIdeal.Read
public import proofs.«01_k».proof.Proof.NormBody

/-! The output call's reference, entry by entry, and its equality with the call. -/

@[expose] public section

set_option maxRecDepth 16384

noncomputable section

namespace Cert.NormReference

open Idealize.ShloMosaic Cert.NormRefIdeal Cert.NormRefIdeal.Read
open Cert.NormIdeal.Gen (joined normed)

theorem v5_apply (o : Vec Ideal S16x2048x32 .f32) (h : Vec Ideal S2048x512 .f32) (w : Vec Ideal S512x512 .f32) (b : Vec Ideal S1x512 .f32)
    (i : Fin 2048) (j : Fin 512) : val_main_v5 (F := Ideal) o h w b (ix2 i j) = joined o w b h i j := by
  unfold val_main_v5 val_main_v4 val_main_v3 val_main_v2 val_main_v1 val_main_v0
  pointwise
  rfl

theorem zero_word (x : EReal) (h : x = Ideal.ofBits FTy.f32 0) : x = 0 := by
  rw [h]
  simp [Ideal.ofBits, Ideal.ieee]

/-- The divisor of the second mean: 512 less the word of the integer zero. -/
theorem divisor : (val_main_call0_cst_1 (F := Ideal) ix0 : EReal) - FloatOps.sitofp (F := Ideal) FTy.f32 (val_main_c (F := Ideal) ix0)
    = Ideal.ofBits FTy.f32 1140850688#32 := by
  have : FloatOps.sitofp (F := Ideal) FTy.f32 (val_main_c (F := Ideal) ix0) = 0 := by
    show ((((0#32 : BitVec 32).toInt : ℝ)) : EReal) = 0
    simp
  rw [this, sub_zero]
  rfl

theorem v9_apply (o : Vec Ideal S16x2048x32 .f32) (h : Vec Ideal S2048x512 .f32) (w : Vec Ideal S512x512 .f32) (b : Vec Ideal S1x512 .f32)
    (i : Fin 2048) : val_main_v9 (F := Ideal) o h w b (ix2 i 0) = NormRow.mean (joined o w b h i) := by
  unfold val_main_v9 val_main_v8 val_main_v7 val_main_v6
  pointwise
  simp only [v5_apply]
  rw [zero_word (val_main_cst (F := Ideal) _) rfl, zero_add]
  rfl

theorem v10_apply (o : Vec Ideal S16x2048x32 .f32) (h : Vec Ideal S2048x512 .f32) (w : Vec Ideal S512x512 .f32) (b : Vec Ideal S1x512 .f32)
    (i : Fin 2048) : val_main_v10 (F := Ideal) o h w b (ix2 i 0)
      = NormRow.mean (fun k => (joined o w b h i k - NormRow.mean (joined o w b h i)) * (joined o w b h i k - NormRow.mean (joined o w b h i))) := by
  unfold val_main_v10 val_main_call0_v13 val_main_call0_v12 val_main_call0_v11 val_main_call0_v10 val_main_call0_v9 val_main_call0_v8 val_main_call0_v7
    val_main_call0_v6 val_main_call0_v5 val_main_call0_v4 val_main_call0_v3 val_main_call0_v2 val_main_call0_v1 val_main_call0_v0
  pointwise
  simp only [v5_apply]
  rw [divisor, zero_word (val_main_call0_cst (F := Ideal) _) rfl, zero_word (val_main_call0_cst_2 (F := Ideal) _) rfl,
    zero_word (val_main_call0_cst_3 (F := Ideal) _) rfl]
  rw [if_pos (by rw [NormRow.width]; exact_mod_cast (by norm_num : (0 : ℝ) < 512))]
  simp only [zero_add]
  rfl

/-- The call's array is the reference's. -/
theorem equal (o : Vec Ideal S16x2048x32 .f32) (h : Vec Ideal S2048x512 .f32) (w : Vec Ideal S512x512 .f32) (b g e : Vec Ideal S1x512 .f32) :
    val_main_v21 (F := Ideal) o h w b g e = normed o h w b g e := by
  funext i
  obtain ⟨r, j, rfl⟩ : ∃ (r : Fin 2048) (j : Fin 512), i = ix2 r j := ⟨i 0, i 1, by funext a; fin_cases a <;> rfl⟩
  unfold val_main_v21 val_main_v20 val_main_v19 val_main_v18 val_main_v17 val_main_v16 val_main_v15 val_main_v14 val_main_v13 val_main_v12 val_main_v11
  pointwise
  simp only [v5_apply, v9_apply, v10_apply]
  have s := NormRow.mul_rsqrt (joined o w b h r j - NormRow.mean (joined o w b h r)) _ (NormRow.spread_pos (joined o w b h r))
  unfold normed
  show _ = _ * Ideal.rsqrt (NormRow.spread (joined o w b h r)) * _ + _
  rw [show Ideal.rsqrt (NormRow.spread (joined o w b h r)) = Ideal.rsqrt (NormRow.spread (joined o w b h r)) from rfl]
  exact congrArg (fun z : EReal => z * g (ix2 0 j) + e (ix2 0 j)) s.symm

end Cert.NormReference

end
-- ==== Proof.WholeRun.lean ====
module

public import proofs.«01_k».proof.Proof.Gen.WholeIdeal.Frame

/-! The run of the whole program: the result array is what the third call leaves, and the arguments are unchanged. -/

@[expose] public section

set_option maxRecDepth 16384

noncomputable section

namespace Cert.WholeIdeal.Run

open Cert.WholeIdeal Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
theorem run_values : θ_run defs (onTc (τ := τ) (main (F := Ideal))) ⟨m, fun _ => 0, ρ⟩ (fun r => ∀ c : Dev nD,
      r.2.mem ((c.tc : Thread nD τ).loc main_v2) = (dat2 (V2 m ρ) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v2 (by decide))).trans (W3_arr m ρ c 6),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c),
       (h c _ (mem_uc main_arg12 (by decide))).trans (W3_main_arg12 m ρ c),
       (h c _ (mem_uc main_arg13 (by decide))).trans (W3_main_arg13 m ρ c),
       (h c _ (mem_uc main_arg14 (by decide))).trans (W3_main_arg14 m ρ c),
       (h c _ (mem_uc main_arg15 (by decide))).trans (W3_main_arg15 m ρ c),
       (h c _ (mem_uc main_arg16 (by decide))).trans (W3_main_arg16 m ρ c),
       (h c _ (mem_uc main_arg17 (by decide))).trans (W3_main_arg17 m ρ c),
       (h c _ (mem_uc main_arg18 (by decide))).trans (W3_main_arg18 m ρ c)⟩)

end Cert.WholeIdeal.Run

end
-- ==== Proof.WholeFront.lean ====
module

public import proofs.«01_k».proof.Proof.FrontArray
public import proofs.«01_k».proof.Proof.Gen.WholeIdeal.Frame

/-! The arrays that the first call of the whole program leaves. -/

@[expose] public section

set_option maxRecDepth 16384

noncomputable section

namespace Cert.WholeIdeal.Front

open Cert.WholeIdeal Cert.WholeIdeal.Gen
open Cert.FrontIdeal.Gen (tap layer projected padded padded_row plane)
open Idealize.ShloMosaic Idealize.ShloMosaic.TcCoe Idealize.SL.Sem

theorem pay2_apply (x : Vec Ideal S264x512 .f32) (w0 w1 w2 w3 w4 : Vec Ideal S1x512x512 .f32) (i : Fin 256) (j : Fin 512) :
    k0_pay2 x w0 w1 w2 w3 w4 (ix2 i j) = (∑ k : Fin 512, x (ix2 (⟨i.val, by omega⟩ : Fin 264) k) * w0 (ix3 0 k j))
    + (∑ k : Fin 512, x (ix2 (⟨1 + i.val, by omega⟩ : Fin 264) k) * w1 (ix3 0 k j))
    + (∑ k : Fin 512, x (ix2 (⟨2 + i.val, by omega⟩ : Fin 264) k) * w2 (ix3 0 k j)) + (∑ k : Fin 512, x (ix2 (⟨3 + i.val, by omega⟩ : Fin 264) k) * w3 (ix3 0 k j))
    + (∑ k : Fin 512, x (ix2 (⟨4 + i.val, by omega⟩ : Fin 264) k) * w4 (ix3 0 k j)) := by
  unfold k0_pay2
  pointwise

theorem pay5_apply (x : Vec Ideal S264x512 .f32) (a : FVec Ideal S256x512 .f32) (w5 w6 : Vec Ideal S1x512x512 .f32) (b : Vec Ideal S1x512 .f32) (i : Fin 256) (j : Fin 512) :
    k0_pay5 x a (k0_pay3 x) (k0_pay4 w5) (constant S256x512 .f32 0x00000000#32) w6 b (ix2 i j)
      = max (a (ix2 i j) + (∑ k : Fin 512, x (ix2 (⟨5 + i.val, by omega⟩ : Fin 264) k) * w5 (ix3 0 k j))
    + (∑ k : Fin 512, x (ix2 (⟨6 + i.val, by omega⟩ : Fin 264) k) * w6 (ix3 0 k j)) + b (ix2 0 j)) 0 := by
  unfold k0_pay5 k0_pay3 k0_pay4
  pointwise

/-- A product with a weight matrix and a bias. -/
def project (h : FVec Ideal S256x512 .f32) (w : FVec Ideal S512x512 .f32) (b : Vec Ideal S1x512 .f32) : FVec Ideal S256x512 .f32 :=
  addf (matmul dot_S256x512_S512x512_S256x512_1_0_0_1_n_n none h w (constant S256x512 .f32 0x00000000#32)) (broadcastTo S256x512 b broadcasts_S1x512_S256x512)

theorem project_apply (h : FVec Ideal S256x512 .f32) (w : FVec Ideal S512x512 .f32) (b : Vec Ideal S1x512 .f32) (i : Fin 256) (j : Fin 512) :
    project h w b (ix2 i j) = (∑ k : Fin 512, h (ix2 i k) * w (ix2 k j)) + b (ix2 0 j) := by
  unfold project
  pointwise

/-- The columns of a block, cut into sixteen heads. -/
def heads (T : FVec Ideal S256x512 .f32) : Vec Ideal S16x256x32 .f32 :=
  fun i => T (ix2 (i 1) (⟨32 * (i 0).val + (i 2).val, by have : (i 0).val < 16 := (i 0).isLt; have : (i 2).val < 32 := (i 2).isLt; omega⟩ : Fin 512))

theorem pay6_eq (x : Vec Ideal S264x512 .f32) (a e : FVec Ideal S256x512 .f32) (f : FVec Ideal S512x512 .f32) (z : FVec Ideal S256x512 .f32) (v : Vec Ideal S1x512x512 .f32)
    (b : Vec Ideal S1x512 .f32) (w : Vec Ideal S512x512 .f32) (g : Vec Ideal S1x512 .f32) :
    k0_pay6 x a e f z v b w g = project (k0_pay5 x a e f z v b) w g := rfl

theorem pay7_eq (x : Vec Ideal S264x512 .f32) (a e : FVec Ideal S256x512 .f32) (f : FVec Ideal S512x512 .f32) (z : FVec Ideal S256x512 .f32) (v : Vec Ideal S1x512x512 .f32)
    (b : Vec Ideal S1x512 .f32) (w : Vec Ideal S512x512 .f32) (g : Vec Ideal S1x512 .f32) :
    k0_pay7 x a e f z v b w g = project (k0_pay5 x a e f z v b) w g := rfl

theorem pay8_eq (x : Vec Ideal S264x512 .f32) (a e : FVec Ideal S256x512 .f32) (f : FVec Ideal S512x512 .f32) (z : FVec Ideal S256x512 .f32) (v : Vec Ideal S1x512x512 .f32)
    (b : Vec Ideal S1x512 .f32) (w : Vec Ideal S512x512 .f32) (g : Vec Ideal S1x512 .f32) :
    k0_pay8 x a e f z v b w g = project (k0_pay5 x a e f z v b) w g := rfl

theorem pay9_eq (x : Vec Ideal S264x512 .f32) (a e : FVec Ideal S256x512 .f32) (f : FVec Ideal S512x512 .f32) (z : FVec Ideal S256x512 .f32) (v : Vec Ideal S1x512x512 .f32)
    (b : Vec Ideal S1x512 .f32) (w : Vec Ideal S512x512 .f32) (g : Vec Ideal S1x512 .f32) :
    k0_pay10 (k0_pay9 x a e f z v b w) g = project (k0_pay5 x a e f z v b) w g := rfl

theorem pay11_eq (h : FVec Ideal S256x512 .f32) (w : Vec Ideal S512x512 .f32) (g : Vec Ideal S1x512 .f32) : k0_pay11 h w g = project h w g := rfl

variable (V : (c : Dev nD) → (b : Ref sig .tc) → Buf (Elt Ideal) ((c : Thread nD τ).loc b))

/-- The rows of the padded input that one block reads. -/
def rows (c : Dev nD) (t : Fin cfg0.N) : Vec Ideal S264x512 .f32 :=
  View.ld (iblk0 V c 0 t) (Rect.unit (s := S2056x512) (k0_off1 (grid0.coords t)) S264x512.size (k0_off1_inb (grid0.coords t)))

/-- One block of the hidden layer. -/
def hidden (c : Dev nD) (t : Fin cfg0.N) : FVec Ideal S256x512 .f32 :=
  k0_pay5 (rows V c t)
    (k0_pay2 (rows V c t)
      (View.ld (iblk0 V c 1 t) (Rect.unit (s := S7x512x512) ![0, 0, 0] S1x512x512.size inb_S7x512x512_S1x512x512_0_0_0))
      (View.ld (iblk0 V c 1 t) (Rect.unit (s := S7x512x512) ![1, 0, 0] S1x512x512.size inb_S7x512x512_S1x512x512_1_0_0))
      (View.ld (iblk0 V c 1 t) (Rect.unit (s := S7x512x512) ![2, 0, 0] S1x512x512.size inb_S7x512x512_S1x512x512_2_0_0))
      (View.ld (iblk0 V c 1 t) (Rect.unit (s := S7x512x512) ![3, 0, 0] S1x512x512.size inb_S7x512x512_S1x512x512_3_0_0))
      (View.ld (iblk0 V c 1 t) (Rect.unit (s := S7x512x512) ![4, 0, 0] S1x512x512.size inb_S7x512x512_S1x512x512_4_0_0)))
    (k0_pay3 (rows V c t))
    (k0_pay4 (View.ld (iblk0 V c 1 t) (Rect.unit (s := S7x512x512) ![5, 0, 0] S1x512x512.size inb_S7x512x512_S1x512x512_5_0_0)))
    (constant S256x512 .f32 0x00000000#32)
    (View.ld (iblk0 V c 1 t) (Rect.unit (s := S7x512x512) ![6, 0, 0] S1x512x512.size inb_S7x512x512_S1x512x512_6_0_0))
    (iblk0 V c 2 t)

theorem outs0 (c : Dev nD) (t : Fin cfg0.N) : (outsAt0 V c t).1 = hidden V c t := by
  unfold outsAt0
  frame_out
  rfl

theorem outs1 (c : Dev nD) (t : Fin cfg0.N) : (outsAt0 V c t).2.1 = heads (project (hidden V c t) (iblk0 V c 3 t) (iblk0 V c 4 t)) := by
  unfold outsAt0
  frame_out
  generalize e : addf (matmul (F := Ideal) dot_S256x512_S512x512_S256x512_1_0_0_1_n_n none _ (iblk0 V c 3 t : Vec Ideal S512x512 .f32) (constant S256x512 .f32 0x00000000#32))
    (broadcastTo S256x512 (iblk0 V c 4 t : Vec Ideal S1x512 .f32) broadcasts_S1x512_S256x512) = T
  rw [show project (hidden V c t) (iblk0 V c 3 t) (iblk0 V c 4 t) = T from by rw [← e]; rfl]
  clear e
  funext y
  unfold heads
  canon_tiles x h
  all_goals (open_payloads; pointwise; blk_ext)

theorem outs2 (c : Dev nD) (t : Fin cfg0.N) : (outsAt0 V c t).2.2.1 = heads (project (hidden V c t) (iblk0 V c 9 t) (iblk0 V c 10 t)) := by
  unfold outsAt0
  frame_out
  generalize e : addf (matmul (F := Ideal) dot_S256x512_S512x512_S256x512_1_0_0_1_n_n none _ (iblk0 V c 9 t : Vec Ideal S512x512 .f32) (constant S256x512 .f32 0x00000000#32))
    (broadcastTo S256x512 (iblk0 V c 10 t : Vec Ideal S1x512 .f32) broadcasts_S1x512_S256x512) = T
  rw [show project (hidden V c t) (iblk0 V c 9 t) (iblk0 V c 10 t) = T from by rw [← e]; rfl]
  clear e
  funext y
  unfold heads
  canon_tiles x h
  all_goals (open_payloads; pointwise; blk_ext)

theorem outs3 (c : Dev nD) (t : Fin cfg0.N) : (outsAt0 V c t).2.2.2.1 = heads (project (hidden V c t) (iblk0 V c 11 t) (iblk0 V c 12 t)) := by
  unfold outsAt0
  frame_out
  generalize e : addf (matmul (F := Ideal) dot_S256x512_S512x512_S256x512_1_0_0_1_n_n none _ (iblk0 V c 11 t : Vec Ideal S512x512 .f32) (constant S256x512 .f32 0x00000000#32))
    (broadcastTo S256x512 (iblk0 V c 12 t : Vec Ideal S1x512 .f32) broadcasts_S1x512_S256x512) = T
  rw [show project (hidden V c t) (iblk0 V c 11 t) (iblk0 V c 12 t) = T from by rw [← e]; rfl]
  clear e
  funext y
  unfold heads
  canon_tiles x h
  all_goals (open_payloads; pointwise; blk_ext)

theorem outs4 (c : Dev nD) (t : Fin cfg0.N) : (outsAt0 V c t).2.2.2.2.1 = heads (project (hidden V c t) (iblk0 V c 5 t) (iblk0 V c 6 t)) := by
  unfold outsAt0
  frame_out
  generalize e : addf (matmul (F := Ideal) dot_S256x512_S512x512_S256x512_1_0_0_1_n_n none _ (iblk0 V c 5 t : Vec Ideal S512x512 .f32) (constant S256x512 .f32 0x00000000#32))
    (broadcastTo S256x512 (iblk0 V c 6 t : Vec Ideal S1x512 .f32) broadcasts_S1x512_S256x512) = T
  rw [show project (hidden V c t) (iblk0 V c 5 t) (iblk0 V c 6 t) = T from by rw [← e]; rfl]
  clear e
  funext y
  unfold heads
  canon_tiles x h
  all_goals (open_payloads; pointwise; blk_ext)

theorem outs5 (c : Dev nD) (t : Fin cfg0.N) : (outsAt0 V c t).2.2.2.2.2 = heads (project (hidden V c t) (iblk0 V c 7 t) (iblk0 V c 8 t)) := by
  unfold outsAt0
  frame_out
  generalize e : addf (matmul (F := Ideal) dot_S256x512_S512x512_S256x512_1_0_0_1_n_n none _ (iblk0 V c 7 t : Vec Ideal S512x512 .f32) (constant S256x512 .f32 0x00000000#32))
    (broadcastTo S256x512 (iblk0 V c 8 t : Vec Ideal S1x512 .f32) broadcasts_S1x512_S256x512) = T
  rw [show project (hidden V c t) (iblk0 V c 7 t) (iblk0 V c 8 t) = T from by rw [← e]; rfl]
  clear e
  funext y
  unfold heads
  canon_tiles x h
  all_goals (open_payloads; pointwise; blk_ext)

theorem idx : ∀ t : Fin cfg0.N, (win0_0.index t = ![0, 0] ∧ win0_1.index t = ![0, 0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] ∧ win0_12.index t = ![0, 0])
    ∧ (win0_13.index t = ![t.val, 0] ∧ win0_14.index t = ![0, t.val, 0] ∧ win0_15.index t = ![0, t.val, 0] ∧ win0_16.index t = ![0, t.val, 0]
    ∧ win0_17.index t = ![0, t.val + 1, 0] ∧ win0_18.index t = ![0, t.val + 1, 0]) :=
  (by decide +kernel : ∀ t : Fin grid0.N, _)

theorem off (t : Fin cfg0.N) : k0_off1 (grid0.coords t) = ![t.val * 256, 0] :=
  (by decide +kernel : ∀ t : Fin grid0.N, k0_off1 (grid0.coords t) = ![t.val * 256, 0]) t

/-- Row `i` of block `t` in the whole array. -/
def row (t : Fin cfg0.N) (i : Fin 256) : Fin 2048 := ⟨t.val * 256 + i.val, by have : t.val < 8 := t.isLt; omega⟩

theorem block2 (c : Dev nD) (t : Fin cfg0.N) : iblk0 V c 2 t = V c main_arg2 := by
  funext i
  idx_vars i
  blk_ext [iblk0, idx t]

theorem block3 (c : Dev nD) (t : Fin cfg0.N) : iblk0 V c 3 t = V c main_arg3 := by
  funext i
  idx_vars i
  blk_ext [iblk0, idx t]

theorem block4 (c : Dev nD) (t : Fin cfg0.N) : iblk0 V c 4 t = V c main_arg4 := by
  funext i
  idx_vars i
  blk_ext [iblk0, idx t]

theorem block5 (c : Dev nD) (t : Fin cfg0.N) : iblk0 V c 5 t = V c main_arg5 := by
  funext i
  idx_vars i
  blk_ext [iblk0, idx t]

theorem block6 (c : Dev nD) (t : Fin cfg0.N) : iblk0 V c 6 t = V c main_arg6 := by
  funext i
  idx_vars i
  blk_ext [iblk0, idx t]

theorem block7 (c : Dev nD) (t : Fin cfg0.N) : iblk0 V c 7 t = V c main_arg7 := by
  funext i
  idx_vars i
  blk_ext [iblk0, idx t]

theorem block8 (c : Dev nD) (t : Fin cfg0.N) : iblk0 V c 8 t = V c main_arg8 := by
  funext i
  idx_vars i
  blk_ext [iblk0, idx t]

theorem block9 (c : Dev nD) (t : Fin cfg0.N) : iblk0 V c 9 t = V c main_arg9 := by
  funext i
  idx_vars i
  blk_ext [iblk0, idx t]

theorem block10 (c : Dev nD) (t : Fin cfg0.N) : iblk0 V c 10 t = V c main_arg10 := by
  funext i
  idx_vars i
  blk_ext [iblk0, idx t]

theorem block11 (c : Dev nD) (t : Fin cfg0.N) : iblk0 V c 11 t = V c main_arg11 := by
  funext i
  idx_vars i
  blk_ext [iblk0, idx t]

theorem block12 (c : Dev nD) (t : Fin cfg0.N) : iblk0 V c 12 t = V c main_arg12 := by
  funext i
  idx_vars i
  blk_ext [iblk0, idx t]

theorem rows_apply (c : Dev nD) (t : Fin cfg0.N) (i : Fin 264) (k : Fin 512) :
    rows V c t (ix2 i k) = V c main_arg0 (ix2 (⟨t.val * 256 + i.val, by have : t.val < 8 := t.isLt; omega⟩ : Fin 2056) k) := by
  unfold rows
  rw [View.ld_apply]
  blk_ext [iblk0, idx t]
  · show k0_off1 (grid0.coords t) 0 + 1 * i.val = _
    rw [off t]
    simp
  · show k0_off1 (grid0.coords t) 1 + 1 * k.val = _
    rw [off t]
    simp

theorem weights0 (c : Dev nD) (t : Fin cfg0.N) :
    View.ld (iblk0 V c 1 t) (Rect.unit (s := S7x512x512) ![0, 0, 0] S1x512x512.size inb_S7x512x512_S1x512x512_0_0_0)
      = plane (V c main_arg1) 0 := by
  funext i
  idx_vars i
  obtain rfl : i0 = 0 := Subsingleton.elim _ _
  rw [View.ld_apply]
  unfold plane
  blk_ext [iblk0, idx t]
  · rfl
  · show 0 + 1 * i1.val = i1.val
    omega
  · show 0 + 1 * i2.val = i2.val
    omega

theorem weights1 (c : Dev nD) (t : Fin cfg0.N) :
    View.ld (iblk0 V c 1 t) (Rect.unit (s := S7x512x512) ![1, 0, 0] S1x512x512.size inb_S7x512x512_S1x512x512_1_0_0)
      = plane (V c main_arg1) 1 := by
  funext i
  idx_vars i
  obtain rfl : i0 = 0 := Subsingleton.elim _ _
  rw [View.ld_apply]
  unfold plane
  blk_ext [iblk0, idx t]
  · rfl
  · show 0 + 1 * i1.val = i1.val
    omega
  · show 0 + 1 * i2.val = i2.val
    omega

theorem weights2 (c : Dev nD) (t : Fin cfg0.N) :
    View.ld (iblk0 V c 1 t) (Rect.unit (s := S7x512x512) ![2, 0, 0] S1x512x512.size inb_S7x512x512_S1x512x512_2_0_0)
      = plane (V c main_arg1) 2 := by
  funext i
  idx_vars i
  obtain rfl : i0 = 0 := Subsingleton.elim _ _
  rw [View.ld_apply]
  unfold plane
  blk_ext [iblk0, idx t]
  · rfl
  · show 0 + 1 * i1.val = i1.val
    omega
  · show 0 + 1 * i2.val = i2.val
    omega

theorem weights3 (c : Dev nD) (t : Fin cfg0.N) :
    View.ld (iblk0 V c 1 t) (Rect.unit (s := S7x512x512) ![3, 0, 0] S1x512x512.size inb_S7x512x512_S1x512x512_3_0_0)
      = plane (V c main_arg1) 3 := by
  funext i
  idx_vars i
  obtain rfl : i0 = 0 := Subsingleton.elim _ _
  rw [View.ld_apply]
  unfold plane
  blk_ext [iblk0, idx t]
  · rfl
  · show 0 + 1 * i1.val = i1.val
    omega
  · show 0 + 1 * i2.val = i2.val
    omega

theorem weights4 (c : Dev nD) (t : Fin cfg0.N) :
    View.ld (iblk0 V c 1 t) (Rect.unit (s := S7x512x512) ![4, 0, 0] S1x512x512.size inb_S7x512x512_S1x512x512_4_0_0)
      = plane (V c main_arg1) 4 := by
  funext i
  idx_vars i
  obtain rfl : i0 = 0 := Subsingleton.elim _ _
  rw [View.ld_apply]
  unfold plane
  blk_ext [iblk0, idx t]
  · rfl
  · show 0 + 1 * i1.val = i1.val
    omega
  · show 0 + 1 * i2.val = i2.val
    omega

theorem weights5 (c : Dev nD) (t : Fin cfg0.N) :
    View.ld (iblk0 V c 1 t) (Rect.unit (s := S7x512x512) ![5, 0, 0] S1x512x512.size inb_S7x512x512_S1x512x512_5_0_0)
      = plane (V c main_arg1) 5 := by
  funext i
  idx_vars i
  obtain rfl : i0 = 0 := Subsingleton.elim _ _
  rw [View.ld_apply]
  unfold plane
  blk_ext [iblk0, idx t]
  · rfl
  · show 0 + 1 * i1.val = i1.val
    omega
  · show 0 + 1 * i2.val = i2.val
    omega

theorem weights6 (c : Dev nD) (t : Fin cfg0.N) :
    View.ld (iblk0 V c 1 t) (Rect.unit (s := S7x512x512) ![6, 0, 0] S1x512x512.size inb_S7x512x512_S1x512x512_6_0_0)
      = plane (V c main_arg1) 6 := by
  funext i
  idx_vars i
  obtain rfl : i0 = 0 := Subsingleton.elim _ _
  rw [View.ld_apply]
  unfold plane
  blk_ext [iblk0, idx t]
  · rfl
  · show 0 + 1 * i1.val = i1.val
    omega
  · show 0 + 1 * i2.val = i2.val
    omega

theorem hidden_apply (c : Dev nD) (t : Fin cfg0.N) (i : Fin 256) (j : Fin 512) :
    hidden V c t (ix2 i j) = layer (V c main_arg0) (V c main_arg1) (V c main_arg2) (ix2 (row t i) j) := by
  unfold hidden layer tap
  rw [weights0, weights1, weights2, weights3, weights4, weights5, weights6, pay5_apply, pay2_apply, block2]
  simp only [rows_apply]
  have e : ∀ (d n : Nat) (hd : n < 2056) (he : d + (t.val * 256 + i.val) < 2056), n = d + (t.val * 256 + i.val) →
      (⟨n, hd⟩ : Fin 2056) = ⟨d + (t.val * 256 + i.val), he⟩ := by
    intro d n hd he h
    exact Fin.ext h
  have ht : t.val < 8 := t.isLt
  rw [e 0 (t.val * 256 + i.val) (by omega) (by omega) (by omega), e 1 (t.val * 256 + (1 + i.val)) (by omega) (by omega) (by omega),
    e 2 (t.val * 256 + (2 + i.val)) (by omega) (by omega) (by omega), e 3 (t.val * 256 + (3 + i.val)) (by omega) (by omega) (by omega),
    e 4 (t.val * 256 + (4 + i.val)) (by omega) (by omega) (by omega), e 5 (t.val * 256 + (5 + i.val)) (by omega) (by omega) (by omega),
    e 6 (t.val * 256 + (6 + i.val)) (by omega) (by omega) (by omega)]
  rfl

theorem heads_apply (c : Dev nD) (t : Fin cfg0.N) (w : Vec Ideal S512x512 .f32) (b : Vec Ideal S1x512 .f32) (a : Fin 16) (i : Fin 256) (d : Fin 32) :
    heads (project (hidden V c t) w b) (ix3 a i d)
      = projected (layer (V c main_arg0) (V c main_arg1) (V c main_arg2)) w b (ix3 a (row t i) d) := by
  show project (hidden V c t) w b (ix2 i (⟨32 * a.val + d.val, by omega⟩ : Fin 512)) = _
  rw [project_apply]
  refine congrArg (fun z : EReal => z + _) (Finset.sum_congr rfl fun k _ => ?_)
  exact congrArg (fun z : EReal => z * _) (hidden_apply V c t i k)

theorem arr13 (c : Dev nD) :
    (dat0 V c).arrAt 13 cfg0.N = layer (V c main_arg0) (V c main_arg1) (V c main_arg2) := by
  refine (dat0 V c).arrAt_eq_of_covers 13 _ (by decide +kernel) fun t hf y => ?_
  blk_simp
  rw [after0_13, outs0]
  idx_vars y
  have e : (win0_13.blk t).view.emb (ix2 y0 y1) = (ix2 (row t y0) y1 : S2048x512.Idx) := by
    unfold row
    blk_ext [idx t]
  rw [e]
  exact hidden_apply V c t y0 y1

theorem arr14 (c : Dev nD) :
    (dat0 V c).arrAt 14 cfg0.N
      = projected (layer (V c main_arg0) (V c main_arg1) (V c main_arg2))
          (V c main_arg3) (V c main_arg4) := by
  refine (dat0 V c).arrAt_eq_of_covers 14 _ (by decide +kernel) fun t hf y => ?_
  blk_simp
  rw [after0_14, outs1]
  idx_vars y
  have e : (win0_14.blk t).view.emb (ix3 y0 y1 y2) = (ix3 y0 (row t y1) y2 : S16x2048x32.Idx) := by
    unfold row
    blk_ext [idx t]
  rw [e, block3, block4]
  exact heads_apply V c t _ _ y0 y1 y2

theorem arr15 (c : Dev nD) :
    (dat0 V c).arrAt 15 cfg0.N
      = projected (layer (V c main_arg0) (V c main_arg1) (V c main_arg2))
          (V c main_arg9) (V c main_arg10) := by
  refine (dat0 V c).arrAt_eq_of_covers 15 _ (by decide +kernel) fun t hf y => ?_
  blk_simp
  rw [after0_15, outs2]
  idx_vars y
  have e : (win0_15.blk t).view.emb (ix3 y0 y1 y2) = (ix3 y0 (row t y1) y2 : S16x2048x32.Idx) := by
    unfold row
    blk_ext [idx t]
  rw [e, block9, block10]
  exact heads_apply V c t _ _ y0 y1 y2

theorem arr16 (c : Dev nD) :
    (dat0 V c).arrAt 16 cfg0.N
      = projected (layer (V c main_arg0) (V c main_arg1) (V c main_arg2))
          (V c main_arg11) (V c main_arg12) := by
  refine (dat0 V c).arrAt_eq_of_covers 16 _ (by decide +kernel) fun t hf y => ?_
  blk_simp
  rw [after0_16, outs3]
  idx_vars y
  have e : (win0_16.blk t).view.emb (ix3 y0 y1 y2) = (ix3 y0 (row t y1) y2 : S16x2048x32.Idx) := by
    unfold row
    blk_ext [idx t]
  rw [e, block11, block12]
  exact heads_apply V c t _ _ y0 y1 y2

theorem arr17 (c : Dev nD) :
    (dat0 V c).arrAt 17 cfg0.N
      = padded (projected (layer (V c main_arg0) (V c main_arg1) (V c main_arg2))
          (V c main_arg5) (V c main_arg6)) (V c main_v0_4) := by
  refine (dat0 V c).arrAt_eq_of_coversWhere_of_agree 17 _ (fun β => 1 ≤ β 1 ∧ β 1 < 9) (by decide +kernel) (fun t hf y => ?_) (fun j hj => ?_)
  · blk_simp
    rw [after0_17, outs4]
    idx_vars y
    have e : (win0_17.blk t).view.emb (ix3 y0 y1 y2) = (ix3 y0 (⟨256 + (row t y1).val, by omega⟩ : Fin 2560) y2 : S16x2560x32.Idx) := by
      unfold row
      blk_ext [idx t]
    rw [e, block5, block6, padded_row]
    exact heads_apply V c t _ _ y0 y1 y2
  · rw [A_eq0]
    unfold padded
    rw [dif_neg]
    blk_simp [Pipeline.Window.cell_apply] at hj ⊢
    omega

theorem arr18 (c : Dev nD) :
    (dat0 V c).arrAt 18 cfg0.N
      = padded (projected (layer (V c main_arg0) (V c main_arg1) (V c main_arg2))
          (V c main_arg7) (V c main_arg8)) (V c main_v0_5) := by
  refine (dat0 V c).arrAt_eq_of_coversWhere_of_agree 18 _ (fun β => 1 ≤ β 1 ∧ β 1 < 9) (by decide +kernel) (fun t hf y => ?_) (fun j hj => ?_)
  · blk_simp
    rw [after0_18, outs5]
    idx_vars y
    have e : (win0_18.blk t).view.emb (ix3 y0 y1 y2) = (ix3 y0 (⟨256 + (row t y1).val, by omega⟩ : Fin 2560) y2 : S16x2560x32.Idx) := by
      unfold row
      blk_ext [idx t]
    rw [e, block7, block8, padded_row]
    exact heads_apply V c t _ _ y0 y1 y2
  · rw [A_eq0]
    unfold padded
    rw [dif_neg]
    blk_simp [Pipeline.Window.cell_apply] at hj ⊢
    omega

end Cert.WholeIdeal.Front

end
-- ==== Proof.WholeAttn.lean ====
module

public import proofs.«01_k».proof.Proof.Array
public import proofs.«01_k».proof.Proof.Gen.WholeIdeal.Frame

/-! The array that the second call of the whole program leaves. -/

@[expose] public section

set_option maxRecDepth 16384

noncomputable section

namespace Cert.WholeIdeal.Attn

open Cert.WholeIdeal Cert.WholeIdeal.Gen
open Cert.AttnIdeal.Gen (body head padded attn)
open Idealize.ShloMosaic Idealize.ShloMosaic.TcCoe Idealize.SL.Sem

variable (V : (c : Dev nD) → (b : Ref sig .tc) → Buf (Elt Ideal) ((c : Thread nD τ).loc b))

theorem start (t : Fin cfg1.N) : Scalar.muli (BitVec.ofNat 32 ↑(grid1.coords t 1)) 2048#32 = 0#32 :=
  (by decide +kernel : ∀ t : Fin grid1.N, Scalar.muli (BitVec.ofNat 32 ↑(grid1.coords t 1)) 2048#32 = 0#32) t

theorem off (t : Fin cfg1.N) : k1_off1 (grid1.coords t) = ![0, 248, 0] :=
  (by decide +kernel : ∀ t : Fin grid1.N, k1_off1 (grid1.coords t) = ![0, 248, 0]) t

theorem outs_eq (c : Dev nD) (t : Fin cfg1.N) :
    outsAt1 V c t = body (iblk1 V c 0 t) (iblk1 V c 1 t) (iblk1 V c 2 t) (iblk1 V c 5 t) (iblk1 V c 6 t)
      (View.ld (iblk1 V c 3 t) (Rect.unit (s := S1x2560x32) (k1_off1 (grid1.coords t)) S1x2064x32.size (k1_off1_inb (grid1.coords t))))
      (View.ld (iblk1 V c 4 t) (Rect.unit (s := S1x2560x32) (k1_off1 (grid1.coords t)) S1x2064x32.size (k1_off1_inb (grid1.coords t))))
      0#32 := by
  unfold outsAt1
  frame_out
  rw [start]
  rfl

theorem idx : ∀ t : Fin cfg1.N, (win1_0.index t = ![t.val, 0, 0] ∧ win1_1.index t = ![t.val, 0, 0] ∧ win1_2.index t = ![t.val, 0, 0]
    ∧ win1_3.index t = ![t.val, 0, 0] ∧ win1_4.index t = ![t.val, 0, 0] ∧ win1_5.index t = ![0, 0] ∧ win1_6.index t = ![0, 0])
    ∧ win1_7.index t = ![t.val, 0, 0] :=
  (by decide +kernel : ∀ t : Fin grid1.N, _)

theorem block0 (c : Dev nD) (t : Fin cfg1.N) : iblk1 V c 0 t = head (V c main_v0_1) t := by
  funext i
  idx_vars i
  unfold head
  blk_ext [iblk1, idx t]

theorem block1 (c : Dev nD) (t : Fin cfg1.N) : iblk1 V c 1 t = head (V c main_v0_2) t := by
  funext i
  idx_vars i
  unfold head
  blk_ext [iblk1, idx t]

theorem block2 (c : Dev nD) (t : Fin cfg1.N) : iblk1 V c 2 t = head (V c main_v0_3) t := by
  funext i
  idx_vars i
  unfold head
  blk_ext [iblk1, idx t]

theorem block5 (c : Dev nD) (t : Fin cfg1.N) : iblk1 V c 5 t = V c main_arg13 := by
  funext i
  idx_vars i
  blk_ext [iblk1, idx t]

theorem block6 (c : Dev nD) (t : Fin cfg1.N) : iblk1 V c 6 t = V c main_arg14 := by
  funext i
  idx_vars i
  blk_ext [iblk1, idx t]

theorem block3 (c : Dev nD) (t : Fin cfg1.N) :
    (View.ld (iblk1 V c 3 t) (Rect.unit (s := S1x2560x32) (k1_off1 (grid1.coords t)) S1x2064x32.size (k1_off1_inb (grid1.coords t))))
      = padded (V c main_v0_4) t := by
  funext i
  idx_vars i
  rw [View.ld_apply]
  unfold padded
  blk_ext [iblk1, idx t]
  · show k1_off1 (grid1.coords t) 1 + 1 * i1.val = _
    rw [off t]
    simp
  · show k1_off1 (grid1.coords t) 2 + 1 * i2.val = _
    rw [off t]
    simp

theorem block4 (c : Dev nD) (t : Fin cfg1.N) :
    (View.ld (iblk1 V c 4 t) (Rect.unit (s := S1x2560x32) (k1_off1 (grid1.coords t)) S1x2064x32.size (k1_off1_inb (grid1.coords t))))
      = padded (V c main_v0_5) t := by
  funext i
  idx_vars i
  rw [View.ld_apply]
  unfold padded
  blk_ext [iblk1, idx t]
  · show k1_off1 (grid1.coords t) 1 + 1 * i1.val = _
    rw [off t]
    simp
  · show k1_off1 (grid1.coords t) 2 + 1 * i2.val = _
    rw [off t]
    simp

theorem arr_eq (c : Dev nD) :
    (dat1 V c).arrAt 7 cfg1.N = attn (V c main_v0_1) (V c main_v0_2) (V c main_v0_3)
      (V c main_v0_4) (V c main_v0_5) (V c main_arg13) (V c main_arg14) := by
  refine (dat1 V c).arrAt_eq_of_covers 7 _ (by decide +kernel) fun t hf y => ?_
  blk_simp
  rw [after1_7, outs_eq]
  rw [block0, block1, block2, block3, block4, block5, block6]
  unfold attn
  idx_vars y
  have e : (win1_7.blk t).view.emb (ix3 y0 y1 y2) = (ix3 (t : Fin 16) y1 y2 : S16x2048x32.Idx) := by
    blk_ext [idx t]
  rw [e]
  obtain rfl : y0 = 0 := Subsingleton.elim _ _
  rfl

end Cert.WholeIdeal.Attn

end
-- ==== Proof.WholeNorm.lean ====
module

public import proofs.«01_k».proof.Proof.NormBody
public import proofs.«01_k».proof.Proof.Gen.WholeIdeal.Frame

/-! The array that the third call of the whole program leaves. -/

@[expose] public section

set_option maxRecDepth 16384

noncomputable section

namespace Cert.WholeIdeal.Norm

open Cert.WholeIdeal Cert.WholeIdeal.Gen
open Cert.NormIdeal.Gen (joined normed)
open Idealize.ShloMosaic Idealize.ShloMosaic.TcCoe Idealize.SL.Sem

variable (V : (c : Dev nD) → (b : Ref sig .tc) → Buf (Elt Ideal) ((c : Thread nD τ).loc b))

theorem pay_apply (o : Vec Ideal S16x256x32 .f32) (w : Vec Ideal S512x512 .f32) (b : Vec Ideal S1x512 .f32) (h : Vec Ideal S256x512 .f32)
    (g : Vec Ideal S1x512 .f32) (e : Vec Ideal S1x512 .f32) (i : Fin 256) (j : Fin 512) :
    k2_pay1 o w b h g e (ix2 i j)
      = (joined o w b h i j - NormRow.mean (joined o w b h i)) * Ideal.rsqrt (NormRow.spread (joined o w b h i)) * g (ix2 0 j)
        + e (ix2 0 j) := by
  unfold k2_pay1
  pointwise
  rfl

theorem outs_eq (c : Dev nD) (t : Fin cfg2.N) :
    out2_6 (iblk2 V c 0 t) (iblk2 V c 1 t) (iblk2 V c 2 t) (iblk2 V c 3 t) (iblk2 V c 4 t) (iblk2 V c 5 t)
      = k2_pay1 (iblk2 V c 0 t) (iblk2 V c 2 t) (iblk2 V c 3 t) (iblk2 V c 1 t) (iblk2 V c 4 t) (iblk2 V c 5 t) := by
  unfold out2_6
  frame_out

theorem idx : ∀ t : Fin cfg2.N, (win2_0.index t = ![0, t.val, 0] ∧ win2_1.index t = ![t.val, 0] ∧ win2_2.index t = ![0, 0]
    ∧ win2_3.index t = ![0, 0] ∧ win2_4.index t = ![0, 0] ∧ win2_5.index t = ![0, 0]) ∧ win2_6.index t = ![t.val, 0] :=
  (by decide +kernel : ∀ t : Fin grid2.N, _)

theorem block2 (c : Dev nD) (t : Fin cfg2.N) : iblk2 V c 2 t = V c main_arg15 := by
  funext i
  idx_vars i
  blk_ext [iblk2, idx t]

theorem block3 (c : Dev nD) (t : Fin cfg2.N) : iblk2 V c 3 t = V c main_arg16 := by
  funext i
  idx_vars i
  blk_ext [iblk2, idx t]

theorem block4 (c : Dev nD) (t : Fin cfg2.N) : iblk2 V c 4 t = V c main_arg17 := by
  funext i
  idx_vars i
  blk_ext [iblk2, idx t]

theorem block5 (c : Dev nD) (t : Fin cfg2.N) : iblk2 V c 5 t = V c main_arg18 := by
  funext i
  idx_vars i
  blk_ext [iblk2, idx t]

/-- Row `i` of block `t` in the whole array. -/
def row (t : Fin cfg2.N) (i : Fin 256) : Fin 2048 := ⟨t.val * 256 + i.val, by have : t.val < 8 := t.isLt; omega⟩

theorem block0 (c : Dev nD) (t : Fin cfg2.N) (a : Fin 16) (i : Fin 256) (d : Fin 32) :
    iblk2 V c 0 t (ix3 a i d) = V c main_v1 (ix3 a (row t i) d) := by
  unfold row
  blk_ext [iblk2, idx t]

theorem block1 (c : Dev nD) (t : Fin cfg2.N) (i : Fin 256) (j : Fin 512) :
    iblk2 V c 1 t (ix2 i j) = V c main_v0_0 (ix2 (row t i) j) := by
  unfold row
  blk_ext [iblk2, idx t]

theorem joined_block (c : Dev nD) (t : Fin cfg2.N) (w : Vec Ideal S512x512 .f32) (b : Vec Ideal S1x512 .f32) (i : Fin 256) :
    joined (iblk2 V c 0 t) w b (iblk2 V c 1 t) i = joined (V c main_v1) w b (V c main_v0_0) (row t i) := by
  funext j
  unfold joined
  rw [block1]
  refine congrArg (fun z : EReal => z + b (ix2 0 j) + _) (Finset.sum_congr rfl fun k _ => ?_)
  rw [block0]

theorem arr_eq (c : Dev nD) :
    (dat2 V c).arrAt 6 cfg2.N = normed (V c main_v1) (V c main_v0_0) (V c main_arg15)
      (V c main_arg16) (V c main_arg17) (V c main_arg18) := by
  refine (dat2 V c).arrAt_eq_of_covers 6 _ (by decide +kernel) fun t hf y => ?_
  blk_simp
  rw [after2_6, outs_eq]
  idx_vars y
  have e : (win2_6.blk t).view.emb (ix2 y0 y1) = (ix2 (row t y0) y1 : S2048x512.Idx) := by
    unfold row
    blk_ext [idx t]
  rw [e, pay_apply, block2, block3, block4, block5, joined_block]
  rfl

end Cert.WholeIdeal.Norm

end
-- ==== Proof.WholeValue.lean ====
module

public import proofs.«01_k».proof.Proof.WholeFront
public import proofs.«01_k».proof.Proof.WholeAttn
public import proofs.«01_k».proof.Proof.WholeNorm

/-! What the third call of the whole program leaves, in terms of the program's arguments. -/

@[expose] public section

set_option maxRecDepth 16384

noncomputable section

namespace Cert.WholeIdeal.Value

open Cert.WholeIdeal Cert.WholeIdeal.Gen
open Cert.FrontIdeal.Gen (layer projected padded)
open Cert.AttnIdeal.Gen (attn)
open Cert.NormIdeal.Gen (normed)
open Idealize.ShloMosaic Idealize.ShloMosaic.TcCoe

variable (m : (ℓ : Loc nD τ sig) → Buf (Elt Ideal) ℓ) (ρ : Dev nD → PrngReg) (c : Dev nD)

/-- An argument as launched. -/
abbrev arg (a : Ref sig .tc) : Buf (Elt Ideal) ((c : Thread nD τ).loc a) := m ((c : Thread nD τ).loc a)

/-- The hidden layer. -/
abbrev hidden : Vec Ideal S2048x512 .f32 := layer (arg m c main_arg0) (arg m c main_arg1) (arg m c main_arg2)

theorem after_front_h : V1 m ρ c main_v0_0 = hidden m c :=
  (W1_arr m ρ c 13).trans (Front.arr13 (V0 m ρ) c)

theorem after_front_q : V1 m ρ c main_v0_1 = projected (hidden m c) (arg m c main_arg3) (arg m c main_arg4) :=
  (W1_arr m ρ c 14).trans (Front.arr14 (V0 m ρ) c)

theorem after_front_kp : V1 m ρ c main_v0_2 = projected (hidden m c) (arg m c main_arg9) (arg m c main_arg10) :=
  (W1_arr m ρ c 15).trans (Front.arr15 (V0 m ρ) c)

theorem after_front_vp : V1 m ρ c main_v0_3 = projected (hidden m c) (arg m c main_arg11) (arg m c main_arg12) :=
  (W1_arr m ρ c 16).trans (Front.arr16 (V0 m ρ) c)

theorem after_front_kl : V1 m ρ c main_v0_4
    = padded (projected (hidden m c) (arg m c main_arg5) (arg m c main_arg6)) (arg m c main_v0_4) :=
  (W1_arr m ρ c 17).trans (Front.arr17 (V0 m ρ) c)

theorem after_front_vl : V1 m ρ c main_v0_5
    = padded (projected (hidden m c) (arg m c main_arg7) (arg m c main_arg8)) (arg m c main_v0_5) :=
  (W1_arr m ρ c 18).trans (Front.arr18 (V0 m ρ) c)

theorem after_attn : V2 m ρ c main_v1
    = attn (projected (hidden m c) (arg m c main_arg3) (arg m c main_arg4))
        (projected (hidden m c) (arg m c main_arg9) (arg m c main_arg10))
        (projected (hidden m c) (arg m c main_arg11) (arg m c main_arg12))
        (padded (projected (hidden m c) (arg m c main_arg5) (arg m c main_arg6)) (arg m c main_v0_4))
        (padded (projected (hidden m c) (arg m c main_arg7) (arg m c main_arg8)) (arg m c main_v0_5))
        (arg m c main_arg13) (arg m c main_arg14) := by
  refine (W2_arr m ρ c 7).trans ((Attn.arr_eq (V1 m ρ) c).trans ?_)
  rw [after_front_q, after_front_kp, after_front_vp, after_front_kl, after_front_vl]
  rw [show V1 m ρ c main_arg13 = arg m c main_arg13 from W1_args m ρ c main_arg13 (by decide),
    show V1 m ρ c main_arg14 = arg m c main_arg14 from W1_args m ρ c main_arg14 (by decide)]

theorem after_attn_h : V2 m ρ c main_v0_0 = hidden m c :=
  (W2_of m ρ c main_v0_0 (by decide)).trans (after_front_h m ρ c)

theorem result : (dat2 (V2 m ρ) c).arrAt 6 cfg2.N
    = normed (attn (projected (hidden m c) (arg m c main_arg3) (arg m c main_arg4))
        (projected (hidden m c) (arg m c main_arg9) (arg m c main_arg10))
        (projected (hidden m c) (arg m c main_arg11) (arg m c main_arg12))
        (padded (projected (hidden m c) (arg m c main_arg5) (arg m c main_arg6)) (arg m c main_v0_4))
        (padded (projected (hidden m c) (arg m c main_arg7) (arg m c main_arg8)) (arg m c main_v0_5))
        (arg m c main_arg13) (arg m c main_arg14)) (hidden m c)
        (arg m c main_arg15) (arg m c main_arg16) (arg m c main_arg17) (arg m c main_arg18) := by
  refine (Norm.arr_eq (V2 m ρ) c).trans ?_
  rw [after_attn, after_attn_h]
  rw [show V2 m ρ c main_arg15 = arg m c main_arg15 from W2_args m ρ c main_arg15 (by decide),
    show V2 m ρ c main_arg16 = arg m c main_arg16 from W2_args m ρ c main_arg16 (by decide),
    show V2 m ρ c main_arg17 = arg m c main_arg17 from W2_args m ρ c main_arg17 (by decide),
    show V2 m ρ c main_arg18 = arg m c main_arg18 from W2_args m ρ c main_arg18 (by decide)]

end Cert.WholeIdeal.Value

end
-- ==== Proof.WholeReference.lean ====
module

public import proofs.«01_k».proof.Proof.Gen.WholeRefIdeal.Read
public import proofs.«01_k».proof.Proof.Gen.FrontRefIdeal.Read
public import proofs.«01_k».proof.Proof.Gen.AttnRefIdeal.Read
public import proofs.«01_k».proof.Proof.Gen.NormRefIdeal.Read

/-! The operations of the whole reference are those of the three references, one after another. -/

@[expose] public section

set_option maxRecDepth 16384

noncomputable section

namespace Cert.WholeReference

open Idealize.ShloMosaic
open Cert.FrontRefIdeal (S2056x512 S7x512x512 S1x512 S512x512 S2048x512)
open Cert.AttnRefIdeal (S16x2048x32 S16x2560x32 S32x32 S1x32)

variable {x0 : Vec Ideal S2056x512 .f32} {x1 : Vec Ideal S7x512x512 .f32} {x2 : Vec Ideal S1x512 .f32} {x3 : Vec Ideal S512x512 .f32}
  {x4 : Vec Ideal S1x512 .f32} {x5 : Vec Ideal S512x512 .f32} {x6 : Vec Ideal S1x512 .f32} {x7 : Vec Ideal S512x512 .f32} {x8 : Vec Ideal S1x512 .f32}
  {x9 : Vec Ideal S512x512 .f32} {x10 : Vec Ideal S1x512 .f32} {x11 : Vec Ideal S512x512 .f32} {x12 : Vec Ideal S1x512 .f32}
  {x13 : Vec Ideal S32x32 .f32} {x14 : Vec Ideal S1x32 .f32} {x15 : Vec Ideal S512x512 .f32} {x16 x17 x18 : Vec Ideal S1x512 .f32}

/-! ## The first reference -/

theorem main_v0 : Cert.WholeRefIdeal.Read.val_main_v0 x0 = Cert.FrontRefIdeal.Read.val_main_v0 x0 := by
  rw [Cert.WholeRefIdeal.Read.val_main_v0]
  rfl

theorem main_v1 : Cert.WholeRefIdeal.Read.val_main_v1 x1 = Cert.FrontRefIdeal.Read.val_main_v1 x1 := by
  rw [Cert.WholeRefIdeal.Read.val_main_v1]
  rfl

theorem main_v2 : Cert.WholeRefIdeal.Read.val_main_v2 x1 = Cert.FrontRefIdeal.Read.val_main_v2 x1 := by
  rw [Cert.WholeRefIdeal.Read.val_main_v2, main_v1]
  rfl

theorem main_v3 : Cert.WholeRefIdeal.Read.val_main_v3 x0 x1 = Cert.FrontRefIdeal.Read.val_main_v3 x0 x1 := by
  rw [Cert.WholeRefIdeal.Read.val_main_v3, main_v0, main_v2]
  rfl

theorem main_cst : Cert.WholeRefIdeal.Read.val_main_cst (F := Ideal) = Cert.FrontRefIdeal.Read.val_main_cst (F := Ideal) := by
  rw [Cert.WholeRefIdeal.Read.val_main_cst]
  rfl

theorem main_v4 : Cert.WholeRefIdeal.Read.val_main_v4 (F := Ideal) = Cert.FrontRefIdeal.Read.val_main_v4 (F := Ideal) := by
  rw [Cert.WholeRefIdeal.Read.val_main_v4, main_cst]
  rfl

theorem main_v5 : Cert.WholeRefIdeal.Read.val_main_v5 x0 x1 = Cert.FrontRefIdeal.Read.val_main_v5 x0 x1 := by
  rw [Cert.WholeRefIdeal.Read.val_main_v5, main_v4, main_v3]
  rfl

theorem main_v6 : Cert.WholeRefIdeal.Read.val_main_v6 x0 = Cert.FrontRefIdeal.Read.val_main_v6 x0 := by
  rw [Cert.WholeRefIdeal.Read.val_main_v6]
  rfl

theorem main_v7 : Cert.WholeRefIdeal.Read.val_main_v7 x1 = Cert.FrontRefIdeal.Read.val_main_v7 x1 := by
  rw [Cert.WholeRefIdeal.Read.val_main_v7]
  rfl

theorem main_v8 : Cert.WholeRefIdeal.Read.val_main_v8 x1 = Cert.FrontRefIdeal.Read.val_main_v8 x1 := by
  rw [Cert.WholeRefIdeal.Read.val_main_v8, main_v7]
  rfl

theorem main_v9 : Cert.WholeRefIdeal.Read.val_main_v9 x0 x1 = Cert.FrontRefIdeal.Read.val_main_v9 x0 x1 := by
  rw [Cert.WholeRefIdeal.Read.val_main_v9, main_v6, main_v8]
  rfl

theorem main_v10 : Cert.WholeRefIdeal.Read.val_main_v10 x0 x1 = Cert.FrontRefIdeal.Read.val_main_v10 x0 x1 := by
  rw [Cert.WholeRefIdeal.Read.val_main_v10, main_v5, main_v9]
  rfl

theorem main_v11 : Cert.WholeRefIdeal.Read.val_main_v11 x0 = Cert.FrontRefIdeal.Read.val_main_v11 x0 := by
  rw [Cert.WholeRefIdeal.Read.val_main_v11]
  rfl

theorem main_v12 : Cert.WholeRefIdeal.Read.val_main_v12 x1 = Cert.FrontRefIdeal.Read.val_main_v12 x1 := by
  rw [Cert.WholeRefIdeal.Read.val_main_v12]
  rfl

theorem main_v13 : Cert.WholeRefIdeal.Read.val_main_v13 x1 = Cert.FrontRefIdeal.Read.val_main_v13 x1 := by
  rw [Cert.WholeRefIdeal.Read.val_main_v13, main_v12]
  rfl

theorem main_v14 : Cert.WholeRefIdeal.Read.val_main_v14 x0 x1 = Cert.FrontRefIdeal.Read.val_main_v14 x0 x1 := by
  rw [Cert.WholeRefIdeal.Read.val_main_v14, main_v11, main_v13]
  rfl

theorem main_v15 : Cert.WholeRefIdeal.Read.val_main_v15 x0 x1 = Cert.FrontRefIdeal.Read.val_main_v15 x0 x1 := by
  rw [Cert.WholeRefIdeal.Read.val_main_v15, main_v10, main_v14]
  rfl

theorem main_v16 : Cert.WholeRefIdeal.Read.val_main_v16 x0 = Cert.FrontRefIdeal.Read.val_main_v16 x0 := by
  rw [Cert.WholeRefIdeal.Read.val_main_v16]
  rfl

theorem main_v17 : Cert.WholeRefIdeal.Read.val_main_v17 x1 = Cert.FrontRefIdeal.Read.val_main_v17 x1 := by
  rw [Cert.WholeRefIdeal.Read.val_main_v17]
  rfl

theorem main_v18 : Cert.WholeRefIdeal.Read.val_main_v18 x1 = Cert.FrontRefIdeal.Read.val_main_v18 x1 := by
  rw [Cert.WholeRefIdeal.Read.val_main_v18, main_v17]
  rfl

theorem main_v19 : Cert.WholeRefIdeal.Read.val_main_v19 x0 x1 = Cert.FrontRefIdeal.Read.val_main_v19 x0 x1 := by
  rw [Cert.WholeRefIdeal.Read.val_main_v19, main_v16, main_v18]
  rfl

theorem main_v20 : Cert.WholeRefIdeal.Read.val_main_v20 x0 x1 = Cert.FrontRefIdeal.Read.val_main_v20 x0 x1 := by
  rw [Cert.WholeRefIdeal.Read.val_main_v20, main_v15, main_v19]
  rfl

theorem main_v21 : Cert.WholeRefIdeal.Read.val_main_v21 x0 = Cert.FrontRefIdeal.Read.val_main_v21 x0 := by
  rw [Cert.WholeRefIdeal.Read.val_main_v21]
  rfl

theorem main_v22 : Cert.WholeRefIdeal.Read.val_main_v22 x1 = Cert.FrontRefIdeal.Read.val_main_v22 x1 := by
  rw [Cert.WholeRefIdeal.Read.val_main_v22]
  rfl

theorem main_v23 : Cert.WholeRefIdeal.Read.val_main_v23 x1 = Cert.FrontRefIdeal.Read.val_main_v23 x1 := by
  rw [Cert.WholeRefIdeal.Read.val_main_v23, main_v22]
  rfl

theorem main_v24 : Cert.WholeRefIdeal.Read.val_main_v24 x0 x1 = Cert.FrontRefIdeal.Read.val_main_v24 x0 x1 := by
  rw [Cert.WholeRefIdeal.Read.val_main_v24, main_v21, main_v23]
  rfl

theorem main_v25 : Cert.WholeRefIdeal.Read.val_main_v25 x0 x1 = Cert.FrontRefIdeal.Read.val_main_v25 x0 x1 := by
  rw [Cert.WholeRefIdeal.Read.val_main_v25, main_v20, main_v24]
  rfl

theorem main_v26 : Cert.WholeRefIdeal.Read.val_main_v26 x0 = Cert.FrontRefIdeal.Read.val_main_v26 x0 := by
  rw [Cert.WholeRefIdeal.Read.val_main_v26]
  rfl

theorem main_v27 : Cert.WholeRefIdeal.Read.val_main_v27 x1 = Cert.FrontRefIdeal.Read.val_main_v27 x1 := by
  rw [Cert.WholeRefIdeal.Read.val_main_v27]
  rfl

theorem main_v28 : Cert.WholeRefIdeal.Read.val_main_v28 x1 = Cert.FrontRefIdeal.Read.val_main_v28 x1 := by
  rw [Cert.WholeRefIdeal.Read.val_main_v28, main_v27]
  rfl

theorem main_v29 : Cert.WholeRefIdeal.Read.val_main_v29 x0 x1 = Cert.FrontRefIdeal.Read.val_main_v29 x0 x1 := by
  rw [Cert.WholeRefIdeal.Read.val_main_v29, main_v26, main_v28]
  rfl

theorem main_v30 : Cert.WholeRefIdeal.Read.val_main_v30 x0 x1 = Cert.FrontRefIdeal.Read.val_main_v30 x0 x1 := by
  rw [Cert.WholeRefIdeal.Read.val_main_v30, main_v25, main_v29]
  rfl

theorem main_v31 : Cert.WholeRefIdeal.Read.val_main_v31 x0 = Cert.FrontRefIdeal.Read.val_main_v31 x0 := by
  rw [Cert.WholeRefIdeal.Read.val_main_v31]
  rfl

theorem main_v32 : Cert.WholeRefIdeal.Read.val_main_v32 x1 = Cert.FrontRefIdeal.Read.val_main_v32 x1 := by
  rw [Cert.WholeRefIdeal.Read.val_main_v32]
  rfl

theorem main_v33 : Cert.WholeRefIdeal.Read.val_main_v33 x1 = Cert.FrontRefIdeal.Read.val_main_v33 x1 := by
  rw [Cert.WholeRefIdeal.Read.val_main_v33, main_v32]
  rfl

theorem main_v34 : Cert.WholeRefIdeal.Read.val_main_v34 x0 x1 = Cert.FrontRefIdeal.Read.val_main_v34 x0 x1 := by
  rw [Cert.WholeRefIdeal.Read.val_main_v34, main_v31, main_v33]
  rfl

theorem main_v35 : Cert.WholeRefIdeal.Read.val_main_v35 x0 x1 = Cert.FrontRefIdeal.Read.val_main_v35 x0 x1 := by
  rw [Cert.WholeRefIdeal.Read.val_main_v35, main_v30, main_v34]
  rfl

theorem main_v36 : Cert.WholeRefIdeal.Read.val_main_v36 x2 = Cert.FrontRefIdeal.Read.val_main_v36 x2 := by
  rw [Cert.WholeRefIdeal.Read.val_main_v36]
  rfl

theorem main_v37 : Cert.WholeRefIdeal.Read.val_main_v37 x0 x1 x2 = Cert.FrontRefIdeal.Read.val_main_v37 x0 x1 x2 := by
  rw [Cert.WholeRefIdeal.Read.val_main_v37, main_v35, main_v36]
  rfl

theorem main_call0_cst : Cert.WholeRefIdeal.Read.val_main_call0_cst (F := Ideal) = Cert.FrontRefIdeal.Read.val_main_call0_cst (F := Ideal) := by
  rw [Cert.WholeRefIdeal.Read.val_main_call0_cst]
  rfl

theorem main_call0_v0 : Cert.WholeRefIdeal.Read.val_main_call0_v0 (F := Ideal) = Cert.FrontRefIdeal.Read.val_main_call0_v0 (F := Ideal) := by
  rw [Cert.WholeRefIdeal.Read.val_main_call0_v0, main_call0_cst]
  rfl

theorem main_v38 : Cert.WholeRefIdeal.Read.val_main_v38 x0 x1 x2 = Cert.FrontRefIdeal.Read.val_main_v38 x0 x1 x2 := by
  rw [Cert.WholeRefIdeal.Read.val_main_v38, main_v37, main_call0_v0]
  rfl

theorem main_v39 : Cert.WholeRefIdeal.Read.val_main_v39 x0 x1 x2 x3 = Cert.FrontRefIdeal.Read.val_main_v39 x0 x1 x2 x3 := by
  rw [Cert.WholeRefIdeal.Read.val_main_v39, main_v38]
  rfl

theorem main_v40 : Cert.WholeRefIdeal.Read.val_main_v40 x4 = Cert.FrontRefIdeal.Read.val_main_v40 x4 := by
  rw [Cert.WholeRefIdeal.Read.val_main_v40]
  rfl

theorem main_v41 : Cert.WholeRefIdeal.Read.val_main_v41 x0 x1 x2 x3 x4 = Cert.FrontRefIdeal.Read.val_main_v41 x0 x1 x2 x3 x4 := by
  rw [Cert.WholeRefIdeal.Read.val_main_v41, main_v39, main_v40]
  rfl

theorem main_v42 : Cert.WholeRefIdeal.Read.val_main_v42 x0 x1 x2 x3 x4 = Cert.FrontRefIdeal.Read.val_main_v42 x0 x1 x2 x3 x4 := by
  rw [Cert.WholeRefIdeal.Read.val_main_v42, main_v41]
  rfl

theorem main_v43 : Cert.WholeRefIdeal.Read.val_main_v43 x0 x1 x2 x3 x4 = Cert.FrontRefIdeal.Read.val_main_v43 x0 x1 x2 x3 x4 := by
  rw [Cert.WholeRefIdeal.Read.val_main_v43, main_v42]
  rfl

theorem main_v44 : Cert.WholeRefIdeal.Read.val_main_v44 x0 x1 x2 x9 = Cert.FrontRefIdeal.Read.val_main_v44 x0 x1 x2 x9 := by
  rw [Cert.WholeRefIdeal.Read.val_main_v44, main_v38]
  rfl

theorem main_v45 : Cert.WholeRefIdeal.Read.val_main_v45 x10 = Cert.FrontRefIdeal.Read.val_main_v45 x10 := by
  rw [Cert.WholeRefIdeal.Read.val_main_v45]
  rfl

theorem main_v46 : Cert.WholeRefIdeal.Read.val_main_v46 x0 x1 x2 x9 x10 = Cert.FrontRefIdeal.Read.val_main_v46 x0 x1 x2 x9 x10 := by
  rw [Cert.WholeRefIdeal.Read.val_main_v46, main_v44, main_v45]
  rfl

theorem main_v47 : Cert.WholeRefIdeal.Read.val_main_v47 x0 x1 x2 x9 x10 = Cert.FrontRefIdeal.Read.val_main_v47 x0 x1 x2 x9 x10 := by
  rw [Cert.WholeRefIdeal.Read.val_main_v47, main_v46]
  rfl

theorem main_v48 : Cert.WholeRefIdeal.Read.val_main_v48 x0 x1 x2 x9 x10 = Cert.FrontRefIdeal.Read.val_main_v48 x0 x1 x2 x9 x10 := by
  rw [Cert.WholeRefIdeal.Read.val_main_v48, main_v47]
  rfl

theorem main_v49 : Cert.WholeRefIdeal.Read.val_main_v49 x0 x1 x2 x11 = Cert.FrontRefIdeal.Read.val_main_v49 x0 x1 x2 x11 := by
  rw [Cert.WholeRefIdeal.Read.val_main_v49, main_v38]
  rfl

theorem main_v50 : Cert.WholeRefIdeal.Read.val_main_v50 x12 = Cert.FrontRefIdeal.Read.val_main_v50 x12 := by
  rw [Cert.WholeRefIdeal.Read.val_main_v50]
  rfl

theorem main_v51 : Cert.WholeRefIdeal.Read.val_main_v51 x0 x1 x2 x11 x12 = Cert.FrontRefIdeal.Read.val_main_v51 x0 x1 x2 x11 x12 := by
  rw [Cert.WholeRefIdeal.Read.val_main_v51, main_v49, main_v50]
  rfl

theorem main_v52 : Cert.WholeRefIdeal.Read.val_main_v52 x0 x1 x2 x11 x12 = Cert.FrontRefIdeal.Read.val_main_v52 x0 x1 x2 x11 x12 := by
  rw [Cert.WholeRefIdeal.Read.val_main_v52, main_v51]
  rfl

theorem main_v53 : Cert.WholeRefIdeal.Read.val_main_v53 x0 x1 x2 x11 x12 = Cert.FrontRefIdeal.Read.val_main_v53 x0 x1 x2 x11 x12 := by
  rw [Cert.WholeRefIdeal.Read.val_main_v53, main_v52]
  rfl

theorem main_v54 : Cert.WholeRefIdeal.Read.val_main_v54 x0 x1 x2 x5 = Cert.FrontRefIdeal.Read.val_main_v54 x0 x1 x2 x5 := by
  rw [Cert.WholeRefIdeal.Read.val_main_v54, main_v38]
  rfl

theorem main_v55 : Cert.WholeRefIdeal.Read.val_main_v55 x6 = Cert.FrontRefIdeal.Read.val_main_v55 x6 := by
  rw [Cert.WholeRefIdeal.Read.val_main_v55]
  rfl

theorem main_v56 : Cert.WholeRefIdeal.Read.val_main_v56 x0 x1 x2 x5 x6 = Cert.FrontRefIdeal.Read.val_main_v56 x0 x1 x2 x5 x6 := by
  rw [Cert.WholeRefIdeal.Read.val_main_v56, main_v54, main_v55]
  rfl

theorem main_v57 : Cert.WholeRefIdeal.Read.val_main_v57 x0 x1 x2 x5 x6 = Cert.FrontRefIdeal.Read.val_main_v57 x0 x1 x2 x5 x6 := by
  rw [Cert.WholeRefIdeal.Read.val_main_v57, main_v56]
  rfl

theorem main_v58 : Cert.WholeRefIdeal.Read.val_main_v58 x0 x1 x2 x5 x6 = Cert.FrontRefIdeal.Read.val_main_v58 x0 x1 x2 x5 x6 := by
  rw [Cert.WholeRefIdeal.Read.val_main_v58, main_v57]
  rfl

theorem main_v59 : Cert.WholeRefIdeal.Read.val_main_v59 x0 x1 x2 x7 = Cert.FrontRefIdeal.Read.val_main_v59 x0 x1 x2 x7 := by
  rw [Cert.WholeRefIdeal.Read.val_main_v59, main_v38]
  rfl

theorem main_v60 : Cert.WholeRefIdeal.Read.val_main_v60 x8 = Cert.FrontRefIdeal.Read.val_main_v60 x8 := by
  rw [Cert.WholeRefIdeal.Read.val_main_v60]
  rfl

theorem main_v61 : Cert.WholeRefIdeal.Read.val_main_v61 x0 x1 x2 x7 x8 = Cert.FrontRefIdeal.Read.val_main_v61 x0 x1 x2 x7 x8 := by
  rw [Cert.WholeRefIdeal.Read.val_main_v61, main_v59, main_v60]
  rfl

theorem main_v62 : Cert.WholeRefIdeal.Read.val_main_v62 x0 x1 x2 x7 x8 = Cert.FrontRefIdeal.Read.val_main_v62 x0 x1 x2 x7 x8 := by
  rw [Cert.WholeRefIdeal.Read.val_main_v62, main_v61]
  rfl

theorem main_v63 : Cert.WholeRefIdeal.Read.val_main_v63 x0 x1 x2 x7 x8 = Cert.FrontRefIdeal.Read.val_main_v63 x0 x1 x2 x7 x8 := by
  rw [Cert.WholeRefIdeal.Read.val_main_v63, main_v62]
  rfl

/-! ## The second reference: the operations without arguments -/

theorem main_v64 : Cert.WholeRefIdeal.Read.val_main_v64 (F := Ideal) = Cert.AttnRefIdeal.Read.val_main_v2 (F := Ideal) := by
  rw [Cert.WholeRefIdeal.Read.val_main_v64]
  rfl

theorem main_c : Cert.WholeRefIdeal.Read.val_main_c (F := Ideal) = Cert.AttnRefIdeal.Read.val_main_c (F := Ideal) := by
  rw [Cert.WholeRefIdeal.Read.val_main_c]
  rfl

theorem main_v65 : Cert.WholeRefIdeal.Read.val_main_v65 (F := Ideal) = Cert.AttnRefIdeal.Read.val_main_v3 (F := Ideal) := by
  rw [Cert.WholeRefIdeal.Read.val_main_v65, main_c]
  rfl

theorem main_v66 : Cert.WholeRefIdeal.Read.val_main_v66 (F := Ideal) = Cert.AttnRefIdeal.Read.val_main_v4 (F := Ideal) := by
  rw [Cert.WholeRefIdeal.Read.val_main_v66, main_v65, main_v64]
  rfl

theorem main_v67 : Cert.WholeRefIdeal.Read.val_main_v67 (F := Ideal) = Cert.AttnRefIdeal.Read.val_main_v5 (F := Ideal) := by
  rw [Cert.WholeRefIdeal.Read.val_main_v67]
  rfl

theorem main_v68 : Cert.WholeRefIdeal.Read.val_main_v68 (F := Ideal) = Cert.AttnRefIdeal.Read.val_main_v6 (F := Ideal) := by
  rw [Cert.WholeRefIdeal.Read.val_main_v68, main_v67]
  rfl

theorem main_v69 : Cert.WholeRefIdeal.Read.val_main_v69 (F := Ideal) = Cert.AttnRefIdeal.Read.val_main_v7 (F := Ideal) := by
  rw [Cert.WholeRefIdeal.Read.val_main_v69, main_v66]
  rfl

theorem main_v70 : Cert.WholeRefIdeal.Read.val_main_v70 (F := Ideal) = Cert.AttnRefIdeal.Read.val_main_v8 (F := Ideal) := by
  rw [Cert.WholeRefIdeal.Read.val_main_v70, main_v68]
  rfl

theorem main_v71 : Cert.WholeRefIdeal.Read.val_main_v71 (F := Ideal) = Cert.AttnRefIdeal.Read.val_main_v9 (F := Ideal) := by
  rw [Cert.WholeRefIdeal.Read.val_main_v71, main_v69]
  rfl

theorem main_v72 : Cert.WholeRefIdeal.Read.val_main_v72 (F := Ideal) = Cert.AttnRefIdeal.Read.val_main_v10 (F := Ideal) := by
  rw [Cert.WholeRefIdeal.Read.val_main_v72, main_v70, main_v71]
  rfl

theorem main_c_0 : Cert.WholeRefIdeal.Read.val_main_c_0 (F := Ideal) = Cert.AttnRefIdeal.Read.val_main_c_0 (F := Ideal) := by
  rw [Cert.WholeRefIdeal.Read.val_main_c_0]
  rfl

theorem main_v73 : Cert.WholeRefIdeal.Read.val_main_v73 (F := Ideal) = Cert.AttnRefIdeal.Read.val_main_v11 (F := Ideal) := by
  rw [Cert.WholeRefIdeal.Read.val_main_v73, main_c_0]
  rfl

theorem main_v74 : Cert.WholeRefIdeal.Read.val_main_v74 (F := Ideal) = Cert.AttnRefIdeal.Read.val_main_v12 (F := Ideal) := by
  rw [Cert.WholeRefIdeal.Read.val_main_v74, main_v72, main_v73]
  rfl

theorem main_c_1 : Cert.WholeRefIdeal.Read.val_main_c_1 (F := Ideal) = Cert.AttnRefIdeal.Read.val_main_c_1 (F := Ideal) := by
  rw [Cert.WholeRefIdeal.Read.val_main_c_1]
  rfl

theorem main_v75 : Cert.WholeRefIdeal.Read.val_main_v75 (F := Ideal) = Cert.AttnRefIdeal.Read.val_main_v13 (F := Ideal) := by
  rw [Cert.WholeRefIdeal.Read.val_main_v75, main_c_1]
  rfl

theorem main_v76 : Cert.WholeRefIdeal.Read.val_main_v76 (F := Ideal) = Cert.AttnRefIdeal.Read.val_main_v14 (F := Ideal) := by
  rw [Cert.WholeRefIdeal.Read.val_main_v76, main_v72, main_v75]
  rfl

theorem main_v77 : Cert.WholeRefIdeal.Read.val_main_v77 (F := Ideal) = Cert.AttnRefIdeal.Read.val_main_v15 (F := Ideal) := by
  rw [Cert.WholeRefIdeal.Read.val_main_v77, main_v74, main_v76]
  rfl

theorem main_c_2 : Cert.WholeRefIdeal.Read.val_main_c_2 (F := Ideal) = Cert.AttnRefIdeal.Read.val_main_c_2 (F := Ideal) := by
  rw [Cert.WholeRefIdeal.Read.val_main_c_2]
  rfl

theorem main_c_3 : Cert.WholeRefIdeal.Read.val_main_c_3 (F := Ideal) = Cert.AttnRefIdeal.Read.val_main_c_3 (F := Ideal) := by
  rw [Cert.WholeRefIdeal.Read.val_main_c_3]
  rfl

theorem main_call1_v0 : Cert.WholeRefIdeal.Read.val_main_call1_v0 (F := Ideal) = Cert.AttnRefIdeal.Read.val_main_call0_v0 (F := Ideal) := by
  rw [Cert.WholeRefIdeal.Read.val_main_call1_v0, main_c_2]
  rfl

theorem main_call1_v1 : Cert.WholeRefIdeal.Read.val_main_call1_v1 (F := Ideal) = Cert.AttnRefIdeal.Read.val_main_call0_v1 (F := Ideal) := by
  rw [Cert.WholeRefIdeal.Read.val_main_call1_v1, main_call1_v0]
  rfl

theorem main_call1_v2 : Cert.WholeRefIdeal.Read.val_main_call1_v2 (F := Ideal) = Cert.AttnRefIdeal.Read.val_main_call0_v2 (F := Ideal) := by
  rw [Cert.WholeRefIdeal.Read.val_main_call1_v2, main_call1_v1, main_v72]
  rfl

theorem main_call1_v3 : Cert.WholeRefIdeal.Read.val_main_call1_v3 (F := Ideal) = Cert.AttnRefIdeal.Read.val_main_call0_v3 (F := Ideal) := by
  rw [Cert.WholeRefIdeal.Read.val_main_call1_v3, main_c_3]
  rfl

theorem main_call1_v4 : Cert.WholeRefIdeal.Read.val_main_call1_v4 (F := Ideal) = Cert.AttnRefIdeal.Read.val_main_call0_v4 (F := Ideal) := by
  rw [Cert.WholeRefIdeal.Read.val_main_call1_v4, main_call1_v3]
  rfl

theorem main_v78 : Cert.WholeRefIdeal.Read.val_main_v78 (F := Ideal) = Cert.AttnRefIdeal.Read.val_main_v16 (F := Ideal) := by
  rw [Cert.WholeRefIdeal.Read.val_main_v78, main_call1_v4, main_call1_v2]
  rfl

theorem main_c_4 : Cert.WholeRefIdeal.Read.val_main_c_4 (F := Ideal) = Cert.AttnRefIdeal.Read.val_main_c_4 (F := Ideal) := by
  rw [Cert.WholeRefIdeal.Read.val_main_c_4]
  rfl

theorem main_v79 : Cert.WholeRefIdeal.Read.val_main_v79 (F := Ideal) = Cert.AttnRefIdeal.Read.val_main_v17 (F := Ideal) := by
  rw [Cert.WholeRefIdeal.Read.val_main_v79, main_c_4]
  rfl

theorem main_v80 : Cert.WholeRefIdeal.Read.val_main_v80 (F := Ideal) = Cert.AttnRefIdeal.Read.val_main_v18 (F := Ideal) := by
  rw [Cert.WholeRefIdeal.Read.val_main_v80, main_v78, main_v79]
  rfl

theorem main_c_5 : Cert.WholeRefIdeal.Read.val_main_c_5 (F := Ideal) = Cert.AttnRefIdeal.Read.val_main_c_5 (F := Ideal) := by
  rw [Cert.WholeRefIdeal.Read.val_main_c_5]
  rfl

theorem main_v81 : Cert.WholeRefIdeal.Read.val_main_v81 (F := Ideal) = Cert.AttnRefIdeal.Read.val_main_v19 (F := Ideal) := by
  rw [Cert.WholeRefIdeal.Read.val_main_v81, main_c_5]
  rfl

theorem main_v82 : Cert.WholeRefIdeal.Read.val_main_v82 (F := Ideal) = Cert.AttnRefIdeal.Read.val_main_v20 (F := Ideal) := by
  rw [Cert.WholeRefIdeal.Read.val_main_v82, main_v78, main_v81]
  rfl

theorem main_v83 : Cert.WholeRefIdeal.Read.val_main_v83 (F := Ideal) = Cert.AttnRefIdeal.Read.val_main_v21 (F := Ideal) := by
  rw [Cert.WholeRefIdeal.Read.val_main_v83, main_v80, main_v82, main_v78]
  rfl

theorem main_v84 : Cert.WholeRefIdeal.Read.val_main_v84 (F := Ideal) = Cert.AttnRefIdeal.Read.val_main_v22 (F := Ideal) := by
  rw [Cert.WholeRefIdeal.Read.val_main_v84, main_v83]
  rfl

theorem main_c_6 : Cert.WholeRefIdeal.Read.val_main_c_6 (F := Ideal) = Cert.AttnRefIdeal.Read.val_main_c_6 (F := Ideal) := by
  rw [Cert.WholeRefIdeal.Read.val_main_c_6]
  rfl

theorem main_v86 : Cert.WholeRefIdeal.Read.val_main_v86 (F := Ideal) = Cert.AttnRefIdeal.Read.val_main_v24 (F := Ideal) := by
  rw [Cert.WholeRefIdeal.Read.val_main_v86, main_c_6]
  rfl

theorem main_v87 : Cert.WholeRefIdeal.Read.val_main_v87 (F := Ideal) = Cert.AttnRefIdeal.Read.val_main_v25 (F := Ideal) := by
  rw [Cert.WholeRefIdeal.Read.val_main_v87, main_v78, main_v86]
  rfl

theorem main_c_7 : Cert.WholeRefIdeal.Read.val_main_c_7 (F := Ideal) = Cert.AttnRefIdeal.Read.val_main_c_7 (F := Ideal) := by
  rw [Cert.WholeRefIdeal.Read.val_main_c_7]
  rfl

theorem main_v88 : Cert.WholeRefIdeal.Read.val_main_v88 (F := Ideal) = Cert.AttnRefIdeal.Read.val_main_v26 (F := Ideal) := by
  rw [Cert.WholeRefIdeal.Read.val_main_v88, main_c_7]
  rfl

theorem main_v89 : Cert.WholeRefIdeal.Read.val_main_v89 (F := Ideal) = Cert.AttnRefIdeal.Read.val_main_v27 (F := Ideal) := by
  rw [Cert.WholeRefIdeal.Read.val_main_v89, main_v78, main_v88]
  rfl

theorem main_v90 : Cert.WholeRefIdeal.Read.val_main_v90 (F := Ideal) = Cert.AttnRefIdeal.Read.val_main_v28 (F := Ideal) := by
  rw [Cert.WholeRefIdeal.Read.val_main_v90, main_v87, main_v89, main_v78]
  rfl

theorem main_v91 : Cert.WholeRefIdeal.Read.val_main_v91 (F := Ideal) = Cert.AttnRefIdeal.Read.val_main_v29 (F := Ideal) := by
  rw [Cert.WholeRefIdeal.Read.val_main_v91, main_v90]
  rfl

theorem main_v94 : Cert.WholeRefIdeal.Read.val_main_v94 (F := Ideal) = Cert.AttnRefIdeal.Read.val_main_v32 (F := Ideal) := by
  rw [Cert.WholeRefIdeal.Read.val_main_v94, main_v77]
  rfl

theorem main_cst_8 : Cert.WholeRefIdeal.Read.val_main_cst_8 (F := Ideal) = Cert.AttnRefIdeal.Read.val_main_cst (F := Ideal) := by
  rw [Cert.WholeRefIdeal.Read.val_main_cst_8]
  rfl

theorem main_call2_v0 : Cert.WholeRefIdeal.Read.val_main_call2_v0 (F := Ideal) = Cert.AttnRefIdeal.Read.val_main_call1_v0 (F := Ideal) := by
  rw [Cert.WholeRefIdeal.Read.val_main_call2_v0, main_cst_8]
  rfl

theorem main_call2_v1 : Cert.WholeRefIdeal.Read.val_main_call2_v1 (F := Ideal) = Cert.AttnRefIdeal.Read.val_main_call1_v1 (F := Ideal) := by
  rw [Cert.WholeRefIdeal.Read.val_main_call2_v1, main_v94]
  rfl

theorem main_call2_v2 : Cert.WholeRefIdeal.Read.val_main_call2_v2 (F := Ideal) = Cert.AttnRefIdeal.Read.val_main_call1_v2 (F := Ideal) := by
  rw [Cert.WholeRefIdeal.Read.val_main_call2_v2, main_call2_v0]
  rfl

theorem main_cst_9 : Cert.WholeRefIdeal.Read.val_main_cst_9 (F := Ideal) = Cert.AttnRefIdeal.Read.val_main_cst_8 (F := Ideal) := by
  rw [Cert.WholeRefIdeal.Read.val_main_cst_9]
  rfl

theorem main_cst_10 : Cert.WholeRefIdeal.Read.val_main_cst_10 (F := Ideal) = Cert.AttnRefIdeal.Read.val_main_cst_9 (F := Ideal) := by
  rw [Cert.WholeRefIdeal.Read.val_main_cst_10]
  rfl

theorem main_v97 : Cert.WholeRefIdeal.Read.val_main_v97 (F := Ideal) = Cert.AttnRefIdeal.Read.val_main_v35 (F := Ideal) := by
  rw [Cert.WholeRefIdeal.Read.val_main_v97, main_cst_10]
  rfl

theorem main_cst_11 : Cert.WholeRefIdeal.Read.val_main_cst_11 (F := Ideal) = Cert.AttnRefIdeal.Read.val_main_cst_10 (F := Ideal) := by
  rw [Cert.WholeRefIdeal.Read.val_main_cst_11]
  rfl

theorem main_cst_12 : Cert.WholeRefIdeal.Read.val_main_cst_12 (F := Ideal) = Cert.AttnRefIdeal.Read.val_main_cst_11 (F := Ideal) := by
  rw [Cert.WholeRefIdeal.Read.val_main_cst_12]
  rfl

theorem main_cst_13 : Cert.WholeRefIdeal.Read.val_main_cst_13 (F := Ideal) = Cert.AttnRefIdeal.Read.val_main_cst_12 (F := Ideal) := by
  rw [Cert.WholeRefIdeal.Read.val_main_cst_13]
  rfl

theorem main_v110 : Cert.WholeRefIdeal.Read.val_main_v110 (F := Ideal) = Cert.AttnRefIdeal.Read.val_main_v48 (F := Ideal) := by
  rw [Cert.WholeRefIdeal.Read.val_main_v110, main_cst_13]
  rfl

theorem main_cst_14 : Cert.WholeRefIdeal.Read.val_main_cst_14 (F := Ideal) = Cert.AttnRefIdeal.Read.val_main_cst_13 (F := Ideal) := by
  rw [Cert.WholeRefIdeal.Read.val_main_cst_14]
  rfl

theorem main_v120 : Cert.WholeRefIdeal.Read.val_main_v120 (F := Ideal) = Cert.AttnRefIdeal.Read.val_main_v58 (F := Ideal) := by
  rw [Cert.WholeRefIdeal.Read.val_main_v120]
  rfl

theorem main_v121 : Cert.WholeRefIdeal.Read.val_main_v121 (F := Ideal) = Cert.AttnRefIdeal.Read.val_main_v59 (F := Ideal) := by
  rw [Cert.WholeRefIdeal.Read.val_main_v121, main_v120]
  rfl

theorem main_c_15 : Cert.WholeRefIdeal.Read.val_main_c_15 (F := Ideal) = Cert.AttnRefIdeal.Read.val_main_c_14 (F := Ideal) := by
  rw [Cert.WholeRefIdeal.Read.val_main_c_15]
  rfl

theorem main_v122 : Cert.WholeRefIdeal.Read.val_main_v122 (F := Ideal) = Cert.AttnRefIdeal.Read.val_main_v60 (F := Ideal) := by
  rw [Cert.WholeRefIdeal.Read.val_main_v122, main_c_15]
  rfl

theorem main_v123 : Cert.WholeRefIdeal.Read.val_main_v123 (F := Ideal) = Cert.AttnRefIdeal.Read.val_main_v61 (F := Ideal) := by
  rw [Cert.WholeRefIdeal.Read.val_main_v123, main_v121, main_v122]
  rfl

theorem main_c_16 : Cert.WholeRefIdeal.Read.val_main_c_16 (F := Ideal) = Cert.AttnRefIdeal.Read.val_main_c_15 (F := Ideal) := by
  rw [Cert.WholeRefIdeal.Read.val_main_c_16]
  rfl

theorem main_v124 : Cert.WholeRefIdeal.Read.val_main_v124 (F := Ideal) = Cert.AttnRefIdeal.Read.val_main_v62 (F := Ideal) := by
  rw [Cert.WholeRefIdeal.Read.val_main_v124, main_c_16]
  rfl

theorem main_v125 : Cert.WholeRefIdeal.Read.val_main_v125 (F := Ideal) = Cert.AttnRefIdeal.Read.val_main_v63 (F := Ideal) := by
  rw [Cert.WholeRefIdeal.Read.val_main_v125, main_v121, main_v124]
  rfl

theorem main_v126 : Cert.WholeRefIdeal.Read.val_main_v126 (F := Ideal) = Cert.AttnRefIdeal.Read.val_main_v64 (F := Ideal) := by
  rw [Cert.WholeRefIdeal.Read.val_main_v126, main_v123, main_v125, main_v121]
  rfl

theorem main_c_17 : Cert.WholeRefIdeal.Read.val_main_c_17 (F := Ideal) = Cert.AttnRefIdeal.Read.val_main_c_16 (F := Ideal) := by
  rw [Cert.WholeRefIdeal.Read.val_main_c_17]
  rfl

theorem main_v127 : Cert.WholeRefIdeal.Read.val_main_v127 (F := Ideal) = Cert.AttnRefIdeal.Read.val_main_v65 (F := Ideal) := by
  rw [Cert.WholeRefIdeal.Read.val_main_v127, main_c_17]
  rfl

theorem main_c_18 : Cert.WholeRefIdeal.Read.val_main_c_18 (F := Ideal) = Cert.AttnRefIdeal.Read.val_main_c_17 (F := Ideal) := by
  rw [Cert.WholeRefIdeal.Read.val_main_c_18]
  rfl

theorem main_v129 : Cert.WholeRefIdeal.Read.val_main_v129 (F := Ideal) = Cert.AttnRefIdeal.Read.val_main_v67 (F := Ideal) := by
  rw [Cert.WholeRefIdeal.Read.val_main_v129, main_c_18]
  rfl

theorem main_v132 : Cert.WholeRefIdeal.Read.val_main_v132 (F := Ideal) = Cert.AttnRefIdeal.Read.val_main_v70 (F := Ideal) := by
  rw [Cert.WholeRefIdeal.Read.val_main_v132, main_v126]
  rfl

theorem main_v133 : Cert.WholeRefIdeal.Read.val_main_v133 (F := Ideal) = Cert.AttnRefIdeal.Read.val_main_v71 (F := Ideal) := by
  rw [Cert.WholeRefIdeal.Read.val_main_v133, main_v132]
  rfl

theorem main_cst_19 : Cert.WholeRefIdeal.Read.val_main_cst_19 (F := Ideal) = Cert.AttnRefIdeal.Read.val_main_cst_18 (F := Ideal) := by
  rw [Cert.WholeRefIdeal.Read.val_main_cst_19]
  rfl

theorem main_v143 : Cert.WholeRefIdeal.Read.val_main_v143 (F := Ideal) = Cert.AttnRefIdeal.Read.val_main_v81 (F := Ideal) := by
  rw [Cert.WholeRefIdeal.Read.val_main_v143, main_cst_19]
  rfl

/-! ## The second reference: the operations on the projections -/

section Attention

variable {q kp vp : Vec Ideal S16x2048x32 .f32} {kl vl : Vec Ideal S16x2560x32 .f32}
  (hq : Cert.WholeRefIdeal.Read.val_main_v43 x0 x1 x2 x3 x4 = q) (hkp : Cert.WholeRefIdeal.Read.val_main_v48 x0 x1 x2 x9 x10 = kp) (hvp : Cert.WholeRefIdeal.Read.val_main_v53 x0 x1 x2 x11 x12 = vp)
  (hk : Cert.WholeRefIdeal.Read.val_main_v58 x0 x1 x2 x5 x6 = Cert.AttnRefIdeal.Read.val_main_v0 kl) (hv : Cert.WholeRefIdeal.Read.val_main_v63 x0 x1 x2 x7 x8 = Cert.AttnRefIdeal.Read.val_main_v1 vl)
include hq hkp hvp hk hv

theorem main_v85 : Cert.WholeRefIdeal.Read.val_main_v85 x0 x1 x2 x5 x6 = Cert.AttnRefIdeal.Read.val_main_v23 kl := by
  rw [Cert.WholeRefIdeal.Read.val_main_v85, hk, main_v84]
  rfl

theorem main_v92 : Cert.WholeRefIdeal.Read.val_main_v92 x0 x1 x2 x7 x8 = Cert.AttnRefIdeal.Read.val_main_v30 vl := by
  rw [Cert.WholeRefIdeal.Read.val_main_v92, hv, main_v91]
  rfl

theorem main_v93 : Cert.WholeRefIdeal.Read.val_main_v93 x0 x1 x2 x3 x4 x5 x6 = Cert.AttnRefIdeal.Read.val_main_v31 q kl := by
  rw [Cert.WholeRefIdeal.Read.val_main_v93, hq, main_v85 hq hkp hvp hk hv]
  rfl

theorem main_v95 : Cert.WholeRefIdeal.Read.val_main_v95 x0 x1 x2 x3 x4 x5 x6 = Cert.AttnRefIdeal.Read.val_main_v33 q kl := by
  rw [Cert.WholeRefIdeal.Read.val_main_v95, main_call2_v1, main_v93 hq hkp hvp hk hv, main_call2_v2]
  rfl

theorem main_v96 : Cert.WholeRefIdeal.Read.val_main_v96 x0 x1 x2 x3 x4 x5 x6 = Cert.AttnRefIdeal.Read.val_main_v34 q kl := by
  rw [Cert.WholeRefIdeal.Read.val_main_v96, main_v95 hq hkp hvp hk hv, main_cst_9]
  rfl

theorem main_v98 : Cert.WholeRefIdeal.Read.val_main_v98 x0 x1 x2 x3 x4 x5 x6 = Cert.AttnRefIdeal.Read.val_main_v36 q kl := by
  rw [Cert.WholeRefIdeal.Read.val_main_v98, main_v97, main_v96 hq hkp hvp hk hv]
  rfl

theorem main_v99 : Cert.WholeRefIdeal.Read.val_main_v99 x0 x1 x2 x3 x4 x5 x6 = Cert.AttnRefIdeal.Read.val_main_v37 q kl := by
  rw [Cert.WholeRefIdeal.Read.val_main_v99, main_v98 hq hkp hvp hk hv]
  rfl

theorem main_v100 : Cert.WholeRefIdeal.Read.val_main_v100 x0 x1 x2 x3 x4 x5 x6 = Cert.AttnRefIdeal.Read.val_main_v38 q kl := by
  rw [Cert.WholeRefIdeal.Read.val_main_v100, main_v99 hq hkp hvp hk hv]
  rfl

theorem main_v101 : Cert.WholeRefIdeal.Read.val_main_v101 x0 x1 x2 x3 x4 x5 x6 = Cert.AttnRefIdeal.Read.val_main_v39 q kl := by
  rw [Cert.WholeRefIdeal.Read.val_main_v101, main_v95 hq hkp hvp hk hv, main_v100 hq hkp hvp hk hv]
  rfl

theorem main_v102 : Cert.WholeRefIdeal.Read.val_main_v102 x0 x1 x2 x3 x4 x5 x6 = Cert.AttnRefIdeal.Read.val_main_v40 q kl := by
  rw [Cert.WholeRefIdeal.Read.val_main_v102, main_v101 hq hkp hvp hk hv]
  rfl

theorem main_v103 : Cert.WholeRefIdeal.Read.val_main_v103 x0 x1 x2 x3 x4 x5 x6 = Cert.AttnRefIdeal.Read.val_main_v41 q kl := by
  rw [Cert.WholeRefIdeal.Read.val_main_v103, main_v102 hq hkp hvp hk hv, main_cst_11]
  rfl

theorem main_v104 : Cert.WholeRefIdeal.Read.val_main_v104 x0 x1 x2 x3 x4 x5 x6 = Cert.AttnRefIdeal.Read.val_main_v42 q kl := by
  rw [Cert.WholeRefIdeal.Read.val_main_v104, main_v103 hq hkp hvp hk hv]
  rfl

theorem main_v105 : Cert.WholeRefIdeal.Read.val_main_v105 x0 x1 x2 x3 x4 x5 x6 = Cert.AttnRefIdeal.Read.val_main_v43 q kl := by
  rw [Cert.WholeRefIdeal.Read.val_main_v105, main_v104 hq hkp hvp hk hv]
  rfl

theorem main_v106 : Cert.WholeRefIdeal.Read.val_main_v106 x0 x1 x2 x3 x4 x5 x6 = Cert.AttnRefIdeal.Read.val_main_v44 q kl := by
  rw [Cert.WholeRefIdeal.Read.val_main_v106, main_v102 hq hkp hvp hk hv, main_v105 hq hkp hvp hk hv]
  rfl

theorem main_v107 : Cert.WholeRefIdeal.Read.val_main_v107 x0 x1 x2 x3 x4 x5 x6 x7 x8 = Cert.AttnRefIdeal.Read.val_main_v45 q kl vl := by
  rw [Cert.WholeRefIdeal.Read.val_main_v107, main_v106 hq hkp hvp hk hv, main_v92 hq hkp hvp hk hv]
  rfl

theorem main_v108 : Cert.WholeRefIdeal.Read.val_main_v108 x0 x1 x2 x3 x4 x9 x10 = Cert.AttnRefIdeal.Read.val_main_v46 q kp := by
  rw [Cert.WholeRefIdeal.Read.val_main_v108, hq, hkp]
  rfl

theorem main_values : Cert.WholeRefIdeal.Read.val_main_values x0 x1 x2 x3 x4 x9 x10 = Cert.AttnRefIdeal.Read.val_main_values q kp := by
  rw [Cert.WholeRefIdeal.Read.val_main_values, main_v108 hq hkp hvp hk hv]
  rfl

theorem main_indices : Cert.WholeRefIdeal.Read.val_main_indices x0 x1 x2 x3 x4 x9 x10 = Cert.AttnRefIdeal.Read.val_main_indices q kp := by
  rw [Cert.WholeRefIdeal.Read.val_main_indices, main_v108 hq hkp hvp hk hv]
  rfl

theorem main_v109 : Cert.WholeRefIdeal.Read.val_main_v109 x0 x1 x2 x3 x4 x9 x10 = Cert.AttnRefIdeal.Read.val_main_v47 q kp := by
  rw [Cert.WholeRefIdeal.Read.val_main_v109, main_values hq hkp hvp hk hv, main_cst_12]
  rfl

theorem main_v111 : Cert.WholeRefIdeal.Read.val_main_v111 x0 x1 x2 x3 x4 x9 x10 = Cert.AttnRefIdeal.Read.val_main_v49 q kp := by
  rw [Cert.WholeRefIdeal.Read.val_main_v111, main_v110, main_v109 hq hkp hvp hk hv]
  rfl

theorem main_v112 : Cert.WholeRefIdeal.Read.val_main_v112 x0 x1 x2 x3 x4 x9 x10 = Cert.AttnRefIdeal.Read.val_main_v50 q kp := by
  rw [Cert.WholeRefIdeal.Read.val_main_v112, main_v111 hq hkp hvp hk hv]
  rfl

theorem main_v113 : Cert.WholeRefIdeal.Read.val_main_v113 x0 x1 x2 x3 x4 x9 x10 = Cert.AttnRefIdeal.Read.val_main_v51 q kp := by
  rw [Cert.WholeRefIdeal.Read.val_main_v113, main_v112 hq hkp hvp hk hv]
  rfl

theorem main_v114 : Cert.WholeRefIdeal.Read.val_main_v114 x0 x1 x2 x3 x4 x9 x10 = Cert.AttnRefIdeal.Read.val_main_v52 q kp := by
  rw [Cert.WholeRefIdeal.Read.val_main_v114, main_values hq hkp hvp hk hv, main_v113 hq hkp hvp hk hv]
  rfl

theorem main_v115 : Cert.WholeRefIdeal.Read.val_main_v115 x0 x1 x2 x3 x4 x9 x10 = Cert.AttnRefIdeal.Read.val_main_v53 q kp := by
  rw [Cert.WholeRefIdeal.Read.val_main_v115, main_v114 hq hkp hvp hk hv]
  rfl

theorem main_v116 : Cert.WholeRefIdeal.Read.val_main_v116 x0 x1 x2 x3 x4 x9 x10 = Cert.AttnRefIdeal.Read.val_main_v54 q kp := by
  rw [Cert.WholeRefIdeal.Read.val_main_v116, main_v115 hq hkp hvp hk hv, main_cst_14]
  rfl

theorem main_v117 : Cert.WholeRefIdeal.Read.val_main_v117 x0 x1 x2 x3 x4 x9 x10 = Cert.AttnRefIdeal.Read.val_main_v55 q kp := by
  rw [Cert.WholeRefIdeal.Read.val_main_v117, main_v116 hq hkp hvp hk hv]
  rfl

theorem main_v118 : Cert.WholeRefIdeal.Read.val_main_v118 x0 x1 x2 x3 x4 x9 x10 = Cert.AttnRefIdeal.Read.val_main_v56 q kp := by
  rw [Cert.WholeRefIdeal.Read.val_main_v118, main_v117 hq hkp hvp hk hv]
  rfl

theorem main_v119 : Cert.WholeRefIdeal.Read.val_main_v119 x0 x1 x2 x3 x4 x9 x10 = Cert.AttnRefIdeal.Read.val_main_v57 q kp := by
  rw [Cert.WholeRefIdeal.Read.val_main_v119, main_v115 hq hkp hvp hk hv, main_v118 hq hkp hvp hk hv]
  rfl

theorem main_v128 : Cert.WholeRefIdeal.Read.val_main_v128 x0 x1 x2 x3 x4 x9 x10 = Cert.AttnRefIdeal.Read.val_main_v66 q kp := by
  rw [Cert.WholeRefIdeal.Read.val_main_v128, main_indices hq hkp hvp hk hv, main_v127]
  rfl

theorem main_v130 : Cert.WholeRefIdeal.Read.val_main_v130 x0 x1 x2 x3 x4 x9 x10 = Cert.AttnRefIdeal.Read.val_main_v68 q kp := by
  rw [Cert.WholeRefIdeal.Read.val_main_v130, main_indices hq hkp hvp hk hv, main_v129]
  rfl

theorem main_v131 : Cert.WholeRefIdeal.Read.val_main_v131 x0 x1 x2 x3 x4 x9 x10 = Cert.AttnRefIdeal.Read.val_main_v69 q kp := by
  rw [Cert.WholeRefIdeal.Read.val_main_v131, main_v128 hq hkp hvp hk hv, main_v130 hq hkp hvp hk hv, main_indices hq hkp hvp hk hv]
  rfl

theorem main_v134 : Cert.WholeRefIdeal.Read.val_main_v134 x0 x1 x2 x3 x4 x9 x10 = Cert.AttnRefIdeal.Read.val_main_v72 q kp := by
  rw [Cert.WholeRefIdeal.Read.val_main_v134, main_v131 hq hkp hvp hk hv]
  rfl

theorem main_v135 : Cert.WholeRefIdeal.Read.val_main_v135 x0 x1 x2 x3 x4 x9 x10 = Cert.AttnRefIdeal.Read.val_main_v73 q kp := by
  rw [Cert.WholeRefIdeal.Read.val_main_v135, main_v133, main_v134 hq hkp hvp hk hv]
  rfl

theorem main_v136 : Cert.WholeRefIdeal.Read.val_main_v136 x0 x1 x2 x3 x4 x9 x10 x11 x12 = Cert.AttnRefIdeal.Read.val_main_v74 q kp vp := by
  rw [Cert.WholeRefIdeal.Read.val_main_v136, hvp, main_v135 hq hkp hvp hk hv]
  rfl

theorem main_v137 : Cert.WholeRefIdeal.Read.val_main_v137 x0 x1 x2 x3 x4 x9 x10 x11 x12 = Cert.AttnRefIdeal.Read.val_main_v75 q kp vp := by
  rw [Cert.WholeRefIdeal.Read.val_main_v137, main_v119 hq hkp hvp hk hv, main_v136 hq hkp hvp hk hv]
  rfl

theorem main_v138 : Cert.WholeRefIdeal.Read.val_main_v138 x0 x1 x2 x3 x4 x9 x10 x11 x12 x13 = Cert.AttnRefIdeal.Read.val_main_v76 q kp vp x13 := by
  rw [Cert.WholeRefIdeal.Read.val_main_v138, main_v137 hq hkp hvp hk hv]
  rfl

theorem main_v139 : Cert.WholeRefIdeal.Read.val_main_v139 x14 = Cert.AttnRefIdeal.Read.val_main_v77 x14 := by
  rw [Cert.WholeRefIdeal.Read.val_main_v139]
  rfl

theorem main_v140 : Cert.WholeRefIdeal.Read.val_main_v140 x14 = Cert.AttnRefIdeal.Read.val_main_v78 x14 := by
  rw [Cert.WholeRefIdeal.Read.val_main_v140, main_v139 hq hkp hvp hk hv]
  rfl

theorem main_v141 : Cert.WholeRefIdeal.Read.val_main_v141 x0 x1 x2 x3 x4 x9 x10 x11 x12 x13 x14 = Cert.AttnRefIdeal.Read.val_main_v79 q kp vp x13 x14 := by
  rw [Cert.WholeRefIdeal.Read.val_main_v141, main_v138 hq hkp hvp hk hv, main_v140 hq hkp hvp hk hv]
  rfl

theorem main_v142 : Cert.WholeRefIdeal.Read.val_main_v142 x0 x1 x2 x3 x4 x5 x6 x7 x8 x9 x10 x11 x12 x13 x14 = Cert.AttnRefIdeal.Read.val_main_v80 q kp vp kl vl x13 x14 := by
  rw [Cert.WholeRefIdeal.Read.val_main_v142, main_v107 hq hkp hvp hk hv, main_v141 hq hkp hvp hk hv]
  rfl

theorem main_v144 : Cert.WholeRefIdeal.Read.val_main_v144 x0 x1 x2 x3 x4 x5 x6 x7 x8 x9 x10 x11 x12 x13 x14 = Cert.AttnRefIdeal.Read.val_main_v82 q kp vp kl vl x13 x14 := by
  rw [Cert.WholeRefIdeal.Read.val_main_v144, main_v142 hq hkp hvp hk hv, main_v143]
  rfl

end Attention

/-! ## The third reference: the operations without arguments -/

theorem main_cst_20 : Cert.WholeRefIdeal.Read.val_main_cst_20 (F := Ideal) = Cert.NormRefIdeal.Read.val_main_cst (F := Ideal) := by
  rw [Cert.WholeRefIdeal.Read.val_main_cst_20]
  rfl

theorem main_cst_21 : Cert.WholeRefIdeal.Read.val_main_cst_21 (F := Ideal) = Cert.NormRefIdeal.Read.val_main_cst_0 (F := Ideal) := by
  rw [Cert.WholeRefIdeal.Read.val_main_cst_21]
  rfl

theorem main_v153 : Cert.WholeRefIdeal.Read.val_main_v153 (F := Ideal) = Cert.NormRefIdeal.Read.val_main_v8 (F := Ideal) := by
  rw [Cert.WholeRefIdeal.Read.val_main_v153, main_cst_21]
  rfl

theorem main_c_22 : Cert.WholeRefIdeal.Read.val_main_c_22 (F := Ideal) = Cert.NormRefIdeal.Read.val_main_c (F := Ideal) := by
  rw [Cert.WholeRefIdeal.Read.val_main_c_22]
  rfl

theorem main_call3_cst : Cert.WholeRefIdeal.Read.val_main_call3_cst (F := Ideal) = Cert.NormRefIdeal.Read.val_main_call0_cst (F := Ideal) := by
  rw [Cert.WholeRefIdeal.Read.val_main_call3_cst]
  rfl

theorem main_call3_cst_0 : Cert.WholeRefIdeal.Read.val_main_call3_cst_0 (F := Ideal) = Cert.NormRefIdeal.Read.val_main_call0_cst_0 (F := Ideal) := by
  rw [Cert.WholeRefIdeal.Read.val_main_call3_cst_0]
  rfl

theorem main_call3_v2 : Cert.WholeRefIdeal.Read.val_main_call3_v2 (F := Ideal) = Cert.NormRefIdeal.Read.val_main_call0_v2 (F := Ideal) := by
  rw [Cert.WholeRefIdeal.Read.val_main_call3_v2, main_call3_cst_0]
  rfl

theorem main_call3_v7 : Cert.WholeRefIdeal.Read.val_main_call3_v7 (F := Ideal) = Cert.NormRefIdeal.Read.val_main_call0_v7 (F := Ideal) := by
  rw [Cert.WholeRefIdeal.Read.val_main_call3_v7, main_c_22]
  rfl

theorem main_call3_cst_1 : Cert.WholeRefIdeal.Read.val_main_call3_cst_1 (F := Ideal) = Cert.NormRefIdeal.Read.val_main_call0_cst_1 (F := Ideal) := by
  rw [Cert.WholeRefIdeal.Read.val_main_call3_cst_1]
  rfl

theorem main_call3_v8 : Cert.WholeRefIdeal.Read.val_main_call3_v8 (F := Ideal) = Cert.NormRefIdeal.Read.val_main_call0_v8 (F := Ideal) := by
  rw [Cert.WholeRefIdeal.Read.val_main_call3_v8, main_call3_cst_1, main_call3_v7]
  rfl

theorem main_call3_cst_2 : Cert.WholeRefIdeal.Read.val_main_call3_cst_2 (F := Ideal) = Cert.NormRefIdeal.Read.val_main_call0_cst_2 (F := Ideal) := by
  rw [Cert.WholeRefIdeal.Read.val_main_call3_cst_2]
  rfl

theorem main_call3_v11 : Cert.WholeRefIdeal.Read.val_main_call3_v11 (F := Ideal) = Cert.NormRefIdeal.Read.val_main_call0_v11 (F := Ideal) := by
  rw [Cert.WholeRefIdeal.Read.val_main_call3_v11, main_call3_v8]
  rfl

theorem main_call3_cst_3 : Cert.WholeRefIdeal.Read.val_main_call3_cst_3 (F := Ideal) = Cert.NormRefIdeal.Read.val_main_call0_cst_3 (F := Ideal) := by
  rw [Cert.WholeRefIdeal.Read.val_main_call3_cst_3]
  rfl

theorem main_call3_v13 : Cert.WholeRefIdeal.Read.val_main_call3_v13 (F := Ideal) = Cert.NormRefIdeal.Read.val_main_call0_v13 (F := Ideal) := by
  rw [Cert.WholeRefIdeal.Read.val_main_call3_v13, main_call3_v8, main_call3_cst_3]
  rfl

theorem main_call3_cst_4 : Cert.WholeRefIdeal.Read.val_main_call3_cst_4 (F := Ideal) = Cert.NormRefIdeal.Read.val_main_call0_cst_4 (F := Ideal) := by
  rw [Cert.WholeRefIdeal.Read.val_main_call3_cst_4]
  rfl

theorem main_call3_call0_v0 : Cert.WholeRefIdeal.Read.val_main_call3_call0_v0 (F := Ideal) = Cert.NormRefIdeal.Read.val_main_call0_call0_v0 (F := Ideal) := by
  rw [Cert.WholeRefIdeal.Read.val_main_call3_call0_v0, main_call3_cst_4]
  rfl

theorem main_call3_call0_v1 : Cert.WholeRefIdeal.Read.val_main_call3_call0_v1 (F := Ideal) = Cert.NormRefIdeal.Read.val_main_call0_call0_v1 (F := Ideal) := by
  rw [Cert.WholeRefIdeal.Read.val_main_call3_call0_v1, main_call3_call0_v0]
  rfl

theorem main_cst_23 : Cert.WholeRefIdeal.Read.val_main_cst_23 (F := Ideal) = Cert.NormRefIdeal.Read.val_main_cst_1 (F := Ideal) := by
  rw [Cert.WholeRefIdeal.Read.val_main_cst_23]
  rfl

theorem main_v158 : Cert.WholeRefIdeal.Read.val_main_v158 (F := Ideal) = Cert.NormRefIdeal.Read.val_main_v13 (F := Ideal) := by
  rw [Cert.WholeRefIdeal.Read.val_main_v158, main_cst_23]
  rfl

/-! ## The third reference: the operations on the attention output and the hidden layer -/

section Norm

variable {o : Vec Ideal S16x2048x32 .f32} {h : Vec Ideal S2048x512 .f32}
  (ho : Cert.WholeRefIdeal.Read.val_main_v144 x0 x1 x2 x3 x4 x5 x6 x7 x8 x9 x10 x11 x12 x13 x14 = o) (hh : Cert.WholeRefIdeal.Read.val_main_v38 x0 x1 x2 = h)
include ho hh

theorem main_v145 : Cert.WholeRefIdeal.Read.val_main_v145 x0 x1 x2 x3 x4 x5 x6 x7 x8 x9 x10 x11 x12 x13 x14 = Cert.NormRefIdeal.Read.val_main_v0 o := by
  rw [Cert.WholeRefIdeal.Read.val_main_v145, ho]
  rfl

theorem main_v146 : Cert.WholeRefIdeal.Read.val_main_v146 x0 x1 x2 x3 x4 x5 x6 x7 x8 x9 x10 x11 x12 x13 x14 = Cert.NormRefIdeal.Read.val_main_v1 o := by
  rw [Cert.WholeRefIdeal.Read.val_main_v146, main_v145 ho hh]
  rfl

theorem main_v147 : Cert.WholeRefIdeal.Read.val_main_v147 x0 x1 x2 x3 x4 x5 x6 x7 x8 x9 x10 x11 x12 x13 x14 x15 = Cert.NormRefIdeal.Read.val_main_v2 o x15 := by
  rw [Cert.WholeRefIdeal.Read.val_main_v147, main_v146 ho hh]
  rfl

theorem main_v148 : Cert.WholeRefIdeal.Read.val_main_v148 x16 = Cert.NormRefIdeal.Read.val_main_v3 x16 := by
  rw [Cert.WholeRefIdeal.Read.val_main_v148]
  rfl

theorem main_v149 : Cert.WholeRefIdeal.Read.val_main_v149 x0 x1 x2 x3 x4 x5 x6 x7 x8 x9 x10 x11 x12 x13 x14 x15 x16 = Cert.NormRefIdeal.Read.val_main_v4 o x15 x16 := by
  rw [Cert.WholeRefIdeal.Read.val_main_v149, main_v147 ho hh, main_v148 ho hh]
  rfl

theorem main_v150 : Cert.WholeRefIdeal.Read.val_main_v150 x0 x1 x2 x3 x4 x5 x6 x7 x8 x9 x10 x11 x12 x13 x14 x15 x16 = Cert.NormRefIdeal.Read.val_main_v5 o h x15 x16 := by
  rw [Cert.WholeRefIdeal.Read.val_main_v150, main_v149 ho hh, hh]
  rfl

theorem main_v151 : Cert.WholeRefIdeal.Read.val_main_v151 x0 x1 x2 x3 x4 x5 x6 x7 x8 x9 x10 x11 x12 x13 x14 x15 x16 = Cert.NormRefIdeal.Read.val_main_v6 o h x15 x16 := by
  rw [Cert.WholeRefIdeal.Read.val_main_v151, main_v150 ho hh, main_cst_20]
  rfl

theorem main_v152 : Cert.WholeRefIdeal.Read.val_main_v152 x0 x1 x2 x3 x4 x5 x6 x7 x8 x9 x10 x11 x12 x13 x14 x15 x16 = Cert.NormRefIdeal.Read.val_main_v7 o h x15 x16 := by
  rw [Cert.WholeRefIdeal.Read.val_main_v152, main_v151 ho hh]
  rfl

theorem main_v154 : Cert.WholeRefIdeal.Read.val_main_v154 x0 x1 x2 x3 x4 x5 x6 x7 x8 x9 x10 x11 x12 x13 x14 x15 x16 = Cert.NormRefIdeal.Read.val_main_v9 o h x15 x16 := by
  rw [Cert.WholeRefIdeal.Read.val_main_v154, main_v152 ho hh, main_v153]
  rfl

theorem main_call3_v0 : Cert.WholeRefIdeal.Read.val_main_call3_v0 x0 x1 x2 x3 x4 x5 x6 x7 x8 x9 x10 x11 x12 x13 x14 x15 x16 = Cert.NormRefIdeal.Read.val_main_call0_v0 o h x15 x16 := by
  rw [Cert.WholeRefIdeal.Read.val_main_call3_v0, main_v150 ho hh, main_call3_cst]
  rfl

theorem main_call3_v1 : Cert.WholeRefIdeal.Read.val_main_call3_v1 x0 x1 x2 x3 x4 x5 x6 x7 x8 x9 x10 x11 x12 x13 x14 x15 x16 = Cert.NormRefIdeal.Read.val_main_call0_v1 o h x15 x16 := by
  rw [Cert.WholeRefIdeal.Read.val_main_call3_v1, main_call3_v0 ho hh]
  rfl

theorem main_call3_v3 : Cert.WholeRefIdeal.Read.val_main_call3_v3 x0 x1 x2 x3 x4 x5 x6 x7 x8 x9 x10 x11 x12 x13 x14 x15 x16 = Cert.NormRefIdeal.Read.val_main_call0_v3 o h x15 x16 := by
  rw [Cert.WholeRefIdeal.Read.val_main_call3_v3, main_call3_v1 ho hh, main_call3_v2]
  rfl

theorem main_call3_v4 : Cert.WholeRefIdeal.Read.val_main_call3_v4 x0 x1 x2 x3 x4 x5 x6 x7 x8 x9 x10 x11 x12 x13 x14 x15 x16 = Cert.NormRefIdeal.Read.val_main_call0_v4 o h x15 x16 := by
  rw [Cert.WholeRefIdeal.Read.val_main_call3_v4, main_call3_v3 ho hh]
  rfl

theorem main_call3_v5 : Cert.WholeRefIdeal.Read.val_main_call3_v5 x0 x1 x2 x3 x4 x5 x6 x7 x8 x9 x10 x11 x12 x13 x14 x15 x16 = Cert.NormRefIdeal.Read.val_main_call0_v5 o h x15 x16 := by
  rw [Cert.WholeRefIdeal.Read.val_main_call3_v5, main_v150 ho hh, main_call3_v4 ho hh]
  rfl

theorem main_call3_v6 : Cert.WholeRefIdeal.Read.val_main_call3_v6 x0 x1 x2 x3 x4 x5 x6 x7 x8 x9 x10 x11 x12 x13 x14 x15 x16 = Cert.NormRefIdeal.Read.val_main_call0_v6 o h x15 x16 := by
  rw [Cert.WholeRefIdeal.Read.val_main_call3_v6, main_call3_v5 ho hh]
  rfl

theorem main_call3_v9 : Cert.WholeRefIdeal.Read.val_main_call3_v9 x0 x1 x2 x3 x4 x5 x6 x7 x8 x9 x10 x11 x12 x13 x14 x15 x16 = Cert.NormRefIdeal.Read.val_main_call0_v9 o h x15 x16 := by
  rw [Cert.WholeRefIdeal.Read.val_main_call3_v9, main_call3_v6 ho hh, main_call3_cst_2]
  rfl

theorem main_call3_v10 : Cert.WholeRefIdeal.Read.val_main_call3_v10 x0 x1 x2 x3 x4 x5 x6 x7 x8 x9 x10 x11 x12 x13 x14 x15 x16 = Cert.NormRefIdeal.Read.val_main_call0_v10 o h x15 x16 := by
  rw [Cert.WholeRefIdeal.Read.val_main_call3_v10, main_call3_v9 ho hh]
  rfl

theorem main_call3_v12 : Cert.WholeRefIdeal.Read.val_main_call3_v12 x0 x1 x2 x3 x4 x5 x6 x7 x8 x9 x10 x11 x12 x13 x14 x15 x16 = Cert.NormRefIdeal.Read.val_main_call0_v12 o h x15 x16 := by
  rw [Cert.WholeRefIdeal.Read.val_main_call3_v12, main_call3_v10 ho hh, main_call3_v11]
  rfl

theorem main_v155 : Cert.WholeRefIdeal.Read.val_main_v155 x0 x1 x2 x3 x4 x5 x6 x7 x8 x9 x10 x11 x12 x13 x14 x15 x16 = Cert.NormRefIdeal.Read.val_main_v10 o h x15 x16 := by
  rw [Cert.WholeRefIdeal.Read.val_main_v155, main_call3_v13, main_call3_v12 ho hh, main_call3_call0_v1]
  rfl

theorem main_v156 : Cert.WholeRefIdeal.Read.val_main_v156 x0 x1 x2 x3 x4 x5 x6 x7 x8 x9 x10 x11 x12 x13 x14 x15 x16 = Cert.NormRefIdeal.Read.val_main_v11 o h x15 x16 := by
  rw [Cert.WholeRefIdeal.Read.val_main_v156, main_v154 ho hh]
  rfl

theorem main_v157 : Cert.WholeRefIdeal.Read.val_main_v157 x0 x1 x2 x3 x4 x5 x6 x7 x8 x9 x10 x11 x12 x13 x14 x15 x16 = Cert.NormRefIdeal.Read.val_main_v12 o h x15 x16 := by
  rw [Cert.WholeRefIdeal.Read.val_main_v157, main_v150 ho hh, main_v156 ho hh]
  rfl

theorem main_v159 : Cert.WholeRefIdeal.Read.val_main_v159 x0 x1 x2 x3 x4 x5 x6 x7 x8 x9 x10 x11 x12 x13 x14 x15 x16 = Cert.NormRefIdeal.Read.val_main_v14 o h x15 x16 := by
  rw [Cert.WholeRefIdeal.Read.val_main_v159, main_v155 ho hh, main_v158]
  rfl

theorem main_v160 : Cert.WholeRefIdeal.Read.val_main_v160 x0 x1 x2 x3 x4 x5 x6 x7 x8 x9 x10 x11 x12 x13 x14 x15 x16 = Cert.NormRefIdeal.Read.val_main_v15 o h x15 x16 := by
  rw [Cert.WholeRefIdeal.Read.val_main_v160, main_v159 ho hh]
  rfl

theorem main_v161 : Cert.WholeRefIdeal.Read.val_main_v161 x0 x1 x2 x3 x4 x5 x6 x7 x8 x9 x10 x11 x12 x13 x14 x15 x16 = Cert.NormRefIdeal.Read.val_main_v16 o h x15 x16 := by
  rw [Cert.WholeRefIdeal.Read.val_main_v161, main_v160 ho hh]
  rfl

theorem main_v162 : Cert.WholeRefIdeal.Read.val_main_v162 x0 x1 x2 x3 x4 x5 x6 x7 x8 x9 x10 x11 x12 x13 x14 x15 x16 = Cert.NormRefIdeal.Read.val_main_v17 o h x15 x16 := by
  rw [Cert.WholeRefIdeal.Read.val_main_v162, main_v157 ho hh, main_v161 ho hh]
  rfl

theorem main_v163 : Cert.WholeRefIdeal.Read.val_main_v163 x17 = Cert.NormRefIdeal.Read.val_main_v18 x17 := by
  rw [Cert.WholeRefIdeal.Read.val_main_v163]
  rfl

theorem main_v164 : Cert.WholeRefIdeal.Read.val_main_v164 x0 x1 x2 x3 x4 x5 x6 x7 x8 x9 x10 x11 x12 x13 x14 x15 x16 x17 = Cert.NormRefIdeal.Read.val_main_v19 o h x15 x16 x17 := by
  rw [Cert.WholeRefIdeal.Read.val_main_v164, main_v162 ho hh, main_v163 ho hh]
  rfl

theorem main_v165 : Cert.WholeRefIdeal.Read.val_main_v165 x18 = Cert.NormRefIdeal.Read.val_main_v20 x18 := by
  rw [Cert.WholeRefIdeal.Read.val_main_v165]
  rfl

theorem main_v166 : Cert.WholeRefIdeal.Read.val_main_v166 x0 x1 x2 x3 x4 x5 x6 x7 x8 x9 x10 x11 x12 x13 x14 x15 x16 x17 x18 = Cert.NormRefIdeal.Read.val_main_v21 o h x15 x16 x17 x18 := by
  rw [Cert.WholeRefIdeal.Read.val_main_v166, main_v164 ho hh, main_v165 ho hh]
  rfl

end Norm

end Cert.WholeReference

end
-- ==== Proof.WholeCondition.lean ====
module

public import proofs.«01_k».proof.Proof.Gen.Pre_finite_without_top_ties
public import proofs.«01_k».proof.Proof.Gen.Pre_whole_finite_without_top_ties
public import proofs.«01_k».proof.Proof.Gen.FrontRefIdeal.Read
public import proofs.«01_k».proof.Proof.Gen.AttnRefIdeal.Read

/-! The precondition of the whole program is that of the attention call, on the arrays that the first reference gives. -/

@[expose] public section

set_option maxRecDepth 16384

noncomputable section

namespace Cert.WholeCondition

open Idealize.ShloMosaic
open Cert.FrontRefIdeal (S2056x512 S7x512x512 S1x512 S512x512 S2048x512)
open Cert.AttnRefIdeal (S16x2048x32 S16x2560x32 S32x32 S1x32)
open Cert.FrontRefIdeal.Read (val_main_v43 val_main_v48 val_main_v53 val_main_v58)

variable (x0 : Vec Ideal S2056x512 .f32) (x1 : Vec Ideal S7x512x512 .f32) (x2 : Vec Ideal S1x512 .f32) (x3 : Vec Ideal S512x512 .f32)
  (x4 : Vec Ideal S1x512 .f32) (x5 : Vec Ideal S512x512 .f32) (x6 : Vec Ideal S1x512 .f32) (x7 : Vec Ideal S512x512 .f32) (x8 : Vec Ideal S1x512 .f32)
  (x9 : Vec Ideal S512x512 .f32) (x10 : Vec Ideal S1x512 .f32) (x11 : Vec Ideal S512x512 .f32) (x12 : Vec Ideal S1x512 .f32)
  (x13 : Vec Ideal S32x32 .f32) (x14 : Vec Ideal S1x32 .f32) (x15 : Vec Ideal S512x512 .f32) (x16 x17 x18 : Vec Ideal S1x512 .f32)

theorem condition (vp : Vec Ideal S16x2048x32 .f32) (kl vl : Vec Ideal S16x2560x32 .f32)
    (hk : Cert.AttnRefIdeal.Read.val_main_v0 kl = val_main_v58 x0 x1 x2 x5 x6) :
    Cert.Pre_finite_without_top_ties.fn (F := Ideal) (val_main_v43 x0 x1 x2 x3 x4) (val_main_v48 x0 x1 x2 x9 x10) vp kl vl x13 x14
      = Cert.Pre_whole_finite_without_top_ties.fn (F := Ideal) x0 x1 x2 x3 x4 x5 x6 x7 x8 x9 x10 x11 x12 x13 x14 x15 x16 x17 x18 := by
  unfold Cert.AttnRefIdeal.Read.val_main_v0 at hk
  unfold Cert.Pre_finite_without_top_ties.fn
  simp only []
  erw [hk]
  rfl

end Cert.WholeCondition

end
-- ==== Proof.WholeEqual.lean ====
module

public import proofs.«01_k».proof.Proof.WholeReference
public import proofs.«01_k».proof.Proof.WholeCondition
public import proofs.«01_k».proof.Proof.Equal
public import proofs.«01_k».proof.Proof.FrontReference
public import proofs.«01_k».proof.Proof.FrontRun
public import proofs.«01_k».proof.Proof.NormReference

/-! The whole program's array is the whole reference's. -/

@[expose] public section

set_option maxRecDepth 16384

noncomputable section

namespace Cert.WholeEqual

open Idealize.ShloMosaic
open Cert.FrontRefIdeal (S2056x512 S7x512x512 S1x512 S512x512 S2048x512)
open Cert.AttnRefIdeal (S16x2048x32 S16x2560x32 S32x32 S1x32)
open Cert.FrontIdeal.Gen (layer projected padded)
open Cert.AttnIdeal.Gen (attn)
open Cert.NormIdeal.Gen (normed)

variable (x0 : Vec Ideal S2056x512 .f32) (x1 : Vec Ideal S7x512x512 .f32) (x2 : Vec Ideal S1x512 .f32) (x3 : Vec Ideal S512x512 .f32)
  (x4 : Vec Ideal S1x512 .f32) (x5 : Vec Ideal S512x512 .f32) (x6 : Vec Ideal S1x512 .f32) (x7 : Vec Ideal S512x512 .f32) (x8 : Vec Ideal S1x512 .f32)
  (x9 : Vec Ideal S512x512 .f32) (x10 : Vec Ideal S1x512 .f32) (x11 : Vec Ideal S512x512 .f32) (x12 : Vec Ideal S1x512 .f32)
  (x13 : Vec Ideal S32x32 .f32) (x14 : Vec Ideal S1x32 .f32) (x15 : Vec Ideal S512x512 .f32) (x16 x17 x18 : Vec Ideal S1x512 .f32)
  (u v : Vec Ideal S16x2560x32 .f32)

theorem slice0 (p : Vec Ideal S16x2048x32 .f32) : Cert.AttnRefIdeal.Read.val_main_v0 (padded p u) = p :=
  Cert.FrontIdeal.Gen.inner_padded p u

theorem slice1 (p : Vec Ideal S16x2048x32 .f32) : Cert.AttnRefIdeal.Read.val_main_v1 (padded p u) = p :=
  Cert.FrontIdeal.Gen.inner_padded p u

theorem equal
    (hp : Cert.Pre_whole_finite_without_top_ties.fn (F := Ideal) x0 x1 x2 x3 x4 x5 x6 x7 x8 x9 x10 x11 x12 x13 x14 x15 x16 x17 x18 = fun _ => 1#1) :
    normed (attn (projected (layer x0 x1 x2) x3 x4) (projected (layer x0 x1 x2) x9 x10) (projected (layer x0 x1 x2) x11 x12)
        (padded (projected (layer x0 x1 x2) x5 x6) u) (padded (projected (layer x0 x1 x2) x7 x8) v) x13 x14) (layer x0 x1 x2) x15 x16 x17 x18
      = Cert.WholeRefIdeal.Read.val_main_v166 x0 x1 x2 x3 x4 x5 x6 x7 x8 x9 x10 x11 x12 x13 x14 x15 x16 x17 x18 := by
  have hk : Cert.AttnRefIdeal.Read.val_main_v0 (padded (projected (layer x0 x1 x2) x5 x6) u) = Cert.FrontRefIdeal.Read.val_main_v58 x0 x1 x2 x5 x6 :=
    (slice0 u _).trans (Cert.FrontReference.projected3 x0 x1 x2 x5 x6).symm
  have hv : Cert.AttnRefIdeal.Read.val_main_v1 (padded (projected (layer x0 x1 x2) x7 x8) v) = Cert.FrontRefIdeal.Read.val_main_v63 x0 x1 x2 x7 x8 :=
    (slice1 v _).trans (Cert.FrontReference.projected4 x0 x1 x2 x7 x8).symm
  have hc := (Cert.WholeCondition.condition x0 x1 x2 x3 x4 x5 x6 x7 x8 x9 x10 x11 x12 x13 x14 x15 x16 x17 x18 (Cert.FrontRefIdeal.Read.val_main_v53 x0 x1 x2 x11 x12)
    (padded (projected (layer x0 x1 x2) x5 x6) u) (padded (projected (layer x0 x1 x2) x7 x8) v) hk).trans hp
  have ha := Cert.Equal.equal _ _ _ _ _ _ _ hc
  have ho := Cert.WholeReference.main_v144 (x13 := x13) (x14 := x14) (Cert.WholeReference.main_v43 (x0 := x0) (x1 := x1) (x2 := x2) (x3 := x3) (x4 := x4))
    (Cert.WholeReference.main_v48 (x9 := x9) (x10 := x10)) (Cert.WholeReference.main_v53 (x11 := x11) (x12 := x12))
    (Cert.WholeReference.main_v58.trans hk.symm) (Cert.WholeReference.main_v63.trans hv.symm)
  refine Eq.trans ?_ (Cert.WholeReference.main_v166 (x15 := x15) (x16 := x16) (x17 := x17) (x18 := x18) (ho.trans ha.symm)
    (Cert.WholeReference.main_v38.trans (Cert.FrontReference.layer_eq x0 x1 x2))).symm
  rw [Cert.NormReference.equal, Cert.FrontReference.projected0, Cert.FrontReference.projected1, Cert.FrontReference.projected2]

end Cert.WholeEqual

end
-- ==== Proof.lean ====
module

public import proofs.«01_k».proof.Defs
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_finite_without_top_ties
public import proofs.«01_k».proof.Proof.Gen.Front
public import proofs.«01_k».proof.Proof.Gen.Front.Frame
public import proofs.«01_k».proof.Proof.Gen.FrontIdeal
public import proofs.«01_k».proof.Proof.Gen.FrontIdeal.Frame
public import proofs.«01_k».proof.Proof.Gen.FrontRefIdeal
public import proofs.«01_k».proof.Proof.Gen.FrontRefIdeal.Run
public import proofs.«01_k».proof.Proof.Gen.FrontRefIdeal.Read
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.Whole
public import proofs.«01_k».proof.Proof.Gen.Whole.Frame
public import proofs.«01_k».proof.Proof.Gen.WholeIdeal
public import proofs.«01_k».proof.Proof.Gen.WholeIdeal.Frame
public import proofs.«01_k».proof.Proof.Gen.WholeRefIdeal
public import proofs.«01_k».proof.Proof.Gen.WholeRefIdeal.Run
public import proofs.«01_k».proof.Proof.Gen.WholeRefIdeal.Read
public import proofs.«01_k».proof.Proof.Gen.Pre_whole_finite_without_top_ties
public import proofs.«01_k».proof.Proof.Equal
public import proofs.«01_k».proof.Proof.FrontReference
public import proofs.«01_k».proof.Proof.FrontRun
public import proofs.«01_k».proof.Proof.NormReference
public import proofs.«01_k».proof.Proof.WholeRun
public import proofs.«01_k».proof.Proof.WholeValue
public import proofs.«01_k».proof.Proof.WholeEqual
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

theorem reference_frame : Cert.quiescent_AttnRefIdeal := fun m g _ =>
  (θ_run _ _ _).mono (fun r h => ⟨fun c => (h c).2, sem_eq_zero_of_no_sems (by decide) r.2⟩) (Cert.AttnRefIdeal.Value.run m g)

theorem value : Cert.algebraic_AttnIdeal_AttnRefIdeal_pre_finite_without_top_ties := by
  intro m g m' g' hp hm
  refine ⟨fun c => (Cert.AttnIdeal.Gen.dats m 0 c).arrAt 7 Cert.AttnIdeal.cfg0.N, Cert.AttnIdeal.Value.run_blocks m g, ?_⟩
  refine (θ_run _ _ _).mono (fun r h c => ⟨(h c).1.trans ?_, (h c).2⟩) (Cert.AttnRefIdeal.Value.run m' g')
  obtain ⟨h0, h1, h2, h3, h4, h5, h6⟩ := hm c
  rw [Cert.AttnRefIdeal.Read.val_main_v82_eq, h0, h1, h2, h3, h4, h5, h6]
  exact ((Cert.AttnIdeal.Gen.arr_eq m c).trans (Cert.Equal.equal _ _ _ _ _ _ _ (hp c))).symm

theorem front_reference_frame : Cert.quiescent_FrontRefIdeal := fun m g _ =>
  (θ_run _ _ _).mono (fun r h => ⟨fun c => (h c).2.2.2.2.2.2, sem_eq_zero_of_no_sems (by decide) r.2⟩) (Cert.FrontRefIdeal.Value.run m g)

theorem norm_reference_frame : Cert.quiescent_NormRefIdeal := fun m g _ =>
  (θ_run _ _ _).mono (fun r h => ⟨fun c => (h c).2, sem_eq_zero_of_no_sems (by decide) r.2⟩) (Cert.NormRefIdeal.Value.run m g)

theorem front_value : Cert.algebraic_FrontIdeal_FrontRefIdeal := by
  intro m g m' g' _ hm
  refine ⟨fun c => (Cert.FrontIdeal.Gen.dats m 0 c).arrAt 13 Cert.FrontIdeal.cfg0.N, fun c => (Cert.FrontIdeal.Gen.dats m 0 c).arrAt 14 Cert.FrontIdeal.cfg0.N,
    fun c => (Cert.FrontIdeal.Gen.dats m 0 c).arrAt 15 Cert.FrontIdeal.cfg0.N, fun c => (Cert.FrontIdeal.Gen.dats m 0 c).arrAt 16 Cert.FrontIdeal.cfg0.N,
    fun c => Cert.FrontIdeal.Gen.inner ((Cert.FrontIdeal.Gen.dats m 0 c).arrAt 17 Cert.FrontIdeal.cfg0.N),
    fun c => Cert.FrontIdeal.Gen.inner ((Cert.FrontIdeal.Gen.dats m 0 c).arrAt 18 Cert.FrontIdeal.cfg0.N),
    (θ_run _ _ _).mono (fun r h c => ?_) (θ_run_and (Cert.FrontIdeal.Gen.run_values m g) (Cert.FrontIdeal.Gen.unchanged m g)), ?_⟩
  · obtain ⟨a, b, d, e, u, v⟩ := h.1 c
    exact ⟨a, b, d, e, u, v, h.2 c⟩
  refine (θ_run _ _ _).mono (fun r h c => ?_) (Cert.FrontRefIdeal.Value.run m' g')
  obtain ⟨a, b, d, e, u, v, k⟩ := h c
  obtain ⟨h0, h1, h2, h3, h4, h5, h6, h7, h8, h9, h10, h11, h12⟩ := hm c
  refine ⟨a.trans ?_, b.trans ?_, d.trans ?_, e.trans ?_, u.trans ?_, v.trans ?_, k⟩
  · rw [Cert.FrontRefIdeal.Read.val_main_v38_eq, h0, h1, h2]
    exact (Cert.FrontReference.layer_eq _ _ _).trans (Cert.FrontIdeal.Gen.arr13 m c).symm
  · rw [Cert.FrontRefIdeal.Read.val_main_v43_eq, h0, h1, h2, h3, h4]
    exact (Cert.FrontReference.projected0 _ _ _ _ _).trans (Cert.FrontIdeal.Gen.arr14 m c).symm
  · rw [Cert.FrontRefIdeal.Read.val_main_v48_eq, h0, h1, h2, h9, h10]
    exact (Cert.FrontReference.projected1 _ _ _ _ _).trans (Cert.FrontIdeal.Gen.arr15 m c).symm
  · rw [Cert.FrontRefIdeal.Read.val_main_v53_eq, h0, h1, h2, h11, h12]
    exact (Cert.FrontReference.projected2 _ _ _ _ _).trans (Cert.FrontIdeal.Gen.arr16 m c).symm
  · rw [Cert.FrontRefIdeal.Read.val_main_v58_eq, h0, h1, h2, h5, h6]
    exact (Cert.FrontReference.projected3 _ _ _ _ _).trans ((congrArg Cert.FrontIdeal.Gen.inner (Cert.FrontIdeal.Gen.arr17 m c)).trans (Cert.FrontIdeal.Gen.inner_padded _ _)).symm
  · rw [Cert.FrontRefIdeal.Read.val_main_v63_eq, h0, h1, h2, h7, h8]
    exact (Cert.FrontReference.projected4 _ _ _ _ _).trans ((congrArg Cert.FrontIdeal.Gen.inner (Cert.FrontIdeal.Gen.arr18 m c)).trans (Cert.FrontIdeal.Gen.inner_padded _ _)).symm

theorem norm_value : Cert.algebraic_NormIdeal_NormRefIdeal := by
  intro m g m' g' _ hm
  refine ⟨fun c => (Cert.NormIdeal.Gen.dats m 0 c).arrAt 6 Cert.NormIdeal.cfg0.N, Cert.NormIdeal.Value.run_blocks m g, ?_⟩
  refine (θ_run _ _ _).mono (fun r h c => ⟨(h c).1.trans ?_, (h c).2⟩) (Cert.NormRefIdeal.Value.run m' g')
  obtain ⟨h0, h1, h2, h3, h4, h5⟩ := hm c
  rw [Cert.NormRefIdeal.Read.val_main_v21_eq, h0, h1, h2, h3, h4, h5]
  exact (Cert.NormReference.equal _ _ _ _ _ _).trans (Cert.NormIdeal.Gen.arr_eq m c).symm

theorem whole_reference_frame : Cert.quiescent_WholeRefIdeal := fun m g _ =>
  (θ_run _ _ _).mono (fun r h => ⟨fun c => (h c).2, sem_eq_zero_of_no_sems (by decide) r.2⟩) (Cert.WholeRefIdeal.Value.run m g)

theorem whole_value : Cert.algebraic_WholeIdeal_WholeRefIdeal_pre_whole_finite_without_top_ties := by
  intro m g m' g' hp hm
  refine ⟨fun c => (Cert.WholeIdeal.Gen.dat2 (Cert.WholeIdeal.Gen.V2 m g) c).arrAt 6 Cert.WholeIdeal.cfg2.N, Cert.WholeIdeal.Run.run_values m g, ?_⟩
  refine (θ_run _ _ _).mono (fun r h c => ⟨(h c).1.trans ?_, (h c).2⟩) (Cert.WholeRefIdeal.Value.run m' g')
  obtain ⟨h0, h1, h2, h3, h4, h5, h6, h7, h8, h9, h10, h11, h12, h13, h14, h15, h16, h17, h18⟩ := hm c
  rw [Cert.WholeRefIdeal.Read.val_main_v166_eq,
    show StableHlo.launchContents m' c (Proc.devRef .tc Cert.WholeRefIdeal.main_arg0) = _ from h0,
    show StableHlo.launchContents m' c (Proc.devRef .tc Cert.WholeRefIdeal.main_arg1) = _ from h1,
    show StableHlo.launchContents m' c (Proc.devRef .tc Cert.WholeRefIdeal.main_arg2) = _ from h2,
    show StableHlo.launchContents m' c (Proc.devRef .tc Cert.WholeRefIdeal.main_arg3) = _ from h3,
    show StableHlo.launchContents m' c (Proc.devRef .tc Cert.WholeRefIdeal.main_arg4) = _ from h4,
    show StableHlo.launchContents m' c (Proc.devRef .tc Cert.WholeRefIdeal.main_arg5) = _ from h5,
    show StableHlo.launchContents m' c (Proc.devRef .tc Cert.WholeRefIdeal.main_arg6) = _ from h6,
    show StableHlo.launchContents m' c (Proc.devRef .tc Cert.WholeRefIdeal.main_arg7) = _ from h7,
    show StableHlo.launchContents m' c (Proc.devRef .tc Cert.WholeRefIdeal.main_arg8) = _ from h8,
    show StableHlo.launchContents m' c (Proc.devRef .tc Cert.WholeRefIdeal.main_arg9) = _ from h9,
    show StableHlo.launchContents m' c (Proc.devRef .tc Cert.WholeRefIdeal.main_arg10) = _ from h10,
    show StableHlo.launchContents m' c (Proc.devRef .tc Cert.WholeRefIdeal.main_arg11) = _ from h11,
    show StableHlo.launchContents m' c (Proc.devRef .tc Cert.WholeRefIdeal.main_arg12) = _ from h12,
    show StableHlo.launchContents m' c (Proc.devRef .tc Cert.WholeRefIdeal.main_arg13) = _ from h13,
    show StableHlo.launchContents m' c (Proc.devRef .tc Cert.WholeRefIdeal.main_arg14) = _ from h14,
    show StableHlo.launchContents m' c (Proc.devRef .tc Cert.WholeRefIdeal.main_arg15) = _ from h15,
    show StableHlo.launchContents m' c (Proc.devRef .tc Cert.WholeRefIdeal.main_arg16) = _ from h16,
    show StableHlo.launchContents m' c (Proc.devRef .tc Cert.WholeRefIdeal.main_arg17) = _ from h17,
    show StableHlo.launchContents m' c (Proc.devRef .tc Cert.WholeRefIdeal.main_arg18) = _ from h18]
  exact ((Cert.WholeIdeal.Value.result m g c).trans
    (Cert.WholeEqual.equal _ _ _ _ _ _ _ _ _ _ _ _ _ _ _ _ _ _ _ _ _ (hp c))).symm

theorem claim : Cert.Claim :=
  ⟨Cert.Attn.Gen.facts, Cert.AttnIdeal.Gen.facts, Cert.AttnRefIdeal.Gen.facts, Cert.Front.Gen.facts, Cert.FrontIdeal.Gen.facts, Cert.FrontRefIdeal.Gen.facts,
    Cert.Norm.Gen.facts, Cert.NormIdeal.Gen.facts, Cert.NormRefIdeal.Gen.facts, Cert.Whole.Gen.facts, Cert.WholeIdeal.Gen.facts, Cert.WholeRefIdeal.Gen.facts,
    Cert.Pre_finite_without_top_ties.Gen.facts, Cert.Pre_whole_finite_without_top_ties.Gen.facts,
    fun m g _ => Cert.Attn.Gen.frame m g, fun m g _ => Cert.AttnIdeal.Gen.frame m g, fun m g _ => Cert.AttnIdeal.Gen.frame m g,
    reference_frame, fun m g _ => reference_frame m g trivial,
    fun m g _ => Cert.Front.Gen.frame m g, fun m g _ => Cert.FrontIdeal.Gen.frame m g, front_reference_frame,
    fun m g _ => Cert.Norm.Gen.frame m g, fun m g _ => Cert.NormIdeal.Gen.frame m g, norm_reference_frame,
    fun m g _ => Cert.Whole.Gen.frame m g, fun m g _ => Cert.WholeIdeal.Gen.frame m g, fun m g _ => Cert.WholeIdeal.Gen.frame m g,
    whole_reference_frame, fun m g _ => whole_reference_frame m g trivial,
    ⟨IdealRules.named_const.statement Cert.AttnIdeal.κ "neg" .f32 0xFF61B1E6#32 ⊥ rfl,
      IdealRules.named_const.statement Cert.AttnIdeal.κ "mask" .f32 0xF149F2CA#32 ⊥ rfl⟩,
    value, trivial, front_value, trivial, norm_value,
    ⟨IdealRules.named_const.statement Cert.WholeIdeal.κ "neg" .f32 0xFF61B1E6#32 ⊥ rfl,
      IdealRules.named_const.statement Cert.WholeIdeal.κ "mask" .f32 0xF149F2CA#32 ⊥ rfl⟩,
    whole_value⟩

end Cert.Proof

end
